-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Branches (m : (ℓ : Loc Cert.Branches.nD Cert.Branches.τ Cert.Branches.sig) → Buf (Elt Bits) ℓ) : Prop :=
  True

def Pre_BranchesIdeal (m : (ℓ : Loc Cert.BranchesIdeal.nD Cert.BranchesIdeal.τ Cert.BranchesIdeal.sig) → Buf (Elt Ideal) ℓ) : Prop :=
  True

def Pre_BranchesReferenceIdeal (m : (ℓ : Loc Cert.BranchesReferenceIdeal.nD Cert.BranchesReferenceIdeal.τ Cert.BranchesReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Branches [hBranches : Cert.Branches.Facts] : Prop :=
  ∀ (m : (ℓ : Loc Cert.Branches.nD Cert.Branches.τ Cert.Branches.sig) → Buf (Elt Bits) ℓ) (g : Dev Cert.Branches.nD → PrngReg), Pre_Branches m →
    θ_run (Cert.Branches.defs (F := Bits)) (onTc (τ := Cert.Branches.τ) (Cert.Branches.main (F := Bits))) ⟨m, fun _ => 0, g⟩ (fun r => (∀ c : Dev Cert.Branches.nD,
      r.2.mem ((c.tc : Thread Cert.Branches.nD Cert.Branches.τ).loc Cert.Branches.main_arg0) = m ((c.tc : Thread Cert.Branches.nD Cert.Branches.τ).loc Cert.Branches.main_arg0)
      ∧ r.2.mem ((c.tc : Thread Cert.Branches.nD Cert.Branches.τ).loc Cert.Branches.main_arg1) = m ((c.tc : Thread Cert.Branches.nD Cert.Branches.τ).loc Cert.Branches.main_arg1)
      ∧ r.2.mem ((c.tc : Thread Cert.Branches.nD Cert.Branches.τ).loc Cert.Branches.main_arg2) = m ((c.tc : Thread Cert.Branches.nD Cert.Branches.τ).loc Cert.Branches.main_arg2)
      ∧ r.2.mem ((c.tc : Thread Cert.Branches.nD Cert.Branches.τ).loc Cert.Branches.main_arg3) = m ((c.tc : Thread Cert.Branches.nD Cert.Branches.τ).loc Cert.Branches.main_arg3)
      ∧ r.2.mem ((c.tc : Thread Cert.Branches.nD Cert.Branches.τ).loc Cert.Branches.main_arg4) = m ((c.tc : Thread Cert.Branches.nD Cert.Branches.τ).loc Cert.Branches.main_arg4)
      ∧ r.2.mem ((c.tc : Thread Cert.Branches.nD Cert.Branches.τ).loc Cert.Branches.main_arg5) = m ((c.tc : Thread Cert.Branches.nD Cert.Branches.τ).loc Cert.Branches.main_arg5)
      ∧ r.2.mem ((c.tc : Thread Cert.Branches.nD Cert.Branches.τ).loc Cert.Branches.main_arg6) = m ((c.tc : Thread Cert.Branches.nD Cert.Branches.τ).loc Cert.Branches.main_arg6)
      ∧ r.2.mem ((c.tc : Thread Cert.Branches.nD Cert.Branches.τ).loc Cert.Branches.main_arg7) = m ((c.tc : Thread Cert.Branches.nD Cert.Branches.τ).loc Cert.Branches.main_arg7)
      ∧ r.2.mem ((c.tc : Thread Cert.Branches.nD Cert.Branches.τ).loc Cert.Branches.main_arg8) = m ((c.tc : Thread Cert.Branches.nD Cert.Branches.τ).loc Cert.Branches.main_arg8)
      ∧ r.2.mem ((c.tc : Thread Cert.Branches.nD Cert.Branches.τ).loc Cert.Branches.main_arg9) = m ((c.tc : Thread Cert.Branches.nD Cert.Branches.τ).loc Cert.Branches.main_arg9))
      ∧ r.2.sem = fun _ => 0)

def quiescent_BranchesIdeal [hBranchesIdeal : Cert.BranchesIdeal.Facts] : Prop :=
  ∀ (m : (ℓ : Loc Cert.BranchesIdeal.nD Cert.BranchesIdeal.τ Cert.BranchesIdeal.sig) → Buf (Elt Ideal) ℓ) (g : Dev Cert.BranchesIdeal.nD → PrngReg), Pre_BranchesIdeal m →
    θ_run (Cert.BranchesIdeal.defs (F := Ideal)) (onTc (τ := Cert.BranchesIdeal.τ) (Cert.BranchesIdeal.main (F := Ideal))) ⟨m, fun _ => 0, g⟩ (fun r => (∀ c : Dev Cert.BranchesIdeal.nD,
      r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
      ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
      ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
      ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
      ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4)
      ∧ r.2.mem ((c.tc : Thread Cert.BranchesIdeal.nD Cert.BranchesIdeal.τ).loc Cert.BranchesIdeal.main_arg5) = m ((c.tc : Thread Cert.BranchesIdeal.nD Cert.BranchesIdeal.τ).loc Cert.BranchesIdeal.main_arg5)
      ∧ r.2.mem ((c.tc : Thread Cert.BranchesIdeal.nD Cert.BranchesIdeal.τ).loc Cert.BranchesIdeal.main_arg6) = m ((c.tc : Thread Cert.BranchesIdeal.nD Cert.BranchesIdeal.τ).loc Cert.BranchesIdeal.main_arg6)
      ∧ r.2.mem ((c.tc : Thread Cert.BranchesIdeal.nD Cert.BranchesIdeal.τ).loc Cert.BranchesIdeal.main_arg7) = m ((c.tc : Thread Cert.BranchesIdeal.nD Cert.BranchesIdeal.τ).loc Cert.BranchesIdeal.main_arg7)
      ∧ r.2.mem ((c.tc : Thread Cert.BranchesIdeal.nD Cert.BranchesIdeal.τ).loc Cert.BranchesIdeal.main_arg8) = m ((c.tc : Thread Cert.BranchesIdeal.nD Cert.BranchesIdeal.τ).loc Cert.BranchesIdeal.main_arg8)
      ∧ r.2.mem ((c.tc : Thread Cert.BranchesIdeal.nD Cert.BranchesIdeal.τ).loc Cert.BranchesIdeal.main_arg9) = m ((c.tc : Thread Cert.BranchesIdeal.nD Cert.BranchesIdeal.τ).loc Cert.BranchesIdeal.main_arg9))
      ∧ r.2.sem = fun _ => 0)

def quiescent_BranchesReferenceIdeal [hBranchesReferenceIdeal : Cert.BranchesReferenceIdeal.Facts] : Prop :=
  ∀ (m : (ℓ : Loc Cert.BranchesReferenceIdeal.nD Cert.BranchesReferenceIdeal.τ Cert.BranchesReferenceIdeal.sig) → Buf (Elt Ideal) ℓ) (g : Dev Cert.BranchesReferenceIdeal.nD → PrngReg), Pre_BranchesReferenceIdeal m →
    θ_run (Cert.BranchesReferenceIdeal.defs (F := Ideal)) (onTc (τ := Cert.BranchesReferenceIdeal.τ) (Cert.BranchesReferenceIdeal.main (F := Ideal))) ⟨m, fun _ => 0, g⟩ (fun r => (∀ c : Dev Cert.BranchesReferenceIdeal.nD,
      r.2.mem ((c.tc : Thread Cert.BranchesReferenceIdeal.nD Cert.BranchesReferenceIdeal.τ).loc Cert.BranchesReferenceIdeal.main_arg0) = m ((c.tc : Thread Cert.BranchesReferenceIdeal.nD Cert.BranchesReferenceIdeal.τ).loc Cert.BranchesReferenceIdeal.main_arg0)
      ∧ r.2.mem ((c.tc : Thread Cert.BranchesReferenceIdeal.nD Cert.BranchesReferenceIdeal.τ).loc Cert.BranchesReferenceIdeal.main_arg1) = m ((c.tc : Thread Cert.BranchesReferenceIdeal.nD Cert.BranchesReferenceIdeal.τ).loc Cert.BranchesReferenceIdeal.main_arg1)
      ∧ r.2.mem ((c.tc : Thread Cert.BranchesReferenceIdeal.nD Cert.BranchesReferenceIdeal.τ).loc Cert.BranchesReferenceIdeal.main_arg2) = m ((c.tc : Thread Cert.BranchesReferenceIdeal.nD Cert.BranchesReferenceIdeal.τ).loc Cert.BranchesReferenceIdeal.main_arg2)
      ∧ r.2.mem ((c.tc : Thread Cert.BranchesReferenceIdeal.nD Cert.BranchesReferenceIdeal.τ).loc Cert.BranchesReferenceIdeal.main_arg3) = m ((c.tc : Thread Cert.BranchesReferenceIdeal.nD Cert.BranchesReferenceIdeal.τ).loc Cert.BranchesReferenceIdeal.main_arg3)
      ∧ r.2.mem ((c.tc : Thread Cert.BranchesReferenceIdeal.nD Cert.BranchesReferenceIdeal.τ).loc Cert.BranchesReferenceIdeal.main_arg4) = m ((c.tc : Thread Cert.BranchesReferenceIdeal.nD Cert.BranchesReferenceIdeal.τ).loc Cert.BranchesReferenceIdeal.main_arg4)
      ∧ r.2.mem ((c.tc : Thread Cert.BranchesReferenceIdeal.nD Cert.BranchesReferenceIdeal.τ).loc Cert.BranchesReferenceIdeal.main_arg5) = m ((c.tc : Thread Cert.BranchesReferenceIdeal.nD Cert.BranchesReferenceIdeal.τ).loc Cert.BranchesReferenceIdeal.main_arg5)
      ∧ r.2.mem ((c.tc : Thread Cert.BranchesReferenceIdeal.nD Cert.BranchesReferenceIdeal.τ).loc Cert.BranchesReferenceIdeal.main_arg6) = m ((c.tc : Thread Cert.BranchesReferenceIdeal.nD Cert.BranchesReferenceIdeal.τ).loc Cert.BranchesReferenceIdeal.main_arg6)
      ∧ r.2.mem ((c.tc : Thread Cert.BranchesReferenceIdeal.nD Cert.BranchesReferenceIdeal.τ).loc Cert.BranchesReferenceIdeal.main_arg7) = m ((c.tc : Thread Cert.BranchesReferenceIdeal.nD Cert.BranchesReferenceIdeal.τ).loc Cert.BranchesReferenceIdeal.main_arg7)
      ∧ r.2.mem ((c.tc : Thread Cert.BranchesReferenceIdeal.nD Cert.BranchesReferenceIdeal.τ).loc Cert.BranchesReferenceIdeal.main_arg8) = m ((c.tc : Thread Cert.BranchesReferenceIdeal.nD Cert.BranchesReferenceIdeal.τ).loc Cert.BranchesReferenceIdeal.main_arg8)
      ∧ r.2.mem ((c.tc : Thread Cert.BranchesReferenceIdeal.nD Cert.BranchesReferenceIdeal.τ).loc Cert.BranchesReferenceIdeal.main_arg9) = m ((c.tc : Thread Cert.BranchesReferenceIdeal.nD Cert.BranchesReferenceIdeal.τ).loc Cert.BranchesReferenceIdeal.main_arg9))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def preserves_Kernel_KernelIdeal : Prop :=
  IdealRules.named_const.Statement Cert.KernelIdeal.κ "chunk_decay0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "chunk_decay1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "chunk_decay2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "chunk_decay3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v324_0)) (v1 : (c : Dev Cert.KernelIdeal.nD) → Buf (Elt Ideal) ((c.tc : Thread Cert.KernelIdeal.nD Cert.KernelIdeal.τ).loc Cert.KernelIdeal.main_v324_1)) (v2 : (c : Dev Cert.KernelIdeal.nD) → Buf (Elt Ideal) ((c.tc : Thread Cert.KernelIdeal.nD Cert.KernelIdeal.τ).loc Cert.KernelIdeal.main_v324_2)) (v3 : (c : Dev Cert.KernelIdeal.nD) → Buf (Elt Ideal) ((c.tc : Thread Cert.KernelIdeal.nD Cert.KernelIdeal.τ).loc Cert.KernelIdeal.main_v324_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v324_0) = v0 c
          ∧ r.2.mem ((c.tc : Thread Cert.KernelIdeal.nD Cert.KernelIdeal.τ).loc Cert.KernelIdeal.main_v324_1) = v1 c
          ∧ r.2.mem ((c.tc : Thread Cert.KernelIdeal.nD Cert.KernelIdeal.τ).loc Cert.KernelIdeal.main_v324_2) = v2 c
          ∧ r.2.mem ((c.tc : Thread Cert.KernelIdeal.nD Cert.KernelIdeal.τ).loc Cert.KernelIdeal.main_v324_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v554) = v0 c
          ∧ r.2.mem ((c.tc : Thread Cert.ReferenceIdeal.nD Cert.ReferenceIdeal.τ).loc Cert.ReferenceIdeal.main_v553) = v1 c
          ∧ r.2.mem ((c.tc : Thread Cert.ReferenceIdeal.nD Cert.ReferenceIdeal.τ).loc Cert.ReferenceIdeal.main_v555) = v2 c
          ∧ r.2.mem ((c.tc : Thread Cert.ReferenceIdeal.nD Cert.ReferenceIdeal.τ).loc Cert.ReferenceIdeal.main_v556) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)) →
    ∃ (v0 : (c : Dev Cert.MixerIdeal.nD) → Buf (Elt Ideal) ((c.tc : Thread Cert.MixerIdeal.nD Cert.MixerIdeal.τ).loc Cert.MixerIdeal.main_v1)) (v1 : (c : Dev Cert.MixerIdeal.nD) → Buf (Elt Ideal) ((c.tc : Thread Cert.MixerIdeal.nD Cert.MixerIdeal.τ).loc Cert.MixerIdeal.main_v4)) (v2 : (c : Dev Cert.MixerIdeal.nD) → Buf (Elt Ideal) ((c.tc : Thread Cert.MixerIdeal.nD Cert.MixerIdeal.τ).loc Cert.MixerIdeal.main_v5)) (v3 : (c : Dev Cert.MixerIdeal.nD) → Buf (Elt Ideal) ((c.tc : Thread Cert.MixerIdeal.nD Cert.MixerIdeal.τ).loc Cert.MixerIdeal.main_v3)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v1) = v0 c
          ∧ r.2.mem ((c.tc : Thread Cert.MixerIdeal.nD Cert.MixerIdeal.τ).loc Cert.MixerIdeal.main_v4) = v1 c
          ∧ r.2.mem ((c.tc : Thread Cert.MixerIdeal.nD Cert.MixerIdeal.τ).loc Cert.MixerIdeal.main_v5) = v2 c
          ∧ r.2.mem ((c.tc : Thread Cert.MixerIdeal.nD Cert.MixerIdeal.τ).loc Cert.MixerIdeal.main_v3) = v3 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v11) = v0 c
          ∧ r.2.mem ((c.tc : Thread Cert.MixerReferenceIdeal.nD Cert.MixerReferenceIdeal.τ).loc Cert.MixerReferenceIdeal.main_v21) = v1 c
          ∧ r.2.mem ((c.tc : Thread Cert.MixerReferenceIdeal.nD Cert.MixerReferenceIdeal.τ).loc Cert.MixerReferenceIdeal.main_v20) = v2 c
          ∧ r.2.mem ((c.tc : Thread Cert.MixerReferenceIdeal.nD Cert.MixerReferenceIdeal.τ).loc Cert.MixerReferenceIdeal.main_v14) = v3 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v0)) (v1 : (c : Dev Cert.ProjectionIdeal.nD) → Buf (Elt Ideal) ((c.tc : Thread Cert.ProjectionIdeal.nD Cert.ProjectionIdeal.τ).loc Cert.ProjectionIdeal.main_v1)) (v2 : (c : Dev Cert.ProjectionIdeal.nD) → Buf (Elt Ideal) ((c.tc : Thread Cert.ProjectionIdeal.nD Cert.ProjectionIdeal.τ).loc Cert.ProjectionIdeal.main_v2)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v0) = v0 c
          ∧ r.2.mem ((c.tc : Thread Cert.ProjectionIdeal.nD Cert.ProjectionIdeal.τ).loc Cert.ProjectionIdeal.main_v1) = v1 c
          ∧ r.2.mem ((c.tc : Thread Cert.ProjectionIdeal.nD Cert.ProjectionIdeal.τ).loc Cert.ProjectionIdeal.main_v2) = v2 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v2) = v0 c
          ∧ r.2.mem ((c.tc : Thread Cert.ProjectionReferenceIdeal.nD Cert.ProjectionReferenceIdeal.τ).loc Cert.ProjectionReferenceIdeal.main_v6) = v1 c
          ∧ r.2.mem ((c.tc : Thread Cert.ProjectionReferenceIdeal.nD Cert.ProjectionReferenceIdeal.τ).loc Cert.ProjectionReferenceIdeal.main_v5) = v2 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v1)) (v1 : (c : Dev Cert.MergeIdeal.nD) → Buf (Elt Ideal) ((c.tc : Thread Cert.MergeIdeal.nD Cert.MergeIdeal.τ).loc Cert.MergeIdeal.main_v2)) (v2 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_v2) = v1 c
          ∧ r.2.mem ((c.tc : Thread Cert.MergeIdeal.nD Cert.MergeIdeal.τ).loc Cert.MergeIdeal.main_v3) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v48) = v0 c
          ∧ r.2.mem ((c.tc : Thread Cert.MergeReferenceIdeal.nD Cert.MergeReferenceIdeal.τ).loc Cert.MergeReferenceIdeal.main_v52) = v1 c
          ∧ r.2.mem ((c.tc : Thread Cert.MergeReferenceIdeal.nD Cert.MergeReferenceIdeal.τ).loc Cert.MergeReferenceIdeal.main_v51) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Branches_BranchesIdeal : Prop :=
  True

def algebraic_BranchesIdeal_BranchesReferenceIdeal [hBranchesIdeal : Cert.BranchesIdeal.Facts] [hBranchesReferenceIdeal : Cert.BranchesReferenceIdeal.Facts] : Prop :=
  ∀ (m : (ℓ : Loc Cert.BranchesIdeal.nD Cert.BranchesIdeal.τ Cert.BranchesIdeal.sig) → Buf (Elt Ideal) ℓ) (g : Dev Cert.BranchesIdeal.nD → PrngReg)
    (m' : (ℓ : Loc Cert.BranchesReferenceIdeal.nD Cert.BranchesReferenceIdeal.τ Cert.BranchesReferenceIdeal.sig) → Buf (Elt Ideal) ℓ) (g' : Dev Cert.BranchesReferenceIdeal.nD → PrngReg), Pre_BranchesIdeal m →
    (∀ c : Dev Cert.BranchesIdeal.nD,
      m' ((c.tc : Thread Cert.BranchesReferenceIdeal.nD Cert.BranchesReferenceIdeal.τ).loc Cert.BranchesReferenceIdeal.main_arg0) = m ((c.tc : Thread Cert.BranchesIdeal.nD Cert.BranchesIdeal.τ).loc Cert.BranchesIdeal.main_arg0)
      ∧ m' ((c.tc : Thread Cert.BranchesReferenceIdeal.nD Cert.BranchesReferenceIdeal.τ).loc Cert.BranchesReferenceIdeal.main_arg1) = m ((c.tc : Thread Cert.BranchesIdeal.nD Cert.BranchesIdeal.τ).loc Cert.BranchesIdeal.main_arg1)
      ∧ m' ((c.tc : Thread Cert.BranchesReferenceIdeal.nD Cert.BranchesReferenceIdeal.τ).loc Cert.BranchesReferenceIdeal.main_arg2) = m ((c.tc : Thread Cert.BranchesIdeal.nD Cert.BranchesIdeal.τ).loc Cert.BranchesIdeal.main_arg2)
      ∧ m' ((c.tc : Thread Cert.BranchesReferenceIdeal.nD Cert.BranchesReferenceIdeal.τ).loc Cert.BranchesReferenceIdeal.main_arg3) = m ((c.tc : Thread Cert.BranchesIdeal.nD Cert.BranchesIdeal.τ).loc Cert.BranchesIdeal.main_arg3)
      ∧ m' ((c.tc : Thread Cert.BranchesReferenceIdeal.nD Cert.BranchesReferenceIdeal.τ).loc Cert.BranchesReferenceIdeal.main_arg4) = m ((c.tc : Thread Cert.BranchesIdeal.nD Cert.BranchesIdeal.τ).loc Cert.BranchesIdeal.main_arg4)
      ∧ m' ((c.tc : Thread Cert.BranchesReferenceIdeal.nD Cert.BranchesReferenceIdeal.τ).loc Cert.BranchesReferenceIdeal.main_arg5) = m ((c.tc : Thread Cert.BranchesIdeal.nD Cert.BranchesIdeal.τ).loc Cert.BranchesIdeal.main_arg5)
      ∧ m' ((c.tc : Thread Cert.BranchesReferenceIdeal.nD Cert.BranchesReferenceIdeal.τ).loc Cert.BranchesReferenceIdeal.main_arg6) = m ((c.tc : Thread Cert.BranchesIdeal.nD Cert.BranchesIdeal.τ).loc Cert.BranchesIdeal.main_arg6)
      ∧ m' ((c.tc : Thread Cert.BranchesReferenceIdeal.nD Cert.BranchesReferenceIdeal.τ).loc Cert.BranchesReferenceIdeal.main_arg7) = m ((c.tc : Thread Cert.BranchesIdeal.nD Cert.BranchesIdeal.τ).loc Cert.BranchesIdeal.main_arg7)
      ∧ m' ((c.tc : Thread Cert.BranchesReferenceIdeal.nD Cert.BranchesReferenceIdeal.τ).loc Cert.BranchesReferenceIdeal.main_arg8) = m ((c.tc : Thread Cert.BranchesIdeal.nD Cert.BranchesIdeal.τ).loc Cert.BranchesIdeal.main_arg8)
      ∧ m' ((c.tc : Thread Cert.BranchesReferenceIdeal.nD Cert.BranchesReferenceIdeal.τ).loc Cert.BranchesReferenceIdeal.main_arg9) = m ((c.tc : Thread Cert.BranchesIdeal.nD Cert.BranchesIdeal.τ).loc Cert.BranchesIdeal.main_arg9)) →
    ∃ (v0 : (c : Dev Cert.BranchesIdeal.nD) → Buf (Elt Ideal) ((c.tc : Thread Cert.BranchesIdeal.nD Cert.BranchesIdeal.τ).loc Cert.BranchesIdeal.main_v1)) (v1 : (c : Dev Cert.BranchesIdeal.nD) → Buf (Elt Ideal) ((c.tc : Thread Cert.BranchesIdeal.nD Cert.BranchesIdeal.τ).loc Cert.BranchesIdeal.main_v2)) (v2 : (c : Dev Cert.BranchesIdeal.nD) → Buf (Elt Ideal) ((c.tc : Thread Cert.BranchesIdeal.nD Cert.BranchesIdeal.τ).loc Cert.BranchesIdeal.main_v3)) (v3 : (c : Dev Cert.BranchesIdeal.nD) → Buf (Elt Ideal) ((c.tc : Thread Cert.BranchesIdeal.nD Cert.BranchesIdeal.τ).loc Cert.BranchesIdeal.main_v4)) (v4 : (c : Dev Cert.BranchesIdeal.nD) → Buf (Elt Ideal) ((c.tc : Thread Cert.BranchesIdeal.nD Cert.BranchesIdeal.τ).loc Cert.BranchesIdeal.main_v5)) (v5 : (c : Dev Cert.BranchesIdeal.nD) → Buf (Elt Ideal) ((c.tc : Thread Cert.BranchesIdeal.nD Cert.BranchesIdeal.τ).loc Cert.BranchesIdeal.main_v6)) (v6 : (c : Dev Cert.BranchesIdeal.nD) → Buf (Elt Ideal) ((c.tc : Thread Cert.BranchesIdeal.nD Cert.BranchesIdeal.τ).loc Cert.BranchesIdeal.main_v7)) (v7 : (c : Dev Cert.BranchesIdeal.nD) → Buf (Elt Ideal) ((c.tc : Thread Cert.BranchesIdeal.nD Cert.BranchesIdeal.τ).loc Cert.BranchesIdeal.main_v8)) (v8 : (c : Dev Cert.BranchesIdeal.nD) → Buf (Elt Ideal) ((c.tc : Thread Cert.BranchesIdeal.nD Cert.BranchesIdeal.τ).loc Cert.BranchesIdeal.main_v0_0)) (v9 : (c : Dev Cert.BranchesIdeal.nD) → Buf (Elt Ideal) ((c.tc : Thread Cert.BranchesIdeal.nD Cert.BranchesIdeal.τ).loc Cert.BranchesIdeal.main_v0_1)) (v10 : (c : Dev Cert.BranchesIdeal.nD) → Buf (Elt Ideal) ((c.tc : Thread Cert.BranchesIdeal.nD Cert.BranchesIdeal.τ).loc Cert.BranchesIdeal.main_v0_2)) (v11 : (c : Dev Cert.BranchesIdeal.nD) → Buf (Elt Ideal) ((c.tc : Thread Cert.BranchesIdeal.nD Cert.BranchesIdeal.τ).loc Cert.BranchesIdeal.main_v0_3)),
      θ_run (Cert.BranchesIdeal.defs (F := Ideal)) (onTc (τ := Cert.BranchesIdeal.τ) (Cert.BranchesIdeal.main (F := Ideal))) ⟨m, fun _ => 0, g⟩ (fun r => ∀ c : Dev Cert.BranchesIdeal.nD,
          r.2.mem ((c.tc : Thread Cert.BranchesIdeal.nD Cert.BranchesIdeal.τ).loc Cert.BranchesIdeal.main_v1) = v0 c
          ∧ r.2.mem ((c.tc : Thread Cert.BranchesIdeal.nD Cert.BranchesIdeal.τ).loc Cert.BranchesIdeal.main_v2) = v1 c
          ∧ r.2.mem ((c.tc : Thread Cert.BranchesIdeal.nD Cert.BranchesIdeal.τ).loc Cert.BranchesIdeal.main_v3) = v2 c
          ∧ r.2.mem ((c.tc : Thread Cert.BranchesIdeal.nD Cert.BranchesIdeal.τ).loc Cert.BranchesIdeal.main_v4) = v3 c
          ∧ r.2.mem ((c.tc : Thread Cert.BranchesIdeal.nD Cert.BranchesIdeal.τ).loc Cert.BranchesIdeal.main_v5) = v4 c
          ∧ r.2.mem ((c.tc : Thread Cert.BranchesIdeal.nD Cert.BranchesIdeal.τ).loc Cert.BranchesIdeal.main_v6) = v5 c
          ∧ r.2.mem ((c.tc : Thread Cert.BranchesIdeal.nD Cert.BranchesIdeal.τ).loc Cert.BranchesIdeal.main_v7) = v6 c
          ∧ r.2.mem ((c.tc : Thread Cert.BranchesIdeal.nD Cert.BranchesIdeal.τ).loc Cert.BranchesIdeal.main_v8) = v7 c
          ∧ r.2.mem ((c.tc : Thread Cert.BranchesIdeal.nD Cert.BranchesIdeal.τ).loc Cert.BranchesIdeal.main_v0_0) = v8 c
          ∧ r.2.mem ((c.tc : Thread Cert.BranchesIdeal.nD Cert.BranchesIdeal.τ).loc Cert.BranchesIdeal.main_v0_1) = v9 c
          ∧ r.2.mem ((c.tc : Thread Cert.BranchesIdeal.nD Cert.BranchesIdeal.τ).loc Cert.BranchesIdeal.main_v0_2) = v10 c
          ∧ r.2.mem ((c.tc : Thread Cert.BranchesIdeal.nD Cert.BranchesIdeal.τ).loc Cert.BranchesIdeal.main_v0_3) = v11 c
          ∧ r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
          ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
          ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
          ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
          ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4)
          ∧ r.2.mem ((c.tc : Thread Cert.BranchesIdeal.nD Cert.BranchesIdeal.τ).loc Cert.BranchesIdeal.main_arg5) = m ((c.tc : Thread Cert.BranchesIdeal.nD Cert.BranchesIdeal.τ).loc Cert.BranchesIdeal.main_arg5)
          ∧ r.2.mem ((c.tc : Thread Cert.BranchesIdeal.nD Cert.BranchesIdeal.τ).loc Cert.BranchesIdeal.main_arg6) = m ((c.tc : Thread Cert.BranchesIdeal.nD Cert.BranchesIdeal.τ).loc Cert.BranchesIdeal.main_arg6)
          ∧ r.2.mem ((c.tc : Thread Cert.BranchesIdeal.nD Cert.BranchesIdeal.τ).loc Cert.BranchesIdeal.main_arg7) = m ((c.tc : Thread Cert.BranchesIdeal.nD Cert.BranchesIdeal.τ).loc Cert.BranchesIdeal.main_arg7)
          ∧ r.2.mem ((c.tc : Thread Cert.BranchesIdeal.nD Cert.BranchesIdeal.τ).loc Cert.BranchesIdeal.main_arg8) = m ((c.tc : Thread Cert.BranchesIdeal.nD Cert.BranchesIdeal.τ).loc Cert.BranchesIdeal.main_arg8)
          ∧ r.2.mem ((c.tc : Thread Cert.BranchesIdeal.nD Cert.BranchesIdeal.τ).loc Cert.BranchesIdeal.main_arg9) = m ((c.tc : Thread Cert.BranchesIdeal.nD Cert.BranchesIdeal.τ).loc Cert.BranchesIdeal.main_arg9))
      ∧ θ_run (Cert.BranchesReferenceIdeal.defs (F := Ideal)) (onTc (τ := Cert.BranchesReferenceIdeal.τ) (Cert.BranchesReferenceIdeal.main (F := Ideal))) ⟨m', fun _ => 0, g'⟩ (fun r => ∀ c : Dev Cert.BranchesReferenceIdeal.nD,
          r.2.mem ((c.tc : Thread Cert.BranchesReferenceIdeal.nD Cert.BranchesReferenceIdeal.τ).loc Cert.BranchesReferenceIdeal.main_v80) = v0 c
          ∧ r.2.mem ((c.tc : Thread Cert.BranchesReferenceIdeal.nD Cert.BranchesReferenceIdeal.τ).loc Cert.BranchesReferenceIdeal.main_v75) = v1 c
          ∧ r.2.mem ((c.tc : Thread Cert.BranchesReferenceIdeal.nD Cert.BranchesReferenceIdeal.τ).loc Cert.BranchesReferenceIdeal.main_v70) = v2 c
          ∧ r.2.mem ((c.tc : Thread Cert.BranchesReferenceIdeal.nD Cert.BranchesReferenceIdeal.τ).loc Cert.BranchesReferenceIdeal.main_v65) = v3 c
          ∧ r.2.mem ((c.tc : Thread Cert.BranchesReferenceIdeal.nD Cert.BranchesReferenceIdeal.τ).loc Cert.BranchesReferenceIdeal.main_v79) = v4 c
          ∧ r.2.mem ((c.tc : Thread Cert.BranchesReferenceIdeal.nD Cert.BranchesReferenceIdeal.τ).loc Cert.BranchesReferenceIdeal.main_v74) = v5 c
          ∧ r.2.mem ((c.tc : Thread Cert.BranchesReferenceIdeal.nD Cert.BranchesReferenceIdeal.τ).loc Cert.BranchesReferenceIdeal.main_v69) = v6 c
          ∧ r.2.mem ((c.tc : Thread Cert.BranchesReferenceIdeal.nD Cert.BranchesReferenceIdeal.τ).loc Cert.BranchesReferenceIdeal.main_v64) = v7 c
          ∧ r.2.mem ((c.tc : Thread Cert.BranchesReferenceIdeal.nD Cert.BranchesReferenceIdeal.τ).loc Cert.BranchesReferenceIdeal.main_v85) = v8 c
          ∧ r.2.mem ((c.tc : Thread Cert.BranchesReferenceIdeal.nD Cert.BranchesReferenceIdeal.τ).loc Cert.BranchesReferenceIdeal.main_v86) = v9 c
          ∧ r.2.mem ((c.tc : Thread Cert.BranchesReferenceIdeal.nD Cert.BranchesReferenceIdeal.τ).loc Cert.BranchesReferenceIdeal.main_v87) = v10 c
          ∧ r.2.mem ((c.tc : Thread Cert.BranchesReferenceIdeal.nD Cert.BranchesReferenceIdeal.τ).loc Cert.BranchesReferenceIdeal.main_v88) = v11 c
          ∧ r.2.mem ((c.tc : Thread Cert.BranchesReferenceIdeal.nD Cert.BranchesReferenceIdeal.τ).loc Cert.BranchesReferenceIdeal.main_arg0) = m' ((c.tc : Thread Cert.BranchesReferenceIdeal.nD Cert.BranchesReferenceIdeal.τ).loc Cert.BranchesReferenceIdeal.main_arg0)
          ∧ r.2.mem ((c.tc : Thread Cert.BranchesReferenceIdeal.nD Cert.BranchesReferenceIdeal.τ).loc Cert.BranchesReferenceIdeal.main_arg1) = m' ((c.tc : Thread Cert.BranchesReferenceIdeal.nD Cert.BranchesReferenceIdeal.τ).loc Cert.BranchesReferenceIdeal.main_arg1)
          ∧ r.2.mem ((c.tc : Thread Cert.BranchesReferenceIdeal.nD Cert.BranchesReferenceIdeal.τ).loc Cert.BranchesReferenceIdeal.main_arg2) = m' ((c.tc : Thread Cert.BranchesReferenceIdeal.nD Cert.BranchesReferenceIdeal.τ).loc Cert.BranchesReferenceIdeal.main_arg2)
          ∧ r.2.mem ((c.tc : Thread Cert.BranchesReferenceIdeal.nD Cert.BranchesReferenceIdeal.τ).loc Cert.BranchesReferenceIdeal.main_arg3) = m' ((c.tc : Thread Cert.BranchesReferenceIdeal.nD Cert.BranchesReferenceIdeal.τ).loc Cert.BranchesReferenceIdeal.main_arg3)
          ∧ r.2.mem ((c.tc : Thread Cert.BranchesReferenceIdeal.nD Cert.BranchesReferenceIdeal.τ).loc Cert.BranchesReferenceIdeal.main_arg4) = m' ((c.tc : Thread Cert.BranchesReferenceIdeal.nD Cert.BranchesReferenceIdeal.τ).loc Cert.BranchesReferenceIdeal.main_arg4)
          ∧ r.2.mem ((c.tc : Thread Cert.BranchesReferenceIdeal.nD Cert.BranchesReferenceIdeal.τ).loc Cert.BranchesReferenceIdeal.main_arg5) = m' ((c.tc : Thread Cert.BranchesReferenceIdeal.nD Cert.BranchesReferenceIdeal.τ).loc Cert.BranchesReferenceIdeal.main_arg5)
          ∧ r.2.mem ((c.tc : Thread Cert.BranchesReferenceIdeal.nD Cert.BranchesReferenceIdeal.τ).loc Cert.BranchesReferenceIdeal.main_arg6) = m' ((c.tc : Thread Cert.BranchesReferenceIdeal.nD Cert.BranchesReferenceIdeal.τ).loc Cert.BranchesReferenceIdeal.main_arg6)
          ∧ r.2.mem ((c.tc : Thread Cert.BranchesReferenceIdeal.nD Cert.BranchesReferenceIdeal.τ).loc Cert.BranchesReferenceIdeal.main_arg7) = m' ((c.tc : Thread Cert.BranchesReferenceIdeal.nD Cert.BranchesReferenceIdeal.τ).loc Cert.BranchesReferenceIdeal.main_arg7)
          ∧ r.2.mem ((c.tc : Thread Cert.BranchesReferenceIdeal.nD Cert.BranchesReferenceIdeal.τ).loc Cert.BranchesReferenceIdeal.main_arg8) = m' ((c.tc : Thread Cert.BranchesReferenceIdeal.nD Cert.BranchesReferenceIdeal.τ).loc Cert.BranchesReferenceIdeal.main_arg8)
          ∧ r.2.mem ((c.tc : Thread Cert.BranchesReferenceIdeal.nD Cert.BranchesReferenceIdeal.τ).loc Cert.BranchesReferenceIdeal.main_arg9) = m' ((c.tc : Thread Cert.BranchesReferenceIdeal.nD Cert.BranchesReferenceIdeal.τ).loc Cert.BranchesReferenceIdeal.main_arg9))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v1)) (v1 : (c : Dev Cert.GluIdeal.nD) → Buf (Elt Ideal) ((c.tc : Thread Cert.GluIdeal.nD Cert.GluIdeal.τ).loc Cert.GluIdeal.main_v3)) (v2 : (c : Dev Cert.GluIdeal.nD) → Buf (Elt Ideal) ((c.tc : Thread Cert.GluIdeal.nD Cert.GluIdeal.τ).loc Cert.GluIdeal.main_v4)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_v3) = v1 c
          ∧ r.2.mem ((c.tc : Thread Cert.GluIdeal.nD Cert.GluIdeal.τ).loc Cert.GluIdeal.main_v4) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v15) = v0 c
          ∧ r.2.mem ((c.tc : Thread Cert.GluReferenceIdeal.nD Cert.GluReferenceIdeal.τ).loc Cert.GluReferenceIdeal.main_v22) = v1 c
          ∧ r.2.mem ((c.tc : Thread Cert.GluReferenceIdeal.nD Cert.GluReferenceIdeal.τ).loc Cert.GluReferenceIdeal.main_v21) = v2 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)
      ∧ m' ((c.tc : Thread Cert.UpReferenceIdeal.nD Cert.UpReferenceIdeal.τ).loc Cert.UpReferenceIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v0)) (v1 : (c : Dev Cert.UpIdeal.nD) → Buf (Elt Ideal) ((c.tc : Thread Cert.UpIdeal.nD Cert.UpIdeal.τ).loc Cert.UpIdeal.main_v1)) (v2 : (c : Dev Cert.UpIdeal.nD) → Buf (Elt Ideal) ((c.tc : Thread Cert.UpIdeal.nD Cert.UpIdeal.τ).loc Cert.UpIdeal.main_v2)) (v3 : (c : Dev Cert.UpIdeal.nD) → Buf (Elt Ideal) ((c.tc : Thread Cert.UpIdeal.nD Cert.UpIdeal.τ).loc Cert.UpIdeal.main_v3)) (v4 : (c : Dev Cert.UpIdeal.nD) → Buf (Elt Ideal) ((c.tc : Thread Cert.UpIdeal.nD Cert.UpIdeal.τ).loc Cert.UpIdeal.main_v4)) (v5 : (c : Dev Cert.UpIdeal.nD) → Buf (Elt Ideal) ((c.tc : Thread Cert.UpIdeal.nD Cert.UpIdeal.τ).loc Cert.UpIdeal.main_v5)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_v1) = v1 c
          ∧ r.2.mem ((c.tc : Thread Cert.UpIdeal.nD Cert.UpIdeal.τ).loc Cert.UpIdeal.main_v2) = v2 c
          ∧ r.2.mem ((c.tc : Thread Cert.UpIdeal.nD Cert.UpIdeal.τ).loc Cert.UpIdeal.main_v3) = v3 c
          ∧ r.2.mem ((c.tc : Thread Cert.UpIdeal.nD Cert.UpIdeal.τ).loc Cert.UpIdeal.main_v4) = v4 c
          ∧ r.2.mem ((c.tc : Thread Cert.UpIdeal.nD Cert.UpIdeal.τ).loc Cert.UpIdeal.main_v5) = v5 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_v5) = v1 c
          ∧ r.2.mem ((c.tc : Thread Cert.UpReferenceIdeal.nD Cert.UpReferenceIdeal.τ).loc Cert.UpReferenceIdeal.main_v13) = v2 c
          ∧ r.2.mem ((c.tc : Thread Cert.UpReferenceIdeal.nD Cert.UpReferenceIdeal.τ).loc Cert.UpReferenceIdeal.main_v12) = v3 c
          ∧ r.2.mem ((c.tc : Thread Cert.UpReferenceIdeal.nD Cert.UpReferenceIdeal.τ).loc Cert.UpReferenceIdeal.main_v10) = v4 c
          ∧ r.2.mem ((c.tc : Thread Cert.UpReferenceIdeal.nD Cert.UpReferenceIdeal.τ).loc Cert.UpReferenceIdeal.main_v9) = v5 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def Claim : Prop :=
  ∃ (hKernel : Cert.Kernel.Facts) (hKernelIdeal : Cert.KernelIdeal.Facts) (hReferenceIdeal : Cert.ReferenceIdeal.Facts) (hMixer : Cert.Mixer.Facts) (hMixerIdeal : Cert.MixerIdeal.Facts) (hMixerReferenceIdeal : Cert.MixerReferenceIdeal.Facts) (hProjection : Cert.Projection.Facts) (hProjectionIdeal : Cert.ProjectionIdeal.Facts) (hProjectionReferenceIdeal : Cert.ProjectionReferenceIdeal.Facts) (hMerge : Cert.Merge.Facts) (hMergeIdeal : Cert.MergeIdeal.Facts) (hMergeReferenceIdeal : Cert.MergeReferenceIdeal.Facts) (hBranches : Cert.Branches.Facts) (hBranchesIdeal : Cert.BranchesIdeal.Facts) (hBranchesReferenceIdeal : Cert.BranchesReferenceIdeal.Facts) (hGlu : Cert.Glu.Facts) (hGluIdeal : Cert.GluIdeal.Facts) (hGluReferenceIdeal : Cert.GluReferenceIdeal.Facts) (hUp : Cert.Up.Facts) (hUpIdeal : Cert.UpIdeal.Facts) (hUpReferenceIdeal : Cert.UpReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Mixer (hMixer := hMixer)
    ∧ quiescent_MixerIdeal (hMixerIdeal := hMixerIdeal)
    ∧ quiescent_MixerReferenceIdeal (hMixerReferenceIdeal := hMixerReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Branches (hBranches := hBranches)
    ∧ quiescent_BranchesIdeal (hBranchesIdeal := hBranchesIdeal)
    ∧ quiescent_BranchesReferenceIdeal (hBranchesReferenceIdeal := hBranchesReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Up (hUp := hUp)
    ∧ quiescent_UpIdeal (hUpIdeal := hUpIdeal)
    ∧ quiescent_UpReferenceIdeal (hUpReferenceIdeal := hUpReferenceIdeal)
    ∧ preserves_Kernel_KernelIdeal
    ∧ algebraic_KernelIdeal_ReferenceIdeal (hKernelIdeal := hKernelIdeal) (hReferenceIdeal := hReferenceIdeal)
    ∧ preserves_Mixer_MixerIdeal
    ∧ algebraic_MixerIdeal_MixerReferenceIdeal (hMixerIdeal := hMixerIdeal) (hMixerReferenceIdeal := hMixerReferenceIdeal)
    ∧ preserves_Projection_ProjectionIdeal
    ∧ algebraic_ProjectionIdeal_ProjectionReferenceIdeal (hProjectionIdeal := hProjectionIdeal) (hProjectionReferenceIdeal := hProjectionReferenceIdeal)
    ∧ preserves_Merge_MergeIdeal
    ∧ algebraic_MergeIdeal_MergeReferenceIdeal (hMergeIdeal := hMergeIdeal) (hMergeReferenceIdeal := hMergeReferenceIdeal)
    ∧ preserves_Branches_BranchesIdeal
    ∧ algebraic_BranchesIdeal_BranchesReferenceIdeal (hBranchesIdeal := hBranchesIdeal) (hBranchesReferenceIdeal := hBranchesReferenceIdeal)
    ∧ preserves_Glu_GluIdeal
    ∧ algebraic_GluIdeal_GluReferenceIdeal (hGluIdeal := hGluIdeal) (hGluReferenceIdeal := hGluReferenceIdeal)
    ∧ preserves_Up_UpIdeal
    ∧ algebraic_UpIdeal_UpReferenceIdeal (hUpIdeal := hUpIdeal) (hUpReferenceIdeal := hUpReferenceIdeal)
-- ==== Kernel.lean ====
abbrev S4096x256 : Shape := ⟨2, ![4096, 256]⟩
abbrev S4096x7424 : Shape := ⟨2, ![4096, 7424]⟩
abbrev S4096x512 : Shape := ⟨2, ![4096, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4 : Shape := ⟨2, ![1, 4]⟩
abbrev S128x4 : Shape := ⟨2, ![128, 4]⟩
abbrev S32x128x4x64 : Shape := ⟨4, ![32, 128, 4, 64]⟩
abbrev S1x128x4x1 : Shape := ⟨4, ![1, 128, 4, 1]⟩
abbrev S32x128x4x128 : Shape := ⟨4, ![32, 128, 4, 128]⟩
abbrev S32x4x64x128 : Shape := ⟨4, ![32, 4, 64, 128]⟩
abbrev S4x64x128 : Shape := ⟨3, ![4, 64, 128]⟩
abbrev S0x4x64x128 : Shape := ⟨4, ![0, 4, 64, 128]⟩
abbrev S1x4x64x128 : Shape := ⟨4, ![1, 4, 64, 128]⟩
abbrev S16x4x64x128 : Shape := ⟨4, ![16, 4, 64, 128]⟩
abbrev S4x1 : Shape := ⟨2, ![4, 1]⟩
abbrev S4x128 : Shape := ⟨2, ![4, 128]⟩
abbrev S4x128x1 : Shape := ⟨3, ![4, 128, 1]⟩
abbrev S128x256 : Shape := ⟨2, ![128, 256]⟩
abbrev S128x512 : Shape := ⟨2, ![128, 512]⟩
abbrev S1x128x1 : Shape := ⟨3, ![1, 128, 1]⟩
abbrev S128x64 : Shape := ⟨2, ![128, 64]⟩
abbrev S1x1x64x128 : Shape := ⟨4, ![1, 1, 64, 128]⟩
abbrev S64x128 : Shape := ⟨2, ![64, 128]⟩
abbrev S1x64x128 : Shape := ⟨3, ![1, 64, 128]⟩

abbrev nBuf : Space → Nat
  | .hbm => 355
  | .vmem => 24
  | .smem => 0
  | _ => 0

abbrev hbmTy0_0 (i : Nat) : BufTy := match i % 128 with
  | 0 => ⟨S4096x256, .f32⟩
  | 1 => ⟨S4096x256, .f32⟩
  | 2 => ⟨S4096x7424, .f32⟩
  | 3 => ⟨S4096x512, .f32⟩
  | 4 => ⟨S4, .f32⟩
  | 5 => ⟨S_, .f32⟩
  | 6 => ⟨S4, .f32⟩
  | 7 => ⟨S4, .f32⟩
  | 8 => ⟨S_, .f32⟩
  | 9 => ⟨S4, .f32⟩
  | 10 => ⟨S4, .f32⟩
  | 11 => ⟨S4, .f32⟩
  | 12 => ⟨S4, .f32⟩
  | 13 => ⟨S128, .f32⟩
  | 14 => ⟨S128x1, .f32⟩
  | 15 => ⟨S1x128, .f32⟩
  | 16 => ⟨S128x128, .f32⟩
  | 17 => ⟨S128x128, .f32⟩
  | 18 => ⟨S128x128, .f32⟩
  | 19 => ⟨S_, .f32⟩
  | 20 => ⟨S128x128, .f32⟩
  | 21 => ⟨S128x128, .i1⟩
  | 22 => ⟨S4x1x1, .f32⟩
  | 23 => ⟨S_, .f32⟩
  | 24 => ⟨S128x128, .f32⟩
  | 25 => ⟨S128x128, .f32⟩
  | 26 => ⟨S1x128x128, .f32⟩
  | 27 => ⟨S4x128x128, .f32⟩
  | 28 => ⟨S4x128x128, .f32⟩
  | 29 => ⟨S4x128x128, .f32⟩
  | 30 => ⟨S4x128x128, .f32⟩
  | 31 => ⟨S_, .f32⟩
  | 32 => ⟨S_, .f32⟩
  | 33 => ⟨S4x128x128, .i1⟩
  | 34 => ⟨S4x128x128, .f32⟩
  | 35 => ⟨S4x128x128, .f32⟩
  | 36 => ⟨S1x4, .f32⟩
  | 37 => ⟨S_, .f32⟩
  | 38 => ⟨S128, .f32⟩
  | 39 => ⟨S128, .f32⟩
  | 40 => ⟨S128x1, .f32⟩
  | 41 => ⟨S128x4, .f32⟩
  | 42 => ⟨S128x4, .f32⟩
  | 43 => ⟨S128x4, .f32⟩
  | 44 => ⟨S128x4, .f32⟩
  | 45 => ⟨S1x4, .f32⟩
  | 46 => ⟨S_, .f32⟩
  | 47 => ⟨S128, .f32⟩
  | 48 => ⟨S128, .f32⟩
  | 49 => ⟨S128x1, .f32⟩
  | 50 => ⟨S128x4, .f32⟩
  | 51 => ⟨S128x4, .f32⟩
  | 52 => ⟨S128x4, .f32⟩
  | 53 => ⟨S128x4, .f32⟩
  | 54 => ⟨S_, .f32⟩
  | 55 => ⟨S4, .f32⟩
  | 56 => ⟨S4, .f32⟩
  | 57 => ⟨S4, .f32⟩
  | 58 => ⟨S4096x512, .f32⟩
  | 59 => ⟨S32x128x4x64, .f32⟩
  | 60 => ⟨S1x128x4x1, .f32⟩
  | 61 => ⟨S32x128x4x64, .f32⟩
  | 62 => ⟨S32x128x4x64, .f32⟩
  | 63 => ⟨S32x128x4x128, .f32⟩
  | 64 => ⟨S32x4x64x128, .f32⟩
  | 65 => ⟨S_, .f32⟩
  | 66 => ⟨S4x64x128, .f32⟩
  | 67 => ⟨S0x4x64x128, .f32⟩
  | 68 => ⟨S32x4x64x128, .f32⟩
  | 69 => ⟨S_, .f32⟩
  | 70 => ⟨S0x4x64x128, .f32⟩
  | 71 => ⟨S1x4x64x128, .f32⟩
  | 72 => ⟨S4x64x128, .f32⟩
  | 73 => ⟨S4x1x1, .f32⟩
  | 74 => ⟨S4x64x128, .f32⟩
  | 75 => ⟨S4x64x128, .f32⟩
  | 76 => ⟨S4x64x128, .f32⟩
  | 77 => ⟨S1x4x64x128, .f32⟩
  | 78 => ⟨S4x64x128, .f32⟩
  | 79 => ⟨S4x1x1, .f32⟩
  | 80 => ⟨S4x64x128, .f32⟩
  | 81 => ⟨S4x64x128, .f32⟩
  | 82 => ⟨S4x64x128, .f32⟩
  | 83 => ⟨S1x4x64x128, .f32⟩
  | 84 => ⟨S4x64x128, .f32⟩
  | 85 => ⟨S4x1x1, .f32⟩
  | 86 => ⟨S4x64x128, .f32⟩
  | 87 => ⟨S4x64x128, .f32⟩
  | 88 => ⟨S4x64x128, .f32⟩
  | 89 => ⟨S1x4x64x128, .f32⟩
  | 90 => ⟨S4x64x128, .f32⟩
  | 91 => ⟨S4x1x1, .f32⟩
  | 92 => ⟨S4x64x128, .f32⟩
  | 93 => ⟨S4x64x128, .f32⟩
  | 94 => ⟨S4x64x128, .f32⟩
  | 95 => ⟨S1x4x64x128, .f32⟩
  | 96 => ⟨S4x64x128, .f32⟩
  | 97 => ⟨S4x1x1, .f32⟩
  | 98 => ⟨S4x64x128, .f32⟩
  | 99 => ⟨S4x64x128, .f32⟩
  | 100 => ⟨S4x64x128, .f32⟩
  | 101 => ⟨S1x4x64x128, .f32⟩
  | 102 => ⟨S4x64x128, .f32⟩
  | 103 => ⟨S4x1x1, .f32⟩
  | 104 => ⟨S4x64x128, .f32⟩
  | 105 => ⟨S4x64x128, .f32⟩
  | 106 => ⟨S4x64x128, .f32⟩
  | 107 => ⟨S1x4x64x128, .f32⟩
  | 108 => ⟨S4x64x128, .f32⟩
  | 109 => ⟨S4x1x1, .f32⟩
  | 110 => ⟨S4x64x128, .f32⟩
  | 111 => ⟨S4x64x128, .f32⟩
  | 112 => ⟨S4x64x128, .f32⟩
  | 113 => ⟨S1x4x64x128, .f32⟩
  | 114 => ⟨S4x64x128, .f32⟩
  | 115 => ⟨S4x1x1, .f32⟩
  | 116 => ⟨S4x64x128, .f32⟩
  | 117 => ⟨S4x64x128, .f32⟩
  | 118 => ⟨S4x64x128, .f32⟩
  | 119 => ⟨S1x4x64x128, .f32⟩
  | 120 => ⟨S4x64x128, .f32⟩
  | 121 => ⟨S4x1x1, .f32⟩
  | 122 => ⟨S4x64x128, .f32⟩
  | 123 => ⟨S4x64x128, .f32⟩
  | 124 => ⟨S4x64x128, .f32⟩
  | 125 => ⟨S1x4x64x128, .f32⟩
  | 126 => ⟨S4x64x128, .f32⟩
  | 127 => ⟨S4x1x1, .f32⟩
  | _ => ⟨S4096x256, .f32⟩

abbrev hbmTy0_1 (i : Nat) : BufTy := match i % 128 with
  | 0 => ⟨S4x64x128, .f32⟩
  | 1 => ⟨S4x64x128, .f32⟩
  | 2 => ⟨S4x64x128, .f32⟩
  | 3 => ⟨S1x4x64x128, .f32⟩
  | 4 => ⟨S4x64x128, .f32⟩
  | 5 => ⟨S4x1x1, .f32⟩
  | 6 => ⟨S4x64x128, .f32⟩
  | 7 => ⟨S4x64x128, .f32⟩
  | 8 => ⟨S4x64x128, .f32⟩
  | 9 => ⟨S1x4x64x128, .f32⟩
  | 10 => ⟨S4x64x128, .f32⟩
  | 11 => ⟨S4x1x1, .f32⟩
  | 12 => ⟨S4x64x128, .f32⟩
  | 13 => ⟨S4x64x128, .f32⟩
  | 14 => ⟨S4x64x128, .f32⟩
  | 15 => ⟨S1x4x64x128, .f32⟩
  | 16 => ⟨S4x64x128, .f32⟩
  | 17 => ⟨S4x1x1, .f32⟩
  | 18 => ⟨S4x64x128, .f32⟩
  | 19 => ⟨S4x64x128, .f32⟩
  | 20 => ⟨S4x64x128, .f32⟩
  | 21 => ⟨S1x4x64x128, .f32⟩
  | 22 => ⟨S4x64x128, .f32⟩
  | 23 => ⟨S4x1x1, .f32⟩
  | 24 => ⟨S4x64x128, .f32⟩
  | 25 => ⟨S4x64x128, .f32⟩
  | 26 => ⟨S4x64x128, .f32⟩
  | 27 => ⟨S1x4x64x128, .f32⟩
  | 28 => ⟨S4x64x128, .f32⟩
  | 29 => ⟨S4x1x1, .f32⟩
  | 30 => ⟨S4x64x128, .f32⟩
  | 31 => ⟨S4x64x128, .f32⟩
  | 32 => ⟨S4x64x128, .f32⟩
  | 33 => ⟨S1x4x64x128, .f32⟩
  | 34 => ⟨S4x64x128, .f32⟩
  | 35 => ⟨S4x1x1, .f32⟩
  | 36 => ⟨S4x64x128, .f32⟩
  | 37 => ⟨S4x64x128, .f32⟩
  | 38 => ⟨S4x64x128, .f32⟩
  | 39 => ⟨S1x4x64x128, .f32⟩
  | 40 => ⟨S4x64x128, .f32⟩
  | 41 => ⟨S4x1x1, .f32⟩
  | 42 => ⟨S4x64x128, .f32⟩
  | 43 => ⟨S4x64x128, .f32⟩
  | 44 => ⟨S4x64x128, .f32⟩
  | 45 => ⟨S1x4x64x128, .f32⟩
  | 46 => ⟨S4x64x128, .f32⟩
  | 47 => ⟨S4x1x1, .f32⟩
  | 48 => ⟨S4x64x128, .f32⟩
  | 49 => ⟨S4x64x128, .f32⟩
  | 50 => ⟨S4x64x128, .f32⟩
  | 51 => ⟨S1x4x64x128, .f32⟩
  | 52 => ⟨S4x64x128, .f32⟩
  | 53 => ⟨S4x1x1, .f32⟩
  | 54 => ⟨S4x64x128, .f32⟩
  | 55 => ⟨S4x64x128, .f32⟩
  | 56 => ⟨S4x64x128, .f32⟩
  | 57 => ⟨S1x4x64x128, .f32⟩
  | 58 => ⟨S4x64x128, .f32⟩
  | 59 => ⟨S4x1x1, .f32⟩
  | 60 => ⟨S4x64x128, .f32⟩
  | 61 => ⟨S4x64x128, .f32⟩
  | 62 => ⟨S4x64x128, .f32⟩
  | 63 => ⟨S1x4x64x128, .f32⟩
  | 64 => ⟨S4x64x128, .f32⟩
  | 65 => ⟨S4x1x1, .f32⟩
  | 66 => ⟨S4x64x128, .f32⟩
  | 67 => ⟨S4x64x128, .f32⟩
  | 68 => ⟨S4x64x128, .f32⟩
  | 69 => ⟨S1x4x64x128, .f32⟩
  | 70 => ⟨S4x64x128, .f32⟩
  | 71 => ⟨S4x1x1, .f32⟩
  | 72 => ⟨S4x64x128, .f32⟩
  | 73 => ⟨S4x64x128, .f32⟩
  | 74 => ⟨S4x64x128, .f32⟩
  | 75 => ⟨S1x4x64x128, .f32⟩
  | 76 => ⟨S4x64x128, .f32⟩
  | 77 => ⟨S4x1x1, .f32⟩
  | 78 => ⟨S4x64x128, .f32⟩
  | 79 => ⟨S4x64x128, .f32⟩
  | 80 => ⟨S4x64x128, .f32⟩
  | 81 => ⟨S1x4x64x128, .f32⟩
  | 82 => ⟨S4x64x128, .f32⟩
  | 83 => ⟨S4x1x1, .f32⟩
  | 84 => ⟨S4x64x128, .f32⟩
  | 85 => ⟨S4x64x128, .f32⟩
  | 86 => ⟨S4x64x128, .f32⟩
  | 87 => ⟨S1x4x64x128, .f32⟩
  | 88 => ⟨S4x64x128, .f32⟩
  | 89 => ⟨S4x1x1, .f32⟩
  | 90 => ⟨S4x64x128, .f32⟩
  | 91 => ⟨S4x64x128, .f32⟩
  | 92 => ⟨S4x64x128, .f32⟩
  | 93 => ⟨S1x4x64x128, .f32⟩
  | 94 => ⟨S4x64x128, .f32⟩
  | 95 => ⟨S4x1x1, .f32⟩
  | 96 => ⟨S4x64x128, .f32⟩
  | 97 => ⟨S4x64x128, .f32⟩
  | 98 => ⟨S4x64x128, .f32⟩
  | 99 => ⟨S1x4x64x128, .f32⟩
  | 100 => ⟨S4x64x128, .f32⟩
  | 101 => ⟨S4x1x1, .f32⟩
  | 102 => ⟨S4x64x128, .f32⟩
  | 103 => ⟨S4x64x128, .f32⟩
  | 104 => ⟨S4x64x128, .f32⟩
  | 105 => ⟨S1x4x64x128, .f32⟩
  | 106 => ⟨S4x64x128, .f32⟩
  | 107 => ⟨S4x1x1, .f32⟩
  | 108 => ⟨S4x64x128, .f32⟩
  | 109 => ⟨S4x64x128, .f32⟩
  | 110 => ⟨S4x64x128, .f32⟩
  | 111 => ⟨S1x4x64x128, .f32⟩
  | 112 => ⟨S4x64x128, .f32⟩
  | 113 => ⟨S4x1x1, .f32⟩
  | 114 => ⟨S4x64x128, .f32⟩
  | 115 => ⟨S4x64x128, .f32⟩
  | 116 => ⟨S4x64x128, .f32⟩
  | 117 => ⟨S1x4x64x128, .f32⟩
  | 118 => ⟨S4x64x128, .f32⟩
  | 119 => ⟨S4x1x1, .f32⟩
  | 120 => ⟨S4x64x128, .f32⟩
  | 121 => ⟨S4x64x128, .f32⟩
  | 122 => ⟨S4x64x128, .f32⟩
  | 123 => ⟨S1x4x64x128, .f32⟩
  | 124 => ⟨S4x64x128, .f32⟩
  | 125 => ⟨S4x1x1, .f32⟩
  | 126 => ⟨S4x64x128, .f32⟩
  | 127 => ⟨S4x64x128, .f32⟩
  | _ => ⟨S4096x256, .f32⟩

abbrev hbmTy0_2 (i : Nat) : BufTy := match i % 128 with
  | 0 => ⟨S4x64x128, .f32⟩
  | 1 => ⟨S1x4x64x128, .f32⟩
  | 2 => ⟨S4x64x128, .f32⟩
  | 3 => ⟨S4x1x1, .f32⟩
  | 4 => ⟨S4x64x128, .f32⟩
  | 5 => ⟨S4x64x128, .f32⟩
  | 6 => ⟨S4x64x128, .f32⟩
  | 7 => ⟨S1x4x64x128, .f32⟩
  | 8 => ⟨S1x4x64x128, .f32⟩
  | 9 => ⟨S1x4x64x128, .f32⟩
  | 10 => ⟨S1x4x64x128, .f32⟩
  | 11 => ⟨S1x4x64x128, .f32⟩
  | 12 => ⟨S1x4x64x128, .f32⟩
  | 13 => ⟨S1x4x64x128, .f32⟩
  | 14 => ⟨S1x4x64x128, .f32⟩
  | 15 => ⟨S1x4x64x128, .f32⟩
  | 16 => ⟨S1x4x64x128, .f32⟩
  | 17 => ⟨S1x4x64x128, .f32⟩
  | 18 => ⟨S1x4x64x128, .f32⟩
  | 19 => ⟨S1x4x64x128, .f32⟩
  | 20 => ⟨S1x4x64x128, .f32⟩
  | 21 => ⟨S1x4x64x128, .f32⟩
  | 22 => ⟨S1x4x64x128, .f32⟩
  | 23 => ⟨S1x4x64x128, .f32⟩
  | 24 => ⟨S1x4x64x128, .f32⟩
  | 25 => ⟨S1x4x64x128, .f32⟩
  | 26 => ⟨S1x4x64x128, .f32⟩
  | 27 => ⟨S1x4x64x128, .f32⟩
  | 28 => ⟨S1x4x64x128, .f32⟩
  | 29 => ⟨S1x4x64x128, .f32⟩
  | 30 => ⟨S1x4x64x128, .f32⟩
  | 31 => ⟨S1x4x64x128, .f32⟩
  | 32 => ⟨S1x4x64x128, .f32⟩
  | 33 => ⟨S1x4x64x128, .f32⟩
  | 34 => ⟨S1x4x64x128, .f32⟩
  | 35 => ⟨S1x4x64x128, .f32⟩
  | 36 => ⟨S1x4x64x128, .f32⟩
  | 37 => ⟨S1x4x64x128, .f32⟩
  | 38 => ⟨S1x4x64x128, .f32⟩
  | 39 => ⟨S16x4x64x128, .f32⟩
  | 40 => ⟨S16x4x64x128, .f32⟩
  | 41 => ⟨S32x4x64x128, .f32⟩
  | 42 => ⟨S32x4x64x128, .f32⟩
  | 43 => ⟨S4, .f32⟩
  | 44 => ⟨S_, .f32⟩
  | 45 => ⟨S4, .f32⟩
  | 46 => ⟨S4, .f32⟩
  | 47 => ⟨S_, .f32⟩
  | 48 => ⟨S4, .f32⟩
  | 49 => ⟨S4, .f32⟩
  | 50 => ⟨S4, .f32⟩
  | 51 => ⟨S4, .f32⟩
  | 52 => ⟨S128, .f32⟩
  | 53 => ⟨S128x1, .f32⟩
  | 54 => ⟨S1x128, .f32⟩
  | 55 => ⟨S128x128, .f32⟩
  | 56 => ⟨S128x128, .f32⟩
  | 57 => ⟨S128x128, .f32⟩
  | 58 => ⟨S_, .f32⟩
  | 59 => ⟨S128x128, .f32⟩
  | 60 => ⟨S128x128, .i1⟩
  | 61 => ⟨S4x1x1, .f32⟩
  | 62 => ⟨S_, .f32⟩
  | 63 => ⟨S128x128, .f32⟩
  | 64 => ⟨S128x128, .f32⟩
  | 65 => ⟨S1x128x128, .f32⟩
  | 66 => ⟨S4x128x128, .f32⟩
  | 67 => ⟨S4x128x128, .f32⟩
  | 68 => ⟨S4x128x128, .f32⟩
  | 69 => ⟨S4x128x128, .f32⟩
  | 70 => ⟨S_, .f32⟩
  | 71 => ⟨S_, .f32⟩
  | 72 => ⟨S4x128x128, .i1⟩
  | 73 => ⟨S4x128x128, .f32⟩
  | 74 => ⟨S4x128x128, .f32⟩
  | 75 => ⟨S4x1, .f32⟩
  | 76 => ⟨S_, .f32⟩
  | 77 => ⟨S128, .f32⟩
  | 78 => ⟨S128, .f32⟩
  | 79 => ⟨S1x128, .f32⟩
  | 80 => ⟨S4x128, .f32⟩
  | 81 => ⟨S4x128, .f32⟩
  | 82 => ⟨S4x128, .f32⟩
  | 83 => ⟨S4x128, .f32⟩
  | 84 => ⟨S4x128x1, .f32⟩
  | 85 => ⟨S4x1, .f32⟩
  | 86 => ⟨S_, .f32⟩
  | 87 => ⟨S128, .f32⟩
  | 88 => ⟨S128, .f32⟩
  | 89 => ⟨S1x128, .f32⟩
  | 90 => ⟨S4x128, .f32⟩
  | 91 => ⟨S4x128, .f32⟩
  | 92 => ⟨S4x128, .f32⟩
  | 93 => ⟨S4x128, .f32⟩
  | 94 => ⟨S4x128x1, .f32⟩
  | 95 => ⟨S4096x256, .f32⟩
  | 96 => ⟨S4096x256, .f32⟩
  | 97 => ⟨S4096x512, .bf16⟩
  | 98 => ⟨S4096x512, .bf16⟩
  | _ => ⟨S4096x256, .f32⟩

abbrev hbmTy (i : Nat) : BufTy := match i / 128 with
  | 0 => hbmTy0_0 i
  | 1 => hbmTy0_1 i
  | 2 => hbmTy0_2 i
  | _ => ⟨S4096x256, .f32⟩

abbrev bufTy : (tb : Table) → Fin (tcTables nBuf tb) → BufTy
  | .hbm, ⟨i, _⟩ => hbmTy i
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S1x4x64x128, .f32⟩
  | .local _ .vmem, ⟨9, _⟩ => ⟨S1x4x64x128, .f32⟩
  | .local _ .vmem, ⟨10, _⟩ => ⟨S128x512, .f32⟩
  | .local _ .vmem, ⟨11, _⟩ => ⟨S128x512, .f32⟩
  | .local _ .vmem, ⟨12, _⟩ => ⟨S4x128x128, .f32⟩
  | .local _ .vmem, ⟨13, _⟩ => ⟨S4x128x1, .f32⟩
  | .local _ .vmem, ⟨14, _⟩ => ⟨S4x128x1, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S4x64x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_v269 : Ref sig .tc := ⟨.hbm, 286, rfl⟩
abbrev main_v270 : Ref sig .tc := ⟨.hbm, 287, rfl⟩
abbrev main_v271 : Ref sig .tc := ⟨.hbm, 288, rfl⟩
abbrev main_v272 : Ref sig .tc := ⟨.hbm, 289, rfl⟩
abbrev main_v273 : Ref sig .tc := ⟨.hbm, 290, rfl⟩
abbrev main_v274 : Ref sig .tc := ⟨.hbm, 291, rfl⟩
abbrev main_v275 : Ref sig .tc := ⟨.hbm, 292, rfl⟩
abbrev main_v276 : Ref sig .tc := ⟨.hbm, 293, rfl⟩
abbrev main_v277 : Ref sig .tc := ⟨.hbm, 294, rfl⟩
abbrev main_v278 : Ref sig .tc := ⟨.hbm, 295, rfl⟩
abbrev main_v279 : Ref sig .tc := ⟨.hbm, 296, rfl⟩
abbrev main_v280 : Ref sig .tc := ⟨.hbm, 297, rfl⟩
abbrev main_v281 : Ref sig .tc := ⟨.hbm, 298, rfl⟩
abbrev main_v282 : Ref sig .tc := ⟨.hbm, 299, rfl⟩
abbrev main_cst_9 : Ref sig .tc := ⟨.hbm, 300, rfl⟩
abbrev main_v283 : Ref sig .tc := ⟨.hbm, 301, rfl⟩
abbrev main_v284 : Ref sig .tc := ⟨.hbm, 302, rfl⟩
abbrev main_cst_10 : Ref sig .tc := ⟨.hbm, 303, rfl⟩
abbrev main_v285 : Ref sig .tc := ⟨.hbm, 304, rfl⟩
abbrev main_v286 : Ref sig .tc := ⟨.hbm, 305, rfl⟩
abbrev main_v287 : Ref sig .tc := ⟨.hbm, 306, rfl⟩
abbrev main_v288 : Ref sig .tc := ⟨.hbm, 307, rfl⟩
abbrev main_v289 : Ref sig .tc := ⟨.hbm, 308, rfl⟩
abbrev main_v290 : Ref sig .tc := ⟨.hbm, 309, rfl⟩
abbrev main_v291 : Ref sig .tc := ⟨.hbm, 310, rfl⟩
abbrev main_v292 : Ref sig .tc := ⟨.hbm, 311, rfl⟩
abbrev main_v293 : Ref sig .tc := ⟨.hbm, 312, rfl⟩
abbrev main_v294 : Ref sig .tc := ⟨.hbm, 313, rfl⟩
abbrev main_cst_11 : Ref sig .tc := ⟨.hbm, 314, rfl⟩
abbrev main_v295 : Ref sig .tc := ⟨.hbm, 315, rfl⟩
abbrev main_v296 : Ref sig .tc := ⟨.hbm, 316, rfl⟩
abbrev main_v297 : Ref sig .tc := ⟨.hbm, 317, rfl⟩
abbrev main_cst_12 : Ref sig .tc := ⟨.hbm, 318, rfl⟩
abbrev main_v298 : Ref sig .tc := ⟨.hbm, 319, rfl⟩
abbrev main_v299 : Ref sig .tc := ⟨.hbm, 320, rfl⟩
abbrev main_v300 : Ref sig .tc := ⟨.hbm, 321, rfl⟩
abbrev main_v301 : Ref sig .tc := ⟨.hbm, 322, rfl⟩
abbrev main_v302 : Ref sig .tc := ⟨.hbm, 323, rfl⟩
abbrev main_v303 : Ref sig .tc := ⟨.hbm, 324, rfl⟩
abbrev main_v304 : Ref sig .tc := ⟨.hbm, 325, rfl⟩
abbrev main_cst_13 : Ref sig .tc := ⟨.hbm, 326, rfl⟩
abbrev main_call1_v0 : Ref sig .tc := ⟨.hbm, 327, rfl⟩
abbrev main_call1_v1 : Ref sig .tc := ⟨.hbm, 328, rfl⟩
abbrev main_call1_v2 : Ref sig .tc := ⟨.hbm, 329, rfl⟩
abbrev main_v305 : Ref sig .tc := ⟨.hbm, 330, rfl⟩
abbrev main_v306 : Ref sig .tc := ⟨.hbm, 331, rfl⟩
abbrev main_cst_14 : Ref sig .tc := ⟨.hbm, 332, rfl⟩
abbrev main_v307 : Ref sig .tc := ⟨.hbm, 333, rfl⟩
abbrev main_v308 : Ref sig .tc := ⟨.hbm, 334, rfl⟩
abbrev main_v309 : Ref sig .tc := ⟨.hbm, 335, rfl⟩
abbrev main_v310 : Ref sig .tc := ⟨.hbm, 336, rfl⟩
abbrev main_v311 : Ref sig .tc := ⟨.hbm, 337, rfl⟩
abbrev main_v312 : Ref sig .tc := ⟨.hbm, 338, rfl⟩
abbrev main_v313 : Ref sig .tc := ⟨.hbm, 339, rfl⟩
abbrev main_v314 : Ref sig .tc := ⟨.hbm, 340, rfl⟩
abbrev main_v315 : Ref sig .tc := ⟨.hbm, 341, rfl⟩
abbrev main_cst_15 : Ref sig .tc := ⟨.hbm, 342, rfl⟩
abbrev main_v316 : Ref sig .tc := ⟨.hbm, 343, rfl⟩
abbrev main_v317 : Ref sig .tc := ⟨.hbm, 344, rfl⟩
abbrev main_v318 : Ref sig .tc := ⟨.hbm, 345, rfl⟩
abbrev main_v319 : Ref sig .tc := ⟨.hbm, 346, rfl⟩
abbrev main_v320 : Ref sig .tc := ⟨.hbm, 347, rfl⟩
abbrev main_v321 : Ref sig .tc := ⟨.hbm, 348, rfl⟩
abbrev main_v322 : Ref sig .tc := ⟨.hbm, 349, rfl⟩
abbrev main_v323 : Ref sig .tc := ⟨.hbm, 350, rfl⟩
abbrev main_v324_0 : Ref sig .tc := ⟨.hbm, 351, rfl⟩
abbrev main_v324_1 : Ref sig .tc := ⟨.hbm, 352, rfl⟩
abbrev main_v324_2 : Ref sig .tc := ⟨.hbm, 353, rfl⟩
abbrev main_v324_3 : Ref sig .tc := ⟨.hbm, 354, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_4 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "chunk_decay0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "chunk_decay1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "chunk_decay2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "chunk_decay3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | _ => none
-- ==== ReferenceIdeal.lean ====
abbrev S4096x256 : Shape := ⟨2, ![4096, 256]⟩
abbrev S4096x7424 : Shape := ⟨2, ![4096, 7424]⟩
abbrev S4096x512 : Shape := ⟨2, ![4096, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4 : Shape := ⟨2, ![1, 4]⟩
abbrev S128x4 : Shape := ⟨2, ![128, 4]⟩
abbrev S32x128x4x64 : Shape := ⟨4, ![32, 128, 4, 64]⟩
abbrev S32x128x4x128 : Shape := ⟨4, ![32, 128, 4, 128]⟩
abbrev S32x4x128x128 : Shape := ⟨4, ![32, 4, 128, 128]⟩
abbrev S1x4x128x128 : Shape := ⟨4, ![1, 4, 128, 128]⟩
abbrev S1x128x4x1 : Shape := ⟨4, ![1, 128, 4, 1]⟩
abbrev S32x4x64x128 : Shape := ⟨4, ![32, 4, 64, 128]⟩
abbrev S4x64x128 : Shape := ⟨3, ![4, 64, 128]⟩
abbrev S0x4x64x128 : Shape := ⟨4, ![0, 4, 64, 128]⟩
abbrev S1x4x64x128 : Shape := ⟨4, ![1, 4, 64, 128]⟩
abbrev S16x4x64x128 : Shape := ⟨4, ![16, 4, 64, 128]⟩
abbrev S4096x4x128 : Shape := ⟨3, ![4096, 4, 128]⟩
abbrev S4096x4 : Shape := ⟨2, ![4096, 4]⟩
abbrev S4096x4x1 : Shape := ⟨3, ![4096, 4, 1]⟩
abbrev S32x4x128x64 : Shape := ⟨4, ![32, 4, 128, 64]⟩

abbrev nBuf : Space → Nat
  | .hbm => 606
  | .vmem => 0
  | .smem => 0
  | _ => 0

abbrev hbmTy0_0 (i : Nat) : BufTy := match i % 128 with
  | 0 => ⟨S4096x256, .f32⟩
  | 1 => ⟨S4096x256, .f32⟩
  | 2 => ⟨S4096x7424, .f32⟩
  | 3 => ⟨S4096x512, .f32⟩
  | 4 => ⟨S4096x512, .f32⟩
  | 5 => ⟨S4096x512, .f32⟩
  | 6 => ⟨S4, .f32⟩
  | 7 => ⟨S_, .f32⟩
  | 8 => ⟨S4, .f32⟩
  | 9 => ⟨S4, .f32⟩
  | 10 => ⟨S_, .f32⟩
  | 11 => ⟨S4, .f32⟩
  | 12 => ⟨S4, .f32⟩
  | 13 => ⟨S4, .f32⟩
  | 14 => ⟨S4, .f32⟩
  | 15 => ⟨S128, .f32⟩
  | 16 => ⟨S128x1, .f32⟩
  | 17 => ⟨S1x128, .f32⟩
  | 18 => ⟨S128x128, .f32⟩
  | 19 => ⟨S128x128, .f32⟩
  | 20 => ⟨S128x128, .f32⟩
  | 21 => ⟨S_, .f32⟩
  | 22 => ⟨S128x128, .f32⟩
  | 23 => ⟨S128x128, .i1⟩
  | 24 => ⟨S4x1x1, .f32⟩
  | 25 => ⟨S_, .f32⟩
  | 26 => ⟨S128x128, .f32⟩
  | 27 => ⟨S128x128, .f32⟩
  | 28 => ⟨S1x128x128, .f32⟩
  | 29 => ⟨S4x128x128, .f32⟩
  | 30 => ⟨S4x128x128, .f32⟩
  | 31 => ⟨S4x128x128, .f32⟩
  | 32 => ⟨S4x128x128, .f32⟩
  | 33 => ⟨S_, .f32⟩
  | 34 => ⟨S_, .f32⟩
  | 35 => ⟨S4x128x128, .i1⟩
  | 36 => ⟨S4x128x128, .f32⟩
  | 37 => ⟨S4x128x128, .f32⟩
  | 38 => ⟨S1x4, .f32⟩
  | 39 => ⟨S_, .f32⟩
  | 40 => ⟨S128, .f32⟩
  | 41 => ⟨S128, .f32⟩
  | 42 => ⟨S128x1, .f32⟩
  | 43 => ⟨S128x4, .f32⟩
  | 44 => ⟨S128x4, .f32⟩
  | 45 => ⟨S128x4, .f32⟩
  | 46 => ⟨S128x4, .f32⟩
  | 47 => ⟨S1x4, .f32⟩
  | 48 => ⟨S_, .f32⟩
  | 49 => ⟨S128, .f32⟩
  | 50 => ⟨S128, .f32⟩
  | 51 => ⟨S128x1, .f32⟩
  | 52 => ⟨S128x4, .f32⟩
  | 53 => ⟨S128x4, .f32⟩
  | 54 => ⟨S128x4, .f32⟩
  | 55 => ⟨S128x4, .f32⟩
  | 56 => ⟨S_, .f32⟩
  | 57 => ⟨S4, .f32⟩
  | 58 => ⟨S4, .f32⟩
  | 59 => ⟨S4, .f32⟩
  | 60 => ⟨S32x128x4x64, .f32⟩
  | 61 => ⟨S32x128x4x64, .f32⟩
  | 62 => ⟨S32x128x4x128, .f32⟩
  | 63 => ⟨S32x4x128x128, .f32⟩
  | 64 => ⟨S1x4x128x128, .f32⟩
  | 65 => ⟨S32x4x128x128, .f32⟩
  | 66 => ⟨S32x4x128x128, .f32⟩
  | 67 => ⟨S32x4x128x128, .f32⟩
  | 68 => ⟨S32x128x4x128, .f32⟩
  | 69 => ⟨S32x128x4x64, .f32⟩
  | 70 => ⟨S1x128x4x1, .f32⟩
  | 71 => ⟨S32x128x4x64, .f32⟩
  | 72 => ⟨S32x128x4x64, .f32⟩
  | 73 => ⟨S32x128x4x128, .f32⟩
  | 74 => ⟨S32x4x64x128, .f32⟩
  | 75 => ⟨S_, .f32⟩
  | 76 => ⟨S4x64x128, .f32⟩
  | 77 => ⟨S4x1x1, .f32⟩
  | 78 => ⟨S0x4x64x128, .f32⟩
  | 79 => ⟨S32x4x64x128, .f32⟩
  | 80 => ⟨S_, .f32⟩
  | 81 => ⟨S0x4x64x128, .f32⟩
  | 82 => ⟨S1x4x64x128, .f32⟩
  | 83 => ⟨S4x64x128, .f32⟩
  | 84 => ⟨S4x64x128, .f32⟩
  | 85 => ⟨S4x64x128, .f32⟩
  | 86 => ⟨S4x64x128, .f32⟩
  | 87 => ⟨S1x4x64x128, .f32⟩
  | 88 => ⟨S4x64x128, .f32⟩
  | 89 => ⟨S4x64x128, .f32⟩
  | 90 => ⟨S4x64x128, .f32⟩
  | 91 => ⟨S4x64x128, .f32⟩
  | 92 => ⟨S1x4x64x128, .f32⟩
  | 93 => ⟨S4x64x128, .f32⟩
  | 94 => ⟨S4x64x128, .f32⟩
  | 95 => ⟨S4x64x128, .f32⟩
  | 96 => ⟨S4x64x128, .f32⟩
  | 97 => ⟨S1x4x64x128, .f32⟩
  | 98 => ⟨S4x64x128, .f32⟩
  | 99 => ⟨S4x64x128, .f32⟩
  | 100 => ⟨S4x64x128, .f32⟩
  | 101 => ⟨S4x64x128, .f32⟩
  | 102 => ⟨S1x4x64x128, .f32⟩
  | 103 => ⟨S4x64x128, .f32⟩
  | 104 => ⟨S4x64x128, .f32⟩
  | 105 => ⟨S4x64x128, .f32⟩
  | 106 => ⟨S4x64x128, .f32⟩
  | 107 => ⟨S1x4x64x128, .f32⟩
  | 108 => ⟨S4x64x128, .f32⟩
  | 109 => ⟨S4x64x128, .f32⟩
  | 110 => ⟨S4x64x128, .f32⟩
  | 111 => ⟨S4x64x128, .f32⟩
  | 112 => ⟨S1x4x64x128, .f32⟩
  | 113 => ⟨S4x64x128, .f32⟩
  | 114 => ⟨S4x64x128, .f32⟩
  | 115 => ⟨S4x64x128, .f32⟩
  | 116 => ⟨S4x64x128, .f32⟩
  | 117 => ⟨S1x4x64x128, .f32⟩
  | 118 => ⟨S4x64x128, .f32⟩
  | 119 => ⟨S4x64x128, .f32⟩
  | 120 => ⟨S4x64x128, .f32⟩
  | 121 => ⟨S4x64x128, .f32⟩
  | 122 => ⟨S1x4x64x128, .f32⟩
  | 123 => ⟨S4x64x128, .f32⟩
  | 124 => ⟨S4x64x128, .f32⟩
  | 125 => ⟨S4x64x128, .f32⟩
  | 126 => ⟨S4x64x128, .f32⟩
  | 127 => ⟨S1x4x64x128, .f32⟩
  | _ => ⟨S4096x256, .f32⟩

abbrev hbmTy0_1 (i : Nat) : BufTy := match i % 128 with
  | 0 => ⟨S4x64x128, .f32⟩
  | 1 => ⟨S4x64x128, .f32⟩
  | 2 => ⟨S4x64x128, .f32⟩
  | 3 => ⟨S4x64x128, .f32⟩
  | 4 => ⟨S1x4x64x128, .f32⟩
  | 5 => ⟨S4x64x128, .f32⟩
  | 6 => ⟨S4x64x128, .f32⟩
  | 7 => ⟨S4x64x128, .f32⟩
  | 8 => ⟨S4x64x128, .f32⟩
  | 9 => ⟨S1x4x64x128, .f32⟩
  | 10 => ⟨S4x64x128, .f32⟩
  | 11 => ⟨S4x64x128, .f32⟩
  | 12 => ⟨S4x64x128, .f32⟩
  | 13 => ⟨S4x64x128, .f32⟩
  | 14 => ⟨S1x4x64x128, .f32⟩
  | 15 => ⟨S4x64x128, .f32⟩
  | 16 => ⟨S4x64x128, .f32⟩
  | 17 => ⟨S4x64x128, .f32⟩
  | 18 => ⟨S4x64x128, .f32⟩
  | 19 => ⟨S1x4x64x128, .f32⟩
  | 20 => ⟨S4x64x128, .f32⟩
  | 21 => ⟨S4x64x128, .f32⟩
  | 22 => ⟨S4x64x128, .f32⟩
  | 23 => ⟨S4x64x128, .f32⟩
  | 24 => ⟨S1x4x64x128, .f32⟩
  | 25 => ⟨S4x64x128, .f32⟩
  | 26 => ⟨S4x64x128, .f32⟩
  | 27 => ⟨S4x64x128, .f32⟩
  | 28 => ⟨S4x64x128, .f32⟩
  | 29 => ⟨S1x4x64x128, .f32⟩
  | 30 => ⟨S4x64x128, .f32⟩
  | 31 => ⟨S4x64x128, .f32⟩
  | 32 => ⟨S4x64x128, .f32⟩
  | 33 => ⟨S4x64x128, .f32⟩
  | 34 => ⟨S1x4x64x128, .f32⟩
  | 35 => ⟨S4x64x128, .f32⟩
  | 36 => ⟨S4x64x128, .f32⟩
  | 37 => ⟨S4x64x128, .f32⟩
  | 38 => ⟨S4x64x128, .f32⟩
  | 39 => ⟨S1x4x64x128, .f32⟩
  | 40 => ⟨S4x64x128, .f32⟩
  | 41 => ⟨S4x64x128, .f32⟩
  | 42 => ⟨S4x64x128, .f32⟩
  | 43 => ⟨S4x64x128, .f32⟩
  | 44 => ⟨S1x4x64x128, .f32⟩
  | 45 => ⟨S4x64x128, .f32⟩
  | 46 => ⟨S4x64x128, .f32⟩
  | 47 => ⟨S4x64x128, .f32⟩
  | 48 => ⟨S4x64x128, .f32⟩
  | 49 => ⟨S1x4x64x128, .f32⟩
  | 50 => ⟨S4x64x128, .f32⟩
  | 51 => ⟨S4x64x128, .f32⟩
  | 52 => ⟨S4x64x128, .f32⟩
  | 53 => ⟨S4x64x128, .f32⟩
  | 54 => ⟨S1x4x64x128, .f32⟩
  | 55 => ⟨S4x64x128, .f32⟩
  | 56 => ⟨S4x64x128, .f32⟩
  | 57 => ⟨S4x64x128, .f32⟩
  | 58 => ⟨S4x64x128, .f32⟩
  | 59 => ⟨S1x4x64x128, .f32⟩
  | 60 => ⟨S4x64x128, .f32⟩
  | 61 => ⟨S4x64x128, .f32⟩
  | 62 => ⟨S4x64x128, .f32⟩
  | 63 => ⟨S4x64x128, .f32⟩
  | 64 => ⟨S1x4x64x128, .f32⟩
  | 65 => ⟨S4x64x128, .f32⟩
  | 66 => ⟨S4x64x128, .f32⟩
  | 67 => ⟨S4x64x128, .f32⟩
  | 68 => ⟨S4x64x128, .f32⟩
  | 69 => ⟨S1x4x64x128, .f32⟩
  | 70 => ⟨S4x64x128, .f32⟩
  | 71 => ⟨S4x64x128, .f32⟩
  | 72 => ⟨S4x64x128, .f32⟩
  | 73 => ⟨S4x64x128, .f32⟩
  | 74 => ⟨S1x4x64x128, .f32⟩
  | 75 => ⟨S4x64x128, .f32⟩
  | 76 => ⟨S4x64x128, .f32⟩
  | 77 => ⟨S4x64x128, .f32⟩
  | 78 => ⟨S4x64x128, .f32⟩
  | 79 => ⟨S1x4x64x128, .f32⟩
  | 80 => ⟨S4x64x128, .f32⟩
  | 81 => ⟨S4x64x128, .f32⟩
  | 82 => ⟨S4x64x128, .f32⟩
  | 83 => ⟨S4x64x128, .f32⟩
  | 84 => ⟨S1x4x64x128, .f32⟩
  | 85 => ⟨S4x64x128, .f32⟩
  | 86 => ⟨S4x64x128, .f32⟩
  | 87 => ⟨S4x64x128, .f32⟩
  | 88 => ⟨S4x64x128, .f32⟩
  | 89 => ⟨S1x4x64x128, .f32⟩
  | 90 => ⟨S4x64x128, .f32⟩
  | 91 => ⟨S4x64x128, .f32⟩
  | 92 => ⟨S4x64x128, .f32⟩
  | 93 => ⟨S4x64x128, .f32⟩
  | 94 => ⟨S1x4x64x128, .f32⟩
  | 95 => ⟨S4x64x128, .f32⟩
  | 96 => ⟨S4x64x128, .f32⟩
  | 97 => ⟨S4x64x128, .f32⟩
  | 98 => ⟨S4x64x128, .f32⟩
  | 99 => ⟨S1x4x64x128, .f32⟩
  | 100 => ⟨S4x64x128, .f32⟩
  | 101 => ⟨S4x64x128, .f32⟩
  | 102 => ⟨S4x64x128, .f32⟩
  | 103 => ⟨S4x64x128, .f32⟩
  | 104 => ⟨S1x4x64x128, .f32⟩
  | 105 => ⟨S4x64x128, .f32⟩
  | 106 => ⟨S4x64x128, .f32⟩
  | 107 => ⟨S4x64x128, .f32⟩
  | 108 => ⟨S4x64x128, .f32⟩
  | 109 => ⟨S1x4x64x128, .f32⟩
  | 110 => ⟨S4x64x128, .f32⟩
  | 111 => ⟨S4x64x128, .f32⟩
  | 112 => ⟨S4x64x128, .f32⟩
  | 113 => ⟨S4x64x128, .f32⟩
  | 114 => ⟨S1x4x64x128, .f32⟩
  | 115 => ⟨S1x4x64x128, .f32⟩
  | 116 => ⟨S1x4x64x128, .f32⟩
  | 117 => ⟨S1x4x64x128, .f32⟩
  | 118 => ⟨S1x4x64x128, .f32⟩
  | 119 => ⟨S1x4x64x128, .f32⟩
  | 120 => ⟨S1x4x64x128, .f32⟩
  | 121 => ⟨S1x4x64x128, .f32⟩
  | 122 => ⟨S1x4x64x128, .f32⟩
  | 123 => ⟨S1x4x64x128, .f32⟩
  | 124 => ⟨S1x4x64x128, .f32⟩
  | 125 => ⟨S1x4x64x128, .f32⟩
  | 126 => ⟨S1x4x64x128, .f32⟩
  | 127 => ⟨S1x4x64x128, .f32⟩
  | _ => ⟨S4096x256, .f32⟩

abbrev hbmTy0_2 (i : Nat) : BufTy := match i % 128 with
  | 0 => ⟨S1x4x64x128, .f32⟩
  | 1 => ⟨S1x4x64x128, .f32⟩
  | 2 => ⟨S1x4x64x128, .f32⟩
  | 3 => ⟨S1x4x64x128, .f32⟩
  | 4 => ⟨S1x4x64x128, .f32⟩
  | 5 => ⟨S1x4x64x128, .f32⟩
  | 6 => ⟨S1x4x64x128, .f32⟩
  | 7 => ⟨S1x4x64x128, .f32⟩
  | 8 => ⟨S1x4x64x128, .f32⟩
  | 9 => ⟨S1x4x64x128, .f32⟩
  | 10 => ⟨S1x4x64x128, .f32⟩
  | 11 => ⟨S1x4x64x128, .f32⟩
  | 12 => ⟨S1x4x64x128, .f32⟩
  | 13 => ⟨S1x4x64x128, .f32⟩
  | 14 => ⟨S1x4x64x128, .f32⟩
  | 15 => ⟨S1x4x64x128, .f32⟩
  | 16 => ⟨S1x4x64x128, .f32⟩
  | 17 => ⟨S1x4x64x128, .f32⟩
  | 18 => ⟨S16x4x64x128, .f32⟩
  | 19 => ⟨S16x4x64x128, .f32⟩
  | 20 => ⟨S32x4x64x128, .f32⟩
  | 21 => ⟨S32x4x64x128, .f32⟩
  | 22 => ⟨S1x128x4x1, .f32⟩
  | 23 => ⟨S32x128x4x64, .f32⟩
  | 24 => ⟨S32x128x4x64, .f32⟩
  | 25 => ⟨S32x4x128x128, .f32⟩
  | 26 => ⟨S32x128x4x128, .f32⟩
  | 27 => ⟨S32x128x4x128, .f32⟩
  | 28 => ⟨S4096x4x128, .f32⟩
  | 29 => ⟨S_, .f32⟩
  | 30 => ⟨S4096x4, .f32⟩
  | 31 => ⟨S4096x4x1, .f32⟩
  | 32 => ⟨S_, .f32⟩
  | 33 => ⟨S4096x4x1, .f32⟩
  | 34 => ⟨S4096x4x1, .f32⟩
  | 35 => ⟨S4096x4x128, .f32⟩
  | 36 => ⟨S4096x4x128, .f32⟩
  | 37 => ⟨S4096x4x128, .f32⟩
  | 38 => ⟨S_, .f32⟩
  | 39 => ⟨S4096x4x128, .f32⟩
  | 40 => ⟨S4096x4x128, .f32⟩
  | 41 => ⟨S_, .f32⟩
  | 42 => ⟨S4096x4, .f32⟩
  | 43 => ⟨S4096x4x1, .f32⟩
  | 44 => ⟨S_, .f32⟩
  | 45 => ⟨S4096x4x1, .f32⟩
  | 46 => ⟨S4096x4x1, .f32⟩
  | 47 => ⟨S4096x4x128, .f32⟩
  | 48 => ⟨S4096x4x128, .f32⟩
  | 49 => ⟨S_, .f32⟩
  | 50 => ⟨S4096x4x1, .f32⟩
  | 51 => ⟨S4096x4x1, .f32⟩
  | 52 => ⟨S4096x4x1, .f32⟩
  | 53 => ⟨S4096x4x1, .f32⟩
  | 54 => ⟨S_, .f32⟩
  | 55 => ⟨S4096x4x1, .f32⟩
  | 56 => ⟨S4096x4x1, .f32⟩
  | 57 => ⟨S4096x4x128, .f32⟩
  | 58 => ⟨S4096x4x128, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S_, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S_, .f32⟩
  | 75 => ⟨S4x64x128, .f32⟩
  | 76 => ⟨S4096x512, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x4x128, .f32⟩
  | 83 => ⟨S4096x4x128, .f32⟩
  | 84 => ⟨S_, .f32⟩
  | 85 => ⟨S4096x4, .f32⟩
  | 86 => ⟨S4096x4x1, .f32⟩
  | 87 => ⟨S4096x4x128, .f32⟩
  | 88 => ⟨S4096x4x128, .f32⟩
  | 89 => ⟨S4096x4x1, .f32⟩
  | 90 => ⟨S4096x4x128, .f32⟩
  | 91 => ⟨S_, .f32⟩
  | 92 => ⟨S4096x4, .f32⟩
  | 93 => ⟨S4096x4x1, .f32⟩
  | 94 => ⟨S_, .f32⟩
  | 95 => ⟨S4096x4x1, .f32⟩
  | 96 => ⟨S4096x4x1, .f32⟩
  | 97 => ⟨S_, .f32⟩
  | 98 => ⟨S4096x4, .f32⟩
  | 99 => ⟨S4096x4x128, .f32⟩
  | 100 => ⟨S4096x4x128, .f32⟩
  | 101 => ⟨S4096x4x128, .f32⟩
  | 102 => ⟨S_, .f32⟩
  | 103 => ⟨S4096x4, .f32⟩
  | 104 => ⟨S4096x4x1, .f32⟩
  | 105 => ⟨S4096x4x128, .f32⟩
  | 106 => ⟨S4096x4x1, .f32⟩
  | 107 => ⟨S_, .f32⟩
  | 108 => ⟨S4096x4x1, .f32⟩
  | 109 => ⟨S4096x4x1, .f32⟩
  | 110 => ⟨S_, .f32⟩
  | 111 => ⟨S4096x4, .f32⟩
  | 112 => ⟨S4096x4x128, .f32⟩
  | 113 => ⟨S4096x4x128, .f32⟩
  | 114 => ⟨S32x128x4x128, .f32⟩
  | 115 => ⟨S32x4x128x128, .f32⟩
  | 116 => ⟨S32x4x128x64, .f32⟩
  | 117 => ⟨S32x128x4x64, .f32⟩
  | 118 => ⟨S32x4x128x64, .f32⟩
  | 119 => ⟨S32x4x64x128, .f32⟩
  | 120 => ⟨S32x128x4x64, .f32⟩
  | 121 => ⟨S32x128x4x64, .f32⟩
  | 122 => ⟨S_, .f32⟩
  | 123 => ⟨S4x64x128, .f32⟩
  | 124 => ⟨S32x4x64x128, .f32⟩
  | 125 => ⟨S0x4x64x128, .f32⟩
  | 126 => ⟨S_, .f32⟩
  | 127 => ⟨S0x4x64x128, .f32⟩
  | _ => ⟨S4096x256, .f32⟩

abbrev hbmTy0_3 (i : Nat) : BufTy := match i % 128 with
  | 0 => ⟨S1x4x64x128, .f32⟩
  | 1 => ⟨S4x64x128, .f32⟩
  | 2 => ⟨S4x64x128, .f32⟩
  | 3 => ⟨S4x64x128, .f32⟩
  | 4 => ⟨S4x64x128, .f32⟩
  | 5 => ⟨S1x4x64x128, .f32⟩
  | 6 => ⟨S4x64x128, .f32⟩
  | 7 => ⟨S4x64x128, .f32⟩
  | 8 => ⟨S4x64x128, .f32⟩
  | 9 => ⟨S4x64x128, .f32⟩
  | 10 => ⟨S1x4x64x128, .f32⟩
  | 11 => ⟨S4x64x128, .f32⟩
  | 12 => ⟨S4x64x128, .f32⟩
  | 13 => ⟨S4x64x128, .f32⟩
  | 14 => ⟨S4x64x128, .f32⟩
  | 15 => ⟨S1x4x64x128, .f32⟩
  | 16 => ⟨S4x64x128, .f32⟩
  | 17 => ⟨S4x64x128, .f32⟩
  | 18 => ⟨S4x64x128, .f32⟩
  | 19 => ⟨S4x64x128, .f32⟩
  | 20 => ⟨S1x4x64x128, .f32⟩
  | 21 => ⟨S4x64x128, .f32⟩
  | 22 => ⟨S4x64x128, .f32⟩
  | 23 => ⟨S4x64x128, .f32⟩
  | 24 => ⟨S4x64x128, .f32⟩
  | 25 => ⟨S1x4x64x128, .f32⟩
  | 26 => ⟨S4x64x128, .f32⟩
  | 27 => ⟨S4x64x128, .f32⟩
  | 28 => ⟨S4x64x128, .f32⟩
  | 29 => ⟨S4x64x128, .f32⟩
  | 30 => ⟨S1x4x64x128, .f32⟩
  | 31 => ⟨S4x64x128, .f32⟩
  | 32 => ⟨S4x64x128, .f32⟩
  | 33 => ⟨S4x64x128, .f32⟩
  | 34 => ⟨S4x64x128, .f32⟩
  | 35 => ⟨S1x4x64x128, .f32⟩
  | 36 => ⟨S4x64x128, .f32⟩
  | 37 => ⟨S4x64x128, .f32⟩
  | 38 => ⟨S4x64x128, .f32⟩
  | 39 => ⟨S4x64x128, .f32⟩
  | 40 => ⟨S1x4x64x128, .f32⟩
  | 41 => ⟨S4x64x128, .f32⟩
  | 42 => ⟨S4x64x128, .f32⟩
  | 43 => ⟨S4x64x128, .f32⟩
  | 44 => ⟨S4x64x128, .f32⟩
  | 45 => ⟨S1x4x64x128, .f32⟩
  | 46 => ⟨S4x64x128, .f32⟩
  | 47 => ⟨S4x64x128, .f32⟩
  | 48 => ⟨S4x64x128, .f32⟩
  | 49 => ⟨S4x64x128, .f32⟩
  | 50 => ⟨S1x4x64x128, .f32⟩
  | 51 => ⟨S4x64x128, .f32⟩
  | 52 => ⟨S4x64x128, .f32⟩
  | 53 => ⟨S4x64x128, .f32⟩
  | 54 => ⟨S4x64x128, .f32⟩
  | 55 => ⟨S1x4x64x128, .f32⟩
  | 56 => ⟨S4x64x128, .f32⟩
  | 57 => ⟨S4x64x128, .f32⟩
  | 58 => ⟨S4x64x128, .f32⟩
  | 59 => ⟨S4x64x128, .f32⟩
  | 60 => ⟨S1x4x64x128, .f32⟩
  | 61 => ⟨S4x64x128, .f32⟩
  | 62 => ⟨S4x64x128, .f32⟩
  | 63 => ⟨S4x64x128, .f32⟩
  | 64 => ⟨S4x64x128, .f32⟩
  | 65 => ⟨S1x4x64x128, .f32⟩
  | 66 => ⟨S4x64x128, .f32⟩
  | 67 => ⟨S4x64x128, .f32⟩
  | 68 => ⟨S4x64x128, .f32⟩
  | 69 => ⟨S4x64x128, .f32⟩
  | 70 => ⟨S1x4x64x128, .f32⟩
  | 71 => ⟨S4x64x128, .f32⟩
  | 72 => ⟨S4x64x128, .f32⟩
  | 73 => ⟨S4x64x128, .f32⟩
  | 74 => ⟨S4x64x128, .f32⟩
  | 75 => ⟨S1x4x64x128, .f32⟩
  | 76 => ⟨S4x64x128, .f32⟩
  | 77 => ⟨S4x64x128, .f32⟩
  | 78 => ⟨S4x64x128, .f32⟩
  | 79 => ⟨S4x64x128, .f32⟩
  | 80 => ⟨S1x4x64x128, .f32⟩
  | 81 => ⟨S4x64x128, .f32⟩
  | 82 => ⟨S4x64x128, .f32⟩
  | 83 => ⟨S4x64x128, .f32⟩
  | 84 => ⟨S4x64x128, .f32⟩
  | 85 => ⟨S1x4x64x128, .f32⟩
  | 86 => ⟨S4x64x128, .f32⟩
  | 87 => ⟨S4x64x128, .f32⟩
  | 88 => ⟨S4x64x128, .f32⟩
  | 89 => ⟨S4x64x128, .f32⟩
  | 90 => ⟨S1x4x64x128, .f32⟩
  | 91 => ⟨S4x64x128, .f32⟩
  | 92 => ⟨S4x64x128, .f32⟩
  | 93 => ⟨S4x64x128, .f32⟩
  | 94 => ⟨S4x64x128, .f32⟩
  | 95 => ⟨S1x4x64x128, .f32⟩
  | 96 => ⟨S4x64x128, .f32⟩
  | 97 => ⟨S4x64x128, .f32⟩
  | 98 => ⟨S4x64x128, .f32⟩
  | 99 => ⟨S4x64x128, .f32⟩
  | 100 => ⟨S1x4x64x128, .f32⟩
  | 101 => ⟨S4x64x128, .f32⟩
  | 102 => ⟨S4x64x128, .f32⟩
  | 103 => ⟨S4x64x128, .f32⟩
  | 104 => ⟨S4x64x128, .f32⟩
  | 105 => ⟨S1x4x64x128, .f32⟩
  | 106 => ⟨S4x64x128, .f32⟩
  | 107 => ⟨S4x64x128, .f32⟩
  | 108 => ⟨S4x64x128, .f32⟩
  | 109 => ⟨S4x64x128, .f32⟩
  | 110 => ⟨S1x4x64x128, .f32⟩
  | 111 => ⟨S4x64x128, .f32⟩
  | 112 => ⟨S4x64x128, .f32⟩
  | 113 => ⟨S4x64x128, .f32⟩
  | 114 => ⟨S4x64x128, .f32⟩
  | 115 => ⟨S1x4x64x128, .f32⟩
  | 116 => ⟨S4x64x128, .f32⟩
  | 117 => ⟨S4x64x128, .f32⟩
  | 118 => ⟨S4x64x128, .f32⟩
  | 119 => ⟨S4x64x128, .f32⟩
  | 120 => ⟨S1x4x64x128, .f32⟩
  | 121 => ⟨S4x64x128, .f32⟩
  | 122 => ⟨S4x64x128, .f32⟩
  | 123 => ⟨S4x64x128, .f32⟩
  | 124 => ⟨S4x64x128, .f32⟩
  | 125 => ⟨S1x4x64x128, .f32⟩
  | 126 => ⟨S4x64x128, .f32⟩
  | 127 => ⟨S4x64x128, .f32⟩
  | _ => ⟨S4096x256, .f32⟩

abbrev hbmTy0_4 (i : Nat) : BufTy := match i % 128 with
  | 0 => ⟨S4x64x128, .f32⟩
  | 1 => ⟨S4x64x128, .f32⟩
  | 2 => ⟨S1x4x64x128, .f32⟩
  | 3 => ⟨S4x64x128, .f32⟩
  | 4 => ⟨S4x64x128, .f32⟩
  | 5 => ⟨S4x64x128, .f32⟩
  | 6 => ⟨S4x64x128, .f32⟩
  | 7 => ⟨S1x4x64x128, .f32⟩
  | 8 => ⟨S4x64x128, .f32⟩
  | 9 => ⟨S4x64x128, .f32⟩
  | 10 => ⟨S4x64x128, .f32⟩
  | 11 => ⟨S4x64x128, .f32⟩
  | 12 => ⟨S1x4x64x128, .f32⟩
  | 13 => ⟨S4x64x128, .f32⟩
  | 14 => ⟨S4x64x128, .f32⟩
  | 15 => ⟨S4x64x128, .f32⟩
  | 16 => ⟨S4x64x128, .f32⟩
  | 17 => ⟨S1x4x64x128, .f32⟩
  | 18 => ⟨S4x64x128, .f32⟩
  | 19 => ⟨S4x64x128, .f32⟩
  | 20 => ⟨S4x64x128, .f32⟩
  | 21 => ⟨S4x64x128, .f32⟩
  | 22 => ⟨S1x4x64x128, .f32⟩
  | 23 => ⟨S4x64x128, .f32⟩
  | 24 => ⟨S4x64x128, .f32⟩
  | 25 => ⟨S4x64x128, .f32⟩
  | 26 => ⟨S4x64x128, .f32⟩
  | 27 => ⟨S1x4x64x128, .f32⟩
  | 28 => ⟨S4x64x128, .f32⟩
  | 29 => ⟨S4x64x128, .f32⟩
  | 30 => ⟨S4x64x128, .f32⟩
  | 31 => ⟨S4x64x128, .f32⟩
  | 32 => ⟨S1x4x64x128, .f32⟩
  | 33 => ⟨S1x4x64x128, .f32⟩
  | 34 => ⟨S1x4x64x128, .f32⟩
  | 35 => ⟨S1x4x64x128, .f32⟩
  | 36 => ⟨S1x4x64x128, .f32⟩
  | 37 => ⟨S1x4x64x128, .f32⟩
  | 38 => ⟨S1x4x64x128, .f32⟩
  | 39 => ⟨S1x4x64x128, .f32⟩
  | 40 => ⟨S1x4x64x128, .f32⟩
  | 41 => ⟨S1x4x64x128, .f32⟩
  | 42 => ⟨S1x4x64x128, .f32⟩
  | 43 => ⟨S1x4x64x128, .f32⟩
  | 44 => ⟨S1x4x64x128, .f32⟩
  | 45 => ⟨S1x4x64x128, .f32⟩
  | 46 => ⟨S1x4x64x128, .f32⟩
  | 47 => ⟨S1x4x64x128, .f32⟩
  | 48 => ⟨S1x4x64x128, .f32⟩
  | 49 => ⟨S1x4x64x128, .f32⟩
  | 50 => ⟨S1x4x64x128, .f32⟩
  | 51 => ⟨S1x4x64x128, .f32⟩
  | 52 => ⟨S1x4x64x128, .f32⟩
  | 53 => ⟨S1x4x64x128, .f32⟩
  | 54 => ⟨S1x4x64x128, .f32⟩
  | 55 => ⟨S1x4x64x128, .f32⟩
  | 56 => ⟨S1x4x64x128, .f32⟩
  | 57 => ⟨S1x4x64x128, .f32⟩
  | 58 => ⟨S1x4x64x128, .f32⟩
  | 59 => ⟨S1x4x64x128, .f32⟩
  | 60 => ⟨S1x4x64x128, .f32⟩
  | 61 => ⟨S1x4x64x128, .f32⟩
  | 62 => ⟨S1x4x64x128, .f32⟩
  | 63 => ⟨S1x4x64x128, .f32⟩
  | 64 => ⟨S16x4x64x128, .f32⟩
  | 65 => ⟨S16x4x64x128, .f32⟩
  | 66 => ⟨S32x4x64x128, .f32⟩
  | 67 => ⟨S32x4x64x128, .f32⟩
  | 68 => ⟨S32x4x128x128, .f32⟩
  | 69 => ⟨S32x128x4x128, .f32⟩
  | 70 => ⟨S32x4x64x128, .f32⟩
  | 71 => ⟨S32x128x4x64, .f32⟩
  | 72 => ⟨S4096x512, .f32⟩
  | 73 => ⟨S32x128x4x64, .f32⟩
  | 74 => ⟨S32x128x4x64, .f32⟩
  | 75 => ⟨S4096x256, .f32⟩
  | 76 => ⟨S32x4x128x128, .f32⟩
  | 77 => ⟨S32x4x128x128, .f32⟩
  | 78 => ⟨S32x4x128x128, .f32⟩
  | 79 => ⟨S32x128x4x128, .f32⟩
  | 80 => ⟨S32x4x128x128, .f32⟩
  | 81 => ⟨S32x4x128x128, .f32⟩
  | 82 => ⟨S32x4x128x64, .f32⟩
  | 83 => ⟨S32x128x4x64, .f32⟩
  | 84 => ⟨S32x4x128x64, .f32⟩
  | 85 => ⟨S32x128x4x64, .f32⟩
  | 86 => ⟨S32x128x4x64, .f32⟩
  | 87 => ⟨S4096x512, .f32⟩
  | 88 => ⟨S4096x512, .f32⟩
  | 89 => ⟨S4096x256, .f32⟩
  | 90 => ⟨S4096x256, .f32⟩
  | 91 => ⟨S4096x256, .f32⟩
  | 92 => ⟨S4096x512, .bf16⟩
  | 93 => ⟨S4096x512, .bf16⟩
  | _ => ⟨S4096x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_cst_9 : Ref sig .tc := ⟨.hbm, 285, rfl⟩
abbrev main_v268 : Ref sig .tc := ⟨.hbm, 286, rfl⟩
abbrev main_v269 : Ref sig .tc := ⟨.hbm, 287, rfl⟩
abbrev main_cst_10 : Ref sig .tc := ⟨.hbm, 288, rfl⟩
abbrev main_v270 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_cst_11 : Ref sig .tc := ⟨.hbm, 294, rfl⟩
abbrev main_v275 : Ref sig .tc := ⟨.hbm, 295, rfl⟩
abbrev main_v276 : Ref sig .tc := ⟨.hbm, 296, rfl⟩
abbrev main_cst_12 : Ref sig .tc := ⟨.hbm, 297, rfl⟩
abbrev main_v277 : Ref sig .tc := ⟨.hbm, 298, rfl⟩
abbrev main_v278 : Ref sig .tc := ⟨.hbm, 299, rfl⟩
abbrev main_cst_13 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_cst_14 : Ref sig .tc := ⟨.hbm, 305, rfl⟩
abbrev main_v283 : Ref sig .tc := ⟨.hbm, 306, rfl⟩
abbrev main_v284 : Ref sig .tc := ⟨.hbm, 307, rfl⟩
abbrev main_v285 : Ref sig .tc := ⟨.hbm, 308, rfl⟩
abbrev main_v286 : Ref sig .tc := ⟨.hbm, 309, rfl⟩
abbrev main_cst_15 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_call1_v0 : Ref sig .tc := ⟨.hbm, 316, rfl⟩
abbrev main_call1_v1 : Ref sig .tc := ⟨.hbm, 317, rfl⟩
abbrev main_call1_cst : Ref sig .tc := ⟨.hbm, 318, rfl⟩
abbrev main_call1_v2 : Ref sig .tc := ⟨.hbm, 319, rfl⟩
abbrev main_call1_v3 : Ref sig .tc := ⟨.hbm, 320, rfl⟩
abbrev main_call1_cst_0 : Ref sig .tc := ⟨.hbm, 321, rfl⟩
abbrev main_call1_v4 : Ref sig .tc := ⟨.hbm, 322, rfl⟩
abbrev main_v292_2 : Ref sig .tc := ⟨.hbm, 323, rfl⟩
abbrev main_call1_cst_1 : Ref sig .tc := ⟨.hbm, 324, rfl⟩
abbrev main_call1_v6 : Ref sig .tc := ⟨.hbm, 325, rfl⟩
abbrev main_call1_v7 : Ref sig .tc := ⟨.hbm, 326, rfl⟩
abbrev main_v292_1 : Ref sig .tc := ⟨.hbm, 327, rfl⟩
abbrev main_v292_0 : Ref sig .tc := ⟨.hbm, 328, rfl⟩
abbrev main_v293 : Ref sig .tc := ⟨.hbm, 329, rfl⟩
abbrev main_cst_16 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_call2_v0 : Ref sig .tc := ⟨.hbm, 334, rfl⟩
abbrev main_call2_v1 : Ref sig .tc := ⟨.hbm, 335, rfl⟩
abbrev main_call2_v2 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_cst_17 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_cst_18 : Ref sig .tc := ⟨.hbm, 347, rfl⟩
abbrev main_v306 : Ref sig .tc := ⟨.hbm, 348, rfl⟩
abbrev main_v307 : Ref sig .tc := ⟨.hbm, 349, rfl⟩
abbrev main_cst_19 : Ref sig .tc := ⟨.hbm, 350, rfl⟩
abbrev main_v308 : Ref sig .tc := ⟨.hbm, 351, rfl⟩
abbrev main_v309 : Ref sig .tc := ⟨.hbm, 352, rfl⟩
abbrev main_cst_20 : Ref sig .tc := ⟨.hbm, 353, rfl⟩
abbrev main_v310 : Ref sig .tc := ⟨.hbm, 354, rfl⟩
abbrev main_v311 : Ref sig .tc := ⟨.hbm, 355, rfl⟩
abbrev main_v312 : Ref sig .tc := ⟨.hbm, 356, rfl⟩
abbrev main_v313 : Ref sig .tc := ⟨.hbm, 357, rfl⟩
abbrev main_cst_21 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_cst_22 : Ref sig .tc := ⟨.hbm, 363, rfl⟩
abbrev main_v318 : Ref sig .tc := ⟨.hbm, 364, rfl⟩
abbrev main_v319 : Ref sig .tc := ⟨.hbm, 365, rfl⟩
abbrev main_cst_23 : Ref sig .tc := ⟨.hbm, 366, rfl⟩
abbrev main_v320 : Ref sig .tc := ⟨.hbm, 367, rfl⟩
abbrev main_v321 : Ref sig .tc := ⟨.hbm, 368, rfl⟩
abbrev main_v322 : Ref sig .tc := ⟨.hbm, 369, rfl⟩
abbrev main_v323 : Ref sig .tc := ⟨.hbm, 370, rfl⟩
abbrev main_v324 : Ref sig .tc := ⟨.hbm, 371, rfl⟩
abbrev main_v325 : Ref sig .tc := ⟨.hbm, 372, rfl⟩
abbrev main_v326 : Ref sig .tc := ⟨.hbm, 373, rfl⟩
abbrev main_v327 : Ref sig .tc := ⟨.hbm, 374, rfl⟩
abbrev main_v328 : Ref sig .tc := ⟨.hbm, 375, rfl⟩
abbrev main_v329 : Ref sig .tc := ⟨.hbm, 376, rfl⟩
abbrev main_v330 : Ref sig .tc := ⟨.hbm, 377, rfl⟩
abbrev main_cst_24 : Ref sig .tc := ⟨.hbm, 378, rfl⟩
abbrev main_v331 : Ref sig .tc := ⟨.hbm, 379, rfl⟩
abbrev main_v332 : Ref sig .tc := ⟨.hbm, 380, rfl⟩
abbrev main_v333 : Ref sig .tc := ⟨.hbm, 381, rfl⟩
abbrev main_cst_25 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_v337 : Ref sig .tc := ⟨.hbm, 386, rfl⟩
abbrev main_v338 : Ref sig .tc := ⟨.hbm, 387, rfl⟩
abbrev main_v339 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_v347 : Ref sig .tc := ⟨.hbm, 396, rfl⟩
abbrev main_v348 : Ref sig .tc := ⟨.hbm, 397, rfl⟩
abbrev main_v349 : Ref sig .tc := ⟨.hbm, 398, rfl⟩
abbrev main_v350 : Ref sig .tc := ⟨.hbm, 399, rfl⟩
abbrev main_v351 : Ref sig .tc := ⟨.hbm, 400, rfl⟩
abbrev main_v352 : Ref sig .tc := ⟨.hbm, 401, rfl⟩
abbrev main_v353 : Ref sig .tc := ⟨.hbm, 402, rfl⟩
abbrev main_v354 : Ref sig .tc := ⟨.hbm, 403, rfl⟩
abbrev main_v355 : Ref sig .tc := ⟨.hbm, 404, rfl⟩
abbrev main_v356 : Ref sig .tc := ⟨.hbm, 405, rfl⟩
abbrev main_v357 : Ref sig .tc := ⟨.hbm, 406, rfl⟩
abbrev main_v358 : Ref sig .tc := ⟨.hbm, 407, rfl⟩
abbrev main_v359 : Ref sig .tc := ⟨.hbm, 408, rfl⟩
abbrev main_v360 : Ref sig .tc := ⟨.hbm, 409, rfl⟩
abbrev main_v361 : Ref sig .tc := ⟨.hbm, 410, rfl⟩
abbrev main_v362 : Ref sig .tc := ⟨.hbm, 411, rfl⟩
abbrev main_v363 : Ref sig .tc := ⟨.hbm, 412, rfl⟩
abbrev main_v364 : Ref sig .tc := ⟨.hbm, 413, rfl⟩
abbrev main_v365 : Ref sig .tc := ⟨.hbm, 414, rfl⟩
abbrev main_v366 : Ref sig .tc := ⟨.hbm, 415, rfl⟩
abbrev main_v367 : Ref sig .tc := ⟨.hbm, 416, rfl⟩
abbrev main_v368 : Ref sig .tc := ⟨.hbm, 417, rfl⟩
abbrev main_v369 : Ref sig .tc := ⟨.hbm, 418, rfl⟩
abbrev main_v370 : Ref sig .tc := ⟨.hbm, 419, rfl⟩
abbrev main_v371 : Ref sig .tc := ⟨.hbm, 420, rfl⟩
abbrev main_v372 : Ref sig .tc := ⟨.hbm, 421, rfl⟩
abbrev main_v373 : Ref sig .tc := ⟨.hbm, 422, rfl⟩
abbrev main_v374 : Ref sig .tc := ⟨.hbm, 423, rfl⟩
abbrev main_v375 : Ref sig .tc := ⟨.hbm, 424, rfl⟩
abbrev main_v376 : Ref sig .tc := ⟨.hbm, 425, rfl⟩
abbrev main_v377 : Ref sig .tc := ⟨.hbm, 426, rfl⟩
abbrev main_v378 : Ref sig .tc := ⟨.hbm, 427, rfl⟩
abbrev main_v379 : Ref sig .tc := ⟨.hbm, 428, rfl⟩
abbrev main_v380 : Ref sig .tc := ⟨.hbm, 429, rfl⟩
abbrev main_v381 : Ref sig .tc := ⟨.hbm, 430, rfl⟩
abbrev main_v382 : Ref sig .tc := ⟨.hbm, 431, rfl⟩
abbrev main_v383 : Ref sig .tc := ⟨.hbm, 432, rfl⟩
abbrev main_v384 : Ref sig .tc := ⟨.hbm, 433, rfl⟩
abbrev main_v385 : Ref sig .tc := ⟨.hbm, 434, rfl⟩
abbrev main_v386 : Ref sig .tc := ⟨.hbm, 435, rfl⟩
abbrev main_v387 : Ref sig .tc := ⟨.hbm, 436, rfl⟩
abbrev main_v388 : Ref sig .tc := ⟨.hbm, 437, rfl⟩
abbrev main_v389 : Ref sig .tc := ⟨.hbm, 438, rfl⟩
abbrev main_v390 : Ref sig .tc := ⟨.hbm, 439, rfl⟩
abbrev main_v391 : Ref sig .tc := ⟨.hbm, 440, rfl⟩
abbrev main_v392 : Ref sig .tc := ⟨.hbm, 441, rfl⟩
abbrev main_v393 : Ref sig .tc := ⟨.hbm, 442, rfl⟩
abbrev main_v394 : Ref sig .tc := ⟨.hbm, 443, rfl⟩
abbrev main_v395 : Ref sig .tc := ⟨.hbm, 444, rfl⟩
abbrev main_v396 : Ref sig .tc := ⟨.hbm, 445, rfl⟩
abbrev main_v397 : Ref sig .tc := ⟨.hbm, 446, rfl⟩
abbrev main_v398 : Ref sig .tc := ⟨.hbm, 447, rfl⟩
abbrev main_v399 : Ref sig .tc := ⟨.hbm, 448, rfl⟩
abbrev main_v400 : Ref sig .tc := ⟨.hbm, 449, rfl⟩
abbrev main_v401 : Ref sig .tc := ⟨.hbm, 450, rfl⟩
abbrev main_v402 : Ref sig .tc := ⟨.hbm, 451, rfl⟩
abbrev main_v403 : Ref sig .tc := ⟨.hbm, 452, rfl⟩
abbrev main_v404 : Ref sig .tc := ⟨.hbm, 453, rfl⟩
abbrev main_v405 : Ref sig .tc := ⟨.hbm, 454, rfl⟩
abbrev main_v406 : Ref sig .tc := ⟨.hbm, 455, rfl⟩
abbrev main_v407 : Ref sig .tc := ⟨.hbm, 456, rfl⟩
abbrev main_v408 : Ref sig .tc := ⟨.hbm, 457, rfl⟩
abbrev main_v409 : Ref sig .tc := ⟨.hbm, 458, rfl⟩
abbrev main_v410 : Ref sig .tc := ⟨.hbm, 459, rfl⟩
abbrev main_v411 : Ref sig .tc := ⟨.hbm, 460, rfl⟩
abbrev main_v412 : Ref sig .tc := ⟨.hbm, 461, rfl⟩
abbrev main_v413 : Ref sig .tc := ⟨.hbm, 462, rfl⟩
abbrev main_v414 : Ref sig .tc := ⟨.hbm, 463, rfl⟩
abbrev main_v415 : Ref sig .tc := ⟨.hbm, 464, rfl⟩
abbrev main_v416 : Ref sig .tc := ⟨.hbm, 465, rfl⟩
abbrev main_v417 : Ref sig .tc := ⟨.hbm, 466, rfl⟩
abbrev main_v418 : Ref sig .tc := ⟨.hbm, 467, rfl⟩
abbrev main_v419 : Ref sig .tc := ⟨.hbm, 468, rfl⟩
abbrev main_v420 : Ref sig .tc := ⟨.hbm, 469, rfl⟩
abbrev main_v421 : Ref sig .tc := ⟨.hbm, 470, rfl⟩
abbrev main_v422 : Ref sig .tc := ⟨.hbm, 471, rfl⟩
abbrev main_v423 : Ref sig .tc := ⟨.hbm, 472, rfl⟩
abbrev main_v424 : Ref sig .tc := ⟨.hbm, 473, rfl⟩
abbrev main_v425 : Ref sig .tc := ⟨.hbm, 474, rfl⟩
abbrev main_v426 : Ref sig .tc := ⟨.hbm, 475, rfl⟩
abbrev main_v427 : Ref sig .tc := ⟨.hbm, 476, rfl⟩
abbrev main_v428 : Ref sig .tc := ⟨.hbm, 477, rfl⟩
abbrev main_v429 : Ref sig .tc := ⟨.hbm, 478, rfl⟩
abbrev main_v430 : Ref sig .tc := ⟨.hbm, 479, rfl⟩
abbrev main_v431 : Ref sig .tc := ⟨.hbm, 480, rfl⟩
abbrev main_v432 : Ref sig .tc := ⟨.hbm, 481, rfl⟩
abbrev main_v433 : Ref sig .tc := ⟨.hbm, 482, rfl⟩
abbrev main_v434 : Ref sig .tc := ⟨.hbm, 483, rfl⟩
abbrev main_v435 : Ref sig .tc := ⟨.hbm, 484, rfl⟩
abbrev main_v436 : Ref sig .tc := ⟨.hbm, 485, rfl⟩
abbrev main_v437 : Ref sig .tc := ⟨.hbm, 486, rfl⟩
abbrev main_v438 : Ref sig .tc := ⟨.hbm, 487, rfl⟩
abbrev main_v439 : Ref sig .tc := ⟨.hbm, 488, rfl⟩
abbrev main_v440 : Ref sig .tc := ⟨.hbm, 489, rfl⟩
abbrev main_v441 : Ref sig .tc := ⟨.hbm, 490, rfl⟩
abbrev main_v442 : Ref sig .tc := ⟨.hbm, 491, rfl⟩
abbrev main_v443 : Ref sig .tc := ⟨.hbm, 492, rfl⟩
abbrev main_v444 : Ref sig .tc := ⟨.hbm, 493, rfl⟩
abbrev main_v445 : Ref sig .tc := ⟨.hbm, 494, rfl⟩
abbrev main_v446 : Ref sig .tc := ⟨.hbm, 495, rfl⟩
abbrev main_v447 : Ref sig .tc := ⟨.hbm, 496, rfl⟩
abbrev main_v448 : Ref sig .tc := ⟨.hbm, 497, rfl⟩
abbrev main_v449 : Ref sig .tc := ⟨.hbm, 498, rfl⟩
abbrev main_v450 : Ref sig .tc := ⟨.hbm, 499, rfl⟩
abbrev main_v451 : Ref sig .tc := ⟨.hbm, 500, rfl⟩
abbrev main_v452 : Ref sig .tc := ⟨.hbm, 501, rfl⟩
abbrev main_v453 : Ref sig .tc := ⟨.hbm, 502, rfl⟩
abbrev main_v454 : Ref sig .tc := ⟨.hbm, 503, rfl⟩
abbrev main_v455 : Ref sig .tc := ⟨.hbm, 504, rfl⟩
abbrev main_v456 : Ref sig .tc := ⟨.hbm, 505, rfl⟩
abbrev main_v457 : Ref sig .tc := ⟨.hbm, 506, rfl⟩
abbrev main_v458 : Ref sig .tc := ⟨.hbm, 507, rfl⟩
abbrev main_v459 : Ref sig .tc := ⟨.hbm, 508, rfl⟩
abbrev main_v460 : Ref sig .tc := ⟨.hbm, 509, rfl⟩
abbrev main_v461 : Ref sig .tc := ⟨.hbm, 510, rfl⟩
abbrev main_v462 : Ref sig .tc := ⟨.hbm, 511, rfl⟩
abbrev main_v463 : Ref sig .tc := ⟨.hbm, 512, rfl⟩
abbrev main_v464 : Ref sig .tc := ⟨.hbm, 513, rfl⟩
abbrev main_v465 : Ref sig .tc := ⟨.hbm, 514, rfl⟩
abbrev main_v466 : Ref sig .tc := ⟨.hbm, 515, rfl⟩
abbrev main_v467 : Ref sig .tc := ⟨.hbm, 516, rfl⟩
abbrev main_v468 : Ref sig .tc := ⟨.hbm, 517, rfl⟩
abbrev main_v469 : Ref sig .tc := ⟨.hbm, 518, rfl⟩
abbrev main_v470 : Ref sig .tc := ⟨.hbm, 519, rfl⟩
abbrev main_v471 : Ref sig .tc := ⟨.hbm, 520, rfl⟩
abbrev main_v472 : Ref sig .tc := ⟨.hbm, 521, rfl⟩
abbrev main_v473 : Ref sig .tc := ⟨.hbm, 522, rfl⟩
abbrev main_v474 : Ref sig .tc := ⟨.hbm, 523, rfl⟩
abbrev main_v475 : Ref sig .tc := ⟨.hbm, 524, rfl⟩
abbrev main_v476 : Ref sig .tc := ⟨.hbm, 525, rfl⟩
abbrev main_v477 : Ref sig .tc := ⟨.hbm, 526, rfl⟩
abbrev main_v478 : Ref sig .tc := ⟨.hbm, 527, rfl⟩
abbrev main_v479 : Ref sig .tc := ⟨.hbm, 528, rfl⟩
abbrev main_v480 : Ref sig .tc := ⟨.hbm, 529, rfl⟩
abbrev main_v481 : Ref sig .tc := ⟨.hbm, 530, rfl⟩
abbrev main_v482 : Ref sig .tc := ⟨.hbm, 531, rfl⟩
abbrev main_v483 : Ref sig .tc := ⟨.hbm, 532, rfl⟩
abbrev main_v484 : Ref sig .tc := ⟨.hbm, 533, rfl⟩
abbrev main_v485 : Ref sig .tc := ⟨.hbm, 534, rfl⟩
abbrev main_v486 : Ref sig .tc := ⟨.hbm, 535, rfl⟩
abbrev main_v487 : Ref sig .tc := ⟨.hbm, 536, rfl⟩
abbrev main_v488 : Ref sig .tc := ⟨.hbm, 537, rfl⟩
abbrev main_v489 : Ref sig .tc := ⟨.hbm, 538, rfl⟩
abbrev main_v490 : Ref sig .tc := ⟨.hbm, 539, rfl⟩
abbrev main_v491 : Ref sig .tc := ⟨.hbm, 540, rfl⟩
abbrev main_v492 : Ref sig .tc := ⟨.hbm, 541, rfl⟩
abbrev main_v493 : Ref sig .tc := ⟨.hbm, 542, rfl⟩
abbrev main_v494 : Ref sig .tc := ⟨.hbm, 543, rfl⟩
abbrev main_v495 : Ref sig .tc := ⟨.hbm, 544, rfl⟩
abbrev main_v496 : Ref sig .tc := ⟨.hbm, 545, rfl⟩
abbrev main_v497 : Ref sig .tc := ⟨.hbm, 546, rfl⟩
abbrev main_v498 : Ref sig .tc := ⟨.hbm, 547, rfl⟩
abbrev main_v499 : Ref sig .tc := ⟨.hbm, 548, rfl⟩
abbrev main_v500 : Ref sig .tc := ⟨.hbm, 549, rfl⟩
abbrev main_v501 : Ref sig .tc := ⟨.hbm, 550, rfl⟩
abbrev main_v502 : Ref sig .tc := ⟨.hbm, 551, rfl⟩
abbrev main_v503 : Ref sig .tc := ⟨.hbm, 552, rfl⟩
abbrev main_v504 : Ref sig .tc := ⟨.hbm, 553, rfl⟩
abbrev main_v505 : Ref sig .tc := ⟨.hbm, 554, rfl⟩
abbrev main_v506 : Ref sig .tc := ⟨.hbm, 555, rfl⟩
abbrev main_v507 : Ref sig .tc := ⟨.hbm, 556, rfl⟩
abbrev main_v508 : Ref sig .tc := ⟨.hbm, 557, rfl⟩
abbrev main_v509 : Ref sig .tc := ⟨.hbm, 558, rfl⟩
abbrev main_v510 : Ref sig .tc := ⟨.hbm, 559, rfl⟩
abbrev main_v511 : Ref sig .tc := ⟨.hbm, 560, rfl⟩
abbrev main_v512 : Ref sig .tc := ⟨.hbm, 561, rfl⟩
abbrev main_v513 : Ref sig .tc := ⟨.hbm, 562, rfl⟩
abbrev main_v514 : Ref sig .tc := ⟨.hbm, 563, rfl⟩
abbrev main_v515 : Ref sig .tc := ⟨.hbm, 564, rfl⟩
abbrev main_v516 : Ref sig .tc := ⟨.hbm, 565, rfl⟩
abbrev main_v517 : Ref sig .tc := ⟨.hbm, 566, rfl⟩
abbrev main_v518 : Ref sig .tc := ⟨.hbm, 567, rfl⟩
abbrev main_v519 : Ref sig .tc := ⟨.hbm, 568, rfl⟩
abbrev main_v520 : Ref sig .tc := ⟨.hbm, 569, rfl⟩
abbrev main_v521 : Ref sig .tc := ⟨.hbm, 570, rfl⟩
abbrev main_v522 : Ref sig .tc := ⟨.hbm, 571, rfl⟩
abbrev main_v523 : Ref sig .tc := ⟨.hbm, 572, rfl⟩
abbrev main_v524 : Ref sig .tc := ⟨.hbm, 573, rfl⟩
abbrev main_v525 : Ref sig .tc := ⟨.hbm, 574, rfl⟩
abbrev main_v526 : Ref sig .tc := ⟨.hbm, 575, rfl⟩
abbrev main_v527 : Ref sig .tc := ⟨.hbm, 576, rfl⟩
abbrev main_v528 : Ref sig .tc := ⟨.hbm, 577, rfl⟩
abbrev main_v529 : Ref sig .tc := ⟨.hbm, 578, rfl⟩
abbrev main_v530 : Ref sig .tc := ⟨.hbm, 579, rfl⟩
abbrev main_v531 : Ref sig .tc := ⟨.hbm, 580, rfl⟩
abbrev main_v532 : Ref sig .tc := ⟨.hbm, 581, rfl⟩
abbrev main_v533 : Ref sig .tc := ⟨.hbm, 582, rfl⟩
abbrev main_v534 : Ref sig .tc := ⟨.hbm, 583, rfl⟩
abbrev main_v535 : Ref sig .tc := ⟨.hbm, 584, rfl⟩
abbrev main_v536 : Ref sig .tc := ⟨.hbm, 585, rfl⟩
abbrev main_v537 : Ref sig .tc := ⟨.hbm, 586, rfl⟩
abbrev main_v538 : Ref sig .tc := ⟨.hbm, 587, rfl⟩
abbrev main_v539 : Ref sig .tc := ⟨.hbm, 588, rfl⟩
abbrev main_v540 : Ref sig .tc := ⟨.hbm, 589, rfl⟩
abbrev main_v541 : Ref sig .tc := ⟨.hbm, 590, rfl⟩
abbrev main_v542 : Ref sig .tc := ⟨.hbm, 591, rfl⟩
abbrev main_v543 : Ref sig .tc := ⟨.hbm, 592, rfl⟩
abbrev main_v544 : Ref sig .tc := ⟨.hbm, 593, rfl⟩
abbrev main_v545 : Ref sig .tc := ⟨.hbm, 594, rfl⟩
abbrev main_v546 : Ref sig .tc := ⟨.hbm, 595, rfl⟩
abbrev main_v547 : Ref sig .tc := ⟨.hbm, 596, rfl⟩
abbrev main_v548 : Ref sig .tc := ⟨.hbm, 597, rfl⟩
abbrev main_v549 : Ref sig .tc := ⟨.hbm, 598, rfl⟩
abbrev main_v550 : Ref sig .tc := ⟨.hbm, 599, rfl⟩
abbrev main_v551 : Ref sig .tc := ⟨.hbm, 600, rfl⟩
abbrev main_v552 : Ref sig .tc := ⟨.hbm, 601, rfl⟩
abbrev main_v553 : Ref sig .tc := ⟨.hbm, 602, rfl⟩
abbrev main_v554 : Ref sig .tc := ⟨.hbm, 603, rfl⟩
abbrev main_v555 : Ref sig .tc := ⟨.hbm, 604, rfl⟩
abbrev main_v556 : Ref sig .tc := ⟨.hbm, 605, rfl⟩

abbrev nD : Nat := 1
abbrev τ : Topo := Topo.v7x

variable {F : FTy → Type} [FloatOps F]
-- ==== Mixer.lean ====
abbrev S4096x1024 : Shape := ⟨2, ![4096, 1024]⟩
abbrev S1024x4096 : Shape := ⟨2, ![1024, 4096]⟩
abbrev S4096x4096 : Shape := ⟨2, ![4096, 4096]⟩
abbrev S512x1024 : Shape := ⟨2, ![512, 1024]⟩
abbrev S1024x2048 : Shape := ⟨2, ![1024, 2048]⟩
abbrev S512x2048 : Shape := ⟨2, ![512, 2048]⟩
abbrev S512x4096 : Shape := ⟨2, ![512, 4096]⟩
abbrev S2048x1024 : Shape := ⟨2, ![2048, 1024]⟩
abbrev S4096x512 : Shape := ⟨2, ![4096, 512]⟩

abbrev nBuf : Space → Nat
  | .hbm => 11
  | .vmem => 37
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x4096, .f32⟩
  | .hbm, ⟨5, _⟩ => ⟨S4096x4096, .bf16⟩
  | .hbm, ⟨6, _⟩ => ⟨S4096x1024, .f32⟩
  | .hbm, ⟨7, _⟩ => ⟨S4096x4096, .bf16⟩
  | .hbm, ⟨8, _⟩ => ⟨S4096x1024, .f32⟩
  | .hbm, ⟨9, _⟩ => ⟨S4096x1024, .f32⟩
  | .hbm, ⟨10, _⟩ => ⟨S1024x4096, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S512x4096, .bf16⟩
  | .local _ .vmem, ⟨9, _⟩ => ⟨S512x4096, .bf16⟩
  | .local _ .vmem, ⟨10, _⟩ => ⟨S4096x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S2048x1024, .bf16⟩
  | .local _ .vmem, ⟨16, _⟩ => ⟨S2048x1024, .bf16⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | .local _ .vmem, ⟨21, _⟩ => ⟨S4096x512, .bf16⟩
  | .local _ .vmem, ⟨22, _⟩ => ⟨S4096x512, .bf16⟩
  | .local _ .vmem, ⟨23, _⟩ => ⟨S4096x1024, .bf16⟩
  | .local _ .vmem, ⟨24, _⟩ => ⟨S512x1024, .f32⟩
  | .local _ .vmem, ⟨25, _⟩ => ⟨S512x1024, .f32⟩
  | .local _ .vmem, ⟨26, _⟩ => ⟨S512x4096, .bf16⟩
  | .local _ .vmem, ⟨27, _⟩ => ⟨S512x4096, .bf16⟩
  | .local _ .vmem, ⟨28, _⟩ => ⟨S1024x4096, .bf16⟩
  | .local _ .vmem, ⟨29, _⟩ => ⟨S512x1024, .f32⟩
  | .local _ .vmem, ⟨30, _⟩ => ⟨S512x1024, .f32⟩
  | .local _ .vmem, ⟨31, _⟩ => ⟨S4096x512, .bf16⟩
  | .local _ .vmem, ⟨32, _⟩ => ⟨S4096x512, .bf16⟩
  | .local _ .vmem, ⟨33, _⟩ => ⟨S4096x1024, .bf16⟩
  | .local _ .vmem, ⟨34, _⟩ => ⟨S4096x1024, .bf16⟩
  | .local _ .vmem, ⟨35, _⟩ => ⟨S512x1024, .f32⟩
  | .local _ .vmem, ⟨36, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S1024x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== MixerReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x1024, .f32⟩
  | .hbm, ⟨21, _⟩ => ⟨S4096x1024, .f32⟩
  | .hbm, ⟨22, _⟩ => ⟨S1024x4096, .f32⟩
  | .hbm, ⟨23, _⟩ => ⟨S4096x1024, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S1024x4096, .f32⟩
  | .hbm, ⟨31, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Projection.lean ====
abbrev S4096x1024 : Shape := ⟨2, ![4096, 1024]⟩
abbrev S1024x7424 : Shape := ⟨2, ![1024, 7424]⟩
abbrev S4096x7424 : Shape := ⟨2, ![4096, 7424]⟩
abbrev S512x1024 : Shape := ⟨2, ![512, 1024]⟩
abbrev S1024x3712 : Shape := ⟨2, ![1024, 3712]⟩
abbrev S512x3712 : Shape := ⟨2, ![512, 3712]⟩
abbrev S512x7424 : Shape := ⟨2, ![512, 7424]⟩
abbrev S512x512 : Shape := ⟨2, ![512, 512]⟩
abbrev S4096x512 : Shape := ⟨2, ![4096, 512]⟩
abbrev S4096x256 : Shape := ⟨2, ![4096, 256]⟩
abbrev S512x256 : Shape := ⟨2, ![512, 256]⟩

abbrev nBuf : Space → Nat
  | .hbm => 6
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S1024x7424, .bf16⟩
  | .hbm, ⟨2, _⟩ => ⟨S4096x7424, .bf16⟩
  | .hbm, ⟨3, _⟩ => ⟨S4096x7424, .f32⟩
  | .hbm, ⟨4, _⟩ => ⟨S4096x1024, .f32⟩
  | .hbm, ⟨5, _⟩ => ⟨S1024x7424, .f32⟩
  | .local _ .vmem, ⟨0, _⟩ => ⟨S512x1024, .bf16⟩
  | .local _ .vmem, ⟨1, _⟩ => ⟨S512x1024, .bf16⟩
  | .local _ .vmem, ⟨2, _⟩ => ⟨S1024x3712, .bf16⟩
  | .local _ .vmem, ⟨3, _⟩ => ⟨S1024x3712, .bf16⟩
  | .local _ .vmem, ⟨4, _⟩ => ⟨S512x3712, .f32⟩
  | .local _ .vmem, ⟨5, _⟩ => ⟨S512x3712, .f32⟩
  | .local _ .vmem, ⟨6, _⟩ => ⟨S512x7424, .bf16⟩
  | .local _ .vmem, ⟨7, _⟩ => ⟨S512x7424, .bf16⟩
  | .local _ .vmem, ⟨8, _⟩ => ⟨S512x7424, .bf16⟩
  | .local _ .vmem, ⟨9, _⟩ => ⟨S512x7424, .bf16⟩
  | .local _ .vmem, ⟨10, _⟩ => ⟨S512x512, .f32⟩
  | .local _ .vmem, ⟨11, _⟩ => ⟨S512x512, .f32⟩
  | .local _ .vmem, ⟨12, _⟩ => ⟨S4096x512, .bf16⟩
  | .local _ .vmem, ⟨13, _⟩ => ⟨S4096x512, .bf16⟩
  | .local _ .vmem, ⟨14, _⟩ => ⟨S4096x256, .bf16⟩
  | .local _ .vmem, ⟨15, _⟩ => ⟨S4096x256, .bf16⟩
  | .local _ .vmem, ⟨16, _⟩ => ⟨S512x256, .f32⟩
  | .local _ .vmem, ⟨17, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x3712 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x7424 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x7424 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 29], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ProjectionReferenceIdeal.lean ====
abbrev S4096x1024 : Shape := ⟨2, ![4096, 1024]⟩
abbrev S1024x7424 : Shape := ⟨2, ![1024, 7424]⟩
abbrev S4096x7424 : Shape := ⟨2, ![4096, 7424]⟩
abbrev S7424x1024 : Shape := ⟨2, ![7424, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x7424, .bf16⟩
  | .hbm, ⟨2, _⟩ => ⟨S4096x7424, .bf16⟩
  | .hbm, ⟨3, _⟩ => ⟨S4096x1024, .f32⟩
  | .hbm, ⟨4, _⟩ => ⟨S1024x7424, .f32⟩
  | .hbm, ⟨5, _⟩ => ⟨S4096x7424, .f32⟩
  | .hbm, ⟨6, _⟩ => ⟨S4096x7424, .f32⟩
  | .hbm, ⟨7, _⟩ => ⟨S7424x1024, .f32⟩
  | .hbm, ⟨8, _⟩ => ⟨S1024x7424, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Merge.lean ====
abbrev S4096x512 : Shape := ⟨2, ![4096, 512]⟩
abbrev S512x1024 : Shape := ⟨2, ![512, 1024]⟩
abbrev S4096x7424 : Shape := ⟨2, ![4096, 7424]⟩
abbrev S1024x1024 : Shape := ⟨2, ![1024, 1024]⟩
abbrev S4096x1024 : Shape := ⟨2, ![4096, 1024]⟩
abbrev S1024x512 : Shape := ⟨2, ![1024, 512]⟩
abbrev S512x256 : Shape := ⟨2, ![512, 256]⟩
abbrev S1024x256 : Shape := ⟨2, ![1024, 256]⟩

abbrev nBuf : Space → Nat
  | .hbm => 15
  | .vmem => 41
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S4096x7424, .f32⟩
  | .hbm, ⟨9, _⟩ => ⟨S1024x1024, .bf16⟩
  | .hbm, ⟨10, _⟩ => ⟨S4096x1024, .bf16⟩
  | .hbm, ⟨11, _⟩ => ⟨S4096x1024, .bf16⟩
  | .hbm, ⟨12, _⟩ => ⟨S4096x1024, .f32⟩
  | .hbm, ⟨13, _⟩ => ⟨S4096x1024, .f32⟩
  | .hbm, ⟨14, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .bf16⟩
  | .local _ .vmem, ⟨25, _⟩ => ⟨S1024x256, .bf16⟩
  | .local _ .vmem, ⟨26, _⟩ => ⟨S512x1024, .bf16⟩
  | .local _ .vmem, ⟨27, _⟩ => ⟨S512x1024, .bf16⟩
  | .local _ .vmem, ⟨28, _⟩ => ⟨S1024x1024, .bf16⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S1024x1024, .bf16⟩
  | .local _ .vmem, ⟨34, _⟩ => ⟨S512x1024, .f32⟩
  | .local _ .vmem, ⟨35, _⟩ => ⟨S512x1024, .f32⟩
  | .local _ .vmem, ⟨36, _⟩ => ⟨S4096x512, .bf16⟩
  | .local _ .vmem, ⟨37, _⟩ => ⟨S4096x512, .bf16⟩
  | .local _ .vmem, ⟨38, _⟩ => ⟨S4096x1024, .bf16⟩
  | .local _ .vmem, ⟨39, _⟩ => ⟨S512x1024, .f32⟩
  | .local _ .vmem, ⟨40, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg2_0 : Ref sig .tc := ⟨.vmem, 29, rfl⟩
abbrev cc1_stg2_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg2_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg2_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc1_sem0_0 : DmaSem sig := 26
abbrev cc1_sem0_1 : DmaSem sig := 27
abbrev cc1_sem1_0 : DmaSem sig := 28
abbrev cc1_sem2_0 : DmaSem sig := 29
abbrev cc1_sem2_1 : DmaSem sig := 30
abbrev cc2_sem0_0 : DmaSem sig := 31
abbrev cc2_sem0_1 : DmaSem sig := 32
abbrev cc2_sem1_0 : DmaSem sig := 33
abbrev cc2_sem2_0 : DmaSem sig := 34
abbrev cc2_sem2_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem2_1 : DmaSem sig := 40

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== MergeReferenceIdeal.lean ====
abbrev S4096x512 : Shape := ⟨2, ![4096, 512]⟩
abbrev S512x1024 : Shape := ⟨2, ![512, 1024]⟩
abbrev S4096x7424 : Shape := ⟨2, ![4096, 7424]⟩
abbrev S1024x1024 : Shape := ⟨2, ![1024, 1024]⟩
abbrev S4096x1024 : Shape := ⟨2, ![4096, 1024]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S4096x7424, .f32⟩
  | .hbm, ⟨9, _⟩ => ⟨S1024x1024, .bf16⟩
  | .hbm, ⟨10, _⟩ => ⟨S4096x1024, .bf16⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S1024x1024, .f32⟩
  | .hbm, ⟨67, _⟩ => ⟨S4096x1024, .f32⟩
  | .hbm, ⟨68, _⟩ => ⟨S4096x1024, .f32⟩
  | .hbm, ⟨69, _⟩ => ⟨S1024x1024, .f32⟩
  | .hbm, ⟨70, _⟩ => ⟨S1024x1024, .f32⟩
  | .hbm, ⟨71, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Branches.lean ====
abbrev S4096x512 : Shape := ⟨2, ![4096, 512]⟩
abbrev S512x1024 : Shape := ⟨2, ![512, 1024]⟩
abbrev S4096x7424 : Shape := ⟨2, ![4096, 7424]⟩
abbrev S4096x1024 : Shape := ⟨2, ![4096, 1024]⟩
abbrev S1024x512 : Shape := ⟨2, ![1024, 512]⟩
abbrev S512x256 : Shape := ⟨2, ![512, 256]⟩
abbrev S1024x256 : Shape := ⟨2, ![1024, 256]⟩
abbrev S512x512 : Shape := ⟨2, ![512, 512]⟩

abbrev nBuf : Space → Nat
  | .hbm => 26
  | .vmem => 74
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S4096x7424, .f32⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .bf16⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S1024x256, .bf16⟩
  | .local _ .vmem, ⟨31, _⟩ => ⟨S1024x256, .bf16⟩
  | .local _ .vmem, ⟨32, _⟩ => ⟨S1024x256, .bf16⟩
  | .local _ .vmem, ⟨33, _⟩ => ⟨S1024x256, .bf16⟩
  | .local _ .vmem, ⟨34, _⟩ => ⟨S1024x256, .bf16⟩
  | .local _ .vmem, ⟨35, _⟩ => ⟨S1024x256, .bf16⟩
  | .local _ .vmem, ⟨36, _⟩ => ⟨S1024x256, .bf16⟩
  | .local _ .vmem, ⟨37, _⟩ => ⟨S1024x256, .bf16⟩
  | .local _ .vmem, ⟨38, _⟩ => ⟨S1024x256, .bf16⟩
  | .local _ .vmem, ⟨39, _⟩ => ⟨S1024x256, .bf16⟩
  | .local _ .vmem, ⟨40, _⟩ => ⟨S1024x256, .bf16⟩
  | .local _ .vmem, ⟨41, _⟩ => ⟨S1024x256, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x512, .f32⟩
  | .local _ .vmem, ⟨46, _⟩ => ⟨S512x512, .f32⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S512x512, .f32⟩
  | .local _ .vmem, ⟨51, _⟩ => ⟨S512x512, .f32⟩
  | .local _ .vmem, ⟨52, _⟩ => ⟨S512x1024, .bf16⟩
  | .local _ .vmem, ⟨53, _⟩ => ⟨S512x1024, .bf16⟩
  | .local _ .vmem, ⟨54, _⟩ => ⟨S512x1024, .bf16⟩
  | .local _ .vmem, ⟨55, _⟩ => ⟨S512x512, .f32⟩
  | .local _ .vmem, ⟨56, _⟩ => ⟨S512x512, .f32⟩
  | .local _ .vmem, ⟨57, _⟩ => ⟨S512x1024, .bf16⟩
  | .local _ .vmem, ⟨58, _⟩ => ⟨S512x1024, .bf16⟩
  | .local _ .vmem, ⟨59, _⟩ => ⟨S512x1024, .bf16⟩
  | .local _ .vmem, ⟨60, _⟩ => ⟨S512x512, .f32⟩
  | .local _ .vmem, ⟨61, _⟩ => ⟨S512x512, .f32⟩
  | .local _ .vmem, ⟨62, _⟩ => ⟨S4096x512, .bf16⟩
  | .local _ .vmem, ⟨63, _⟩ => ⟨S4096x1024, .bf16⟩
  | .local _ .vmem, ⟨64, _⟩ => ⟨S512x1024, .f32⟩
  | .local _ .vmem, ⟨65, _⟩ => ⟨S4096x512, .bf16⟩
  | .local _ .vmem, ⟨66, _⟩ => ⟨S4096x1024, .bf16⟩
  | .local _ .vmem, ⟨67, _⟩ => ⟨S512x1024, .f32⟩
  | .local _ .vmem, ⟨68, _⟩ => ⟨S4096x512, .bf16⟩
  | .local _ .vmem, ⟨69, _⟩ => ⟨S4096x1024, .bf16⟩
  | .local _ .vmem, ⟨70, _⟩ => ⟨S512x1024, .f32⟩
  | .local _ .vmem, ⟨71, _⟩ => ⟨S4096x512, .bf16⟩
  | .local _ .vmem, ⟨72, _⟩ => ⟨S4096x1024, .bf16⟩
  | .local _ .vmem, ⟨73, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc1_stg0_0 : Ref sig .tc := ⟨.vmem, 42, rfl⟩
abbrev cc1_stg0_1 : Ref sig .tc := ⟨.vmem, 43, rfl⟩
abbrev cc1_stg1_0 : Ref sig .tc := ⟨.vmem, 44, rfl⟩
abbrev cc1_stg2_0 : Ref sig .tc := ⟨.vmem, 45, rfl⟩
abbrev cc1_stg2_1 : Ref sig .tc := ⟨.vmem, 46, rfl⟩
abbrev cc2_stg0_0 : Ref sig .tc := ⟨.vmem, 47, rfl⟩
abbrev cc2_stg0_1 : Ref sig .tc := ⟨.vmem, 48, rfl⟩
abbrev cc2_stg1_0 : Ref sig .tc := ⟨.vmem, 49, rfl⟩
abbrev cc2_stg2_0 : Ref sig .tc := ⟨.vmem, 50, rfl⟩
abbrev cc2_stg2_1 : Ref sig .tc := ⟨.vmem, 51, rfl⟩
abbrev cc3_stg0_0 : Ref sig .tc := ⟨.vmem, 52, rfl⟩
abbrev cc3_stg0_1 : Ref sig .tc := ⟨.vmem, 53, rfl⟩
abbrev cc3_stg1_0 : Ref sig .tc := ⟨.vmem, 54, rfl⟩
abbrev cc3_stg2_0 : Ref sig .tc := ⟨.vmem, 55, rfl⟩
abbrev cc3_stg2_1 : Ref sig .tc := ⟨.vmem, 56, rfl⟩
abbrev cc4_stg0_0 : Ref sig .tc := ⟨.vmem, 57, rfl⟩
abbrev cc4_stg0_1 : Ref sig .tc := ⟨.vmem, 58, rfl⟩
abbrev cc4_stg1_0 : Ref sig .tc := ⟨.vmem, 59, rfl⟩
abbrev cc4_stg2_0 : Ref sig .tc := ⟨.vmem, 60, rfl⟩
abbrev cc4_stg2_1 : Ref sig .tc := ⟨.vmem, 61, rfl⟩
abbrev cc5_stg0_0 : Ref sig .tc := ⟨.vmem, 62, rfl⟩
abbrev cc5_stg1_0 : Ref sig .tc := ⟨.vmem, 63, rfl⟩
abbrev cc5_stg2_0 : Ref sig .tc := ⟨.vmem, 64, rfl⟩
abbrev cc6_stg0_0 : Ref sig .tc := ⟨.vmem, 65, rfl⟩
abbrev cc6_stg1_0 : Ref sig .tc := ⟨.vmem, 66, rfl⟩
abbrev cc6_stg2_0 : Ref sig .tc := ⟨.vmem, 67, rfl⟩
abbrev cc7_stg0_0 : Ref sig .tc := ⟨.vmem, 68, rfl⟩
abbrev cc7_stg1_0 : Ref sig .tc := ⟨.vmem, 69, rfl⟩
abbrev cc7_stg2_0 : Ref sig .tc := ⟨.vmem, 70, rfl⟩
abbrev cc8_stg0_0 : Ref sig .tc := ⟨.vmem, 71, rfl⟩
abbrev cc8_stg1_0 : Ref sig .tc := ⟨.vmem, 72, rfl⟩
abbrev cc8_stg2_0 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc1_sem0_0 : DmaSem sig := 42
abbrev cc1_sem0_1 : DmaSem sig := 43
abbrev cc1_sem1_0 : DmaSem sig := 44
abbrev cc1_sem2_0 : DmaSem sig := 45
abbrev cc1_sem2_1 : DmaSem sig := 46
abbrev cc2_sem0_0 : DmaSem sig := 47
abbrev cc2_sem0_1 : DmaSem sig := 48
abbrev cc2_sem1_0 : DmaSem sig := 49
abbrev cc2_sem2_0 : DmaSem sig := 50
abbrev cc2_sem2_1 : DmaSem sig := 51
abbrev cc3_sem0_0 : DmaSem sig := 52
abbrev cc3_sem0_1 : DmaSem sig := 53
abbrev cc3_sem1_0 : DmaSem sig := 54
abbrev cc3_sem2_0 : DmaSem sig := 55
abbrev cc3_sem2_1 : DmaSem sig := 56
abbrev cc4_sem0_0 : DmaSem sig := 57
abbrev cc4_sem0_1 : DmaSem sig := 58
abbrev cc4_sem1_0 : DmaSem sig := 59
abbrev cc4_sem2_0 : DmaSem sig := 60
abbrev cc4_sem2_1 : DmaSem sig := 61
abbrev cc5_sem0_0 : DmaSem sig := 62
abbrev cc5_sem1_0 : DmaSem sig := 63
abbrev cc5_sem2_0 : DmaSem sig := 64
abbrev cc6_sem0_0 : DmaSem sig := 65
abbrev cc6_sem1_0 : DmaSem sig := 66
abbrev cc6_sem2_0 : DmaSem sig := 67
abbrev cc7_sem0_0 : DmaSem sig := 68
abbrev cc7_sem1_0 : DmaSem sig := 69
abbrev cc7_sem2_0 : DmaSem sig := 70
abbrev cc8_sem0_0 : DmaSem sig := 71
abbrev cc8_sem1_0 : DmaSem sig := 72
abbrev cc8_sem2_0 : DmaSem sig := 73

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S512x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S512x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S4096x512 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S512x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true]

abbrev grid6 : Pipeline.Grid := ⟨2, ![1, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S4096x512 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 1 → Memref sig .tc .vmem S4096x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S512x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true]

abbrev grid7 : Pipeline.Grid := ⟨2, ![1, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S4096x512 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 1 → Memref sig .tc .vmem S4096x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 1 → Memref sig .tc .vmem S512x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, true]

abbrev grid8 : Pipeline.Grid := ⟨2, ![1, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S4096x512 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 1 → Memref sig .tc .vmem S4096x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 1 → Memref sig .tc .vmem S512x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true]
-- ==== BranchesReferenceIdeal.lean ====
abbrev S4096x512 : Shape := ⟨2, ![4096, 512]⟩
abbrev S512x1024 : Shape := ⟨2, ![512, 1024]⟩
abbrev S4096x7424 : Shape := ⟨2, ![4096, 7424]⟩
abbrev S4096x1024 : Shape := ⟨2, ![4096, 1024]⟩
abbrev S_ : Shape := ⟨0, ![]⟩
abbrev S1024x512 : Shape := ⟨2, ![1024, 512]⟩

abbrev nBuf : Space → Nat
  | .hbm => 111
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S4096x7424, .f32⟩
  | .hbm, ⟨9, _⟩ => ⟨S4096x1024, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S1024x512, .f32⟩
  | .hbm, ⟨86, _⟩ => ⟨S512x1024, .f32⟩
  | .hbm, ⟨87, _⟩ => ⟨S4096x512, .f32⟩
  | .hbm, ⟨88, _⟩ => ⟨S4096x1024, .f32⟩
  | .hbm, ⟨89, _⟩ => ⟨S4096x1024, .f32⟩
  | .hbm, ⟨90, _⟩ => ⟨S1024x512, .f32⟩
  | .hbm, ⟨91, _⟩ => ⟨S512x1024, .f32⟩
  | .hbm, ⟨92, _⟩ => ⟨S4096x512, .f32⟩
  | .hbm, ⟨93, _⟩ => ⟨S4096x1024, .f32⟩
  | .hbm, ⟨94, _⟩ => ⟨S4096x1024, .f32⟩
  | .hbm, ⟨95, _⟩ => ⟨S1024x512, .f32⟩
  | .hbm, ⟨96, _⟩ => ⟨S512x1024, .f32⟩
  | .hbm, ⟨97, _⟩ => ⟨S4096x512, .f32⟩
  | .hbm, ⟨98, _⟩ => ⟨S4096x1024, .f32⟩
  | .hbm, ⟨99, _⟩ => ⟨S4096x1024, .f32⟩
  | .hbm, ⟨100, _⟩ => ⟨S1024x512, .f32⟩
  | .hbm, ⟨101, _⟩ => ⟨S512x1024, .f32⟩
  | .hbm, ⟨102, _⟩ => ⟨S4096x512, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .bf16⟩
  | .hbm, ⟨108, _⟩ => ⟨S4096x1024, .bf16⟩
  | .hbm, ⟨109, _⟩ => ⟨S4096x1024, .bf16⟩
  | .hbm, ⟨110, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩

abbrev nD : Nat := 1
abbrev τ : Topo := Topo.v7x

variable {F : FTy → Type} [FloatOps F]
-- ==== Glu.lean ====
abbrev S4096x512 : Shape := ⟨2, ![4096, 512]⟩
abbrev S512x1024 : Shape := ⟨2, ![512, 1024]⟩
abbrev S4096x1024 : Shape := ⟨2, ![4096, 1024]⟩
abbrev S512x512 : Shape := ⟨2, ![512, 512]⟩
abbrev S1024x1024 : Shape := ⟨2, ![1024, 1024]⟩
abbrev S1024x512 : Shape := ⟨2, ![1024, 512]⟩

abbrev nBuf : Space → Nat
  | .hbm => 8
  | .vmem => 23
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S4096x1024, .f32⟩
  | .hbm, ⟨4, _⟩ => ⟨S4096x512, .bf16⟩
  | .hbm, ⟨5, _⟩ => ⟨S4096x1024, .bf16⟩
  | .hbm, ⟨6, _⟩ => ⟨S4096x512, .f32⟩
  | .hbm, ⟨7, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S1024x1024, .f32⟩
  | .local _ .vmem, ⟨6, _⟩ => ⟨S1024x1024, .f32⟩
  | .local _ .vmem, ⟨7, _⟩ => ⟨S1024x512, .bf16⟩
  | .local _ .vmem, ⟨8, _⟩ => ⟨S1024x512, .bf16⟩
  | .local _ .vmem, ⟨9, _⟩ => ⟨S1024x1024, .f32⟩
  | .local _ .vmem, ⟨10, _⟩ => ⟨S1024x1024, .f32⟩
  | .local _ .vmem, ⟨11, _⟩ => ⟨S1024x512, .f32⟩
  | .local _ .vmem, ⟨12, _⟩ => ⟨S1024x512, .f32⟩
  | .local _ .vmem, ⟨13, _⟩ => ⟨S1024x1024, .bf16⟩
  | .local _ .vmem, ⟨14, _⟩ => ⟨S1024x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .f32⟩
  | .local _ .vmem, ⟨19, _⟩ => ⟨S512x512, .f32⟩
  | .local _ .vmem, ⟨20, _⟩ => ⟨S4096x512, .bf16⟩
  | .local _ .vmem, ⟨21, _⟩ => ⟨S4096x1024, .bf16⟩
  | .local _ .vmem, ⟨22, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S512x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S4096x512 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S512x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]
-- ==== GluReferenceIdeal.lean ====
abbrev S4096x512 : Shape := ⟨2, ![4096, 512]⟩
abbrev S512x1024 : Shape := ⟨2, ![512, 1024]⟩
abbrev S4096x1024 : Shape := ⟨2, ![4096, 1024]⟩
abbrev S_ : Shape := ⟨0, ![]⟩
abbrev S1024x512 : Shape := ⟨2, ![1024, 512]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .bf16⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x1024, .f32⟩
  | .hbm, ⟨26, _⟩ => ⟨S1024x512, .f32⟩
  | .hbm, ⟨27, _⟩ => ⟨S512x1024, .f32⟩
  | .hbm, ⟨28, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Up.lean ====
abbrev S4096x256 : Shape := ⟨2, ![4096, 256]⟩
abbrev S256x768 : Shape := ⟨2, ![256, 768]⟩
abbrev S4096x128 : Shape := ⟨2, ![4096, 128]⟩
abbrev S128x1024 : Shape := ⟨2, ![128, 1024]⟩
abbrev S4096x768 : Shape := ⟨2, ![4096, 768]⟩
abbrev S4096x1024 : Shape := ⟨2, ![4096, 1024]⟩
abbrev S512x256 : Shape := ⟨2, ![512, 256]⟩
abbrev S512x768 : Shape := ⟨2, ![512, 768]⟩
abbrev S512x128 : Shape := ⟨2, ![512, 128]⟩
abbrev S512x1024 : Shape := ⟨2, ![512, 1024]⟩

abbrev nBuf : Space → Nat
  | .hbm => 12
  | .vmem => 26
  | .smem => 0
  | _ => 0

abbrev bufTy : (tb : Table) → Fin (tcTables nBuf tb) → BufTy
  | .hbm, ⟨0, _⟩ => ⟨S4096x256, .bf16⟩
  | .hbm, ⟨1, _⟩ => ⟨S256x768, .bf16⟩
  | .hbm, ⟨2, _⟩ => ⟨S4096x128, .bf16⟩
  | .hbm, ⟨3, _⟩ => ⟨S128x1024, .bf16⟩
  | .hbm, ⟨4, _⟩ => ⟨S4096x768, .bf16⟩
  | .hbm, ⟨5, _⟩ => ⟨S4096x1024, .bf16⟩
  | .hbm, ⟨6, _⟩ => ⟨S4096x768, .f32⟩
  | .hbm, ⟨7, _⟩ => ⟨S4096x1024, .f32⟩
  | .hbm, ⟨8, _⟩ => ⟨S4096x256, .f32⟩
  | .hbm, ⟨9, _⟩ => ⟨S256x768, .f32⟩
  | .hbm, ⟨10, _⟩ => ⟨S4096x128, .f32⟩
  | .hbm, ⟨11, _⟩ => ⟨S128x1024, .f32⟩
  | .local _ .vmem, ⟨0, _⟩ => ⟨S512x256, .bf16⟩
  | .local _ .vmem, ⟨1, _⟩ => ⟨S512x256, .bf16⟩
  | .local _ .vmem, ⟨2, _⟩ => ⟨S256x768, .bf16⟩
  | .local _ .vmem, ⟨3, _⟩ => ⟨S512x768, .f32⟩
  | .local _ .vmem, ⟨4, _⟩ => ⟨S512x768, .f32⟩
  | .local _ .vmem, ⟨5, _⟩ => ⟨S512x128, .bf16⟩
  | .local _ .vmem, ⟨6, _⟩ => ⟨S512x128, .bf16⟩
  | .local _ .vmem, ⟨7, _⟩ => ⟨S128x1024, .bf16⟩
  | .local _ .vmem, ⟨8, _⟩ => ⟨S512x1024, .f32⟩
  | .local _ .vmem, ⟨9, _⟩ => ⟨S512x1024, .f32⟩
  | .local _ .vmem, ⟨10, _⟩ => ⟨S512x768, .bf16⟩
  | .local _ .vmem, ⟨11, _⟩ => ⟨S512x768, .bf16⟩
  | .local _ .vmem, ⟨12, _⟩ => ⟨S256x768, .bf16⟩
  | .local _ .vmem, ⟨13, _⟩ => ⟨S512x256, .f32⟩
  | .local _ .vmem, ⟨14, _⟩ => ⟨S512x256, .f32⟩
  | .local _ .vmem, ⟨15, _⟩ => ⟨S4096x256, .bf16⟩
  | .local _ .vmem, ⟨16, _⟩ => ⟨S4096x768, .bf16⟩
  | .local _ .vmem, ⟨17, _⟩ => ⟨S256x768, .f32⟩
  | .local _ .vmem, ⟨18, _⟩ => ⟨S512x1024, .bf16⟩
  | .local _ .vmem, ⟨19, _⟩ => ⟨S512x1024, .bf16⟩
  | .local _ .vmem, ⟨20, _⟩ => ⟨S128x1024, .bf16⟩
  | .local _ .vmem, ⟨21, _⟩ => ⟨S512x128, .f32⟩
  | .local _ .vmem, ⟨22, _⟩ => ⟨S512x128, .f32⟩
  | .local _ .vmem, ⟨23, _⟩ => ⟨S4096x128, .bf16⟩
  | .local _ .vmem, ⟨24, _⟩ => ⟨S4096x1024, .bf16⟩
  | .local _ .vmem, ⟨25, _⟩ => ⟨S128x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg1_0 : Ref sig .tc := ⟨.vmem, 24, rfl⟩
abbrev cc5_stg2_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem1_0 : DmaSem sig := 24
abbrev cc5_sem2_0 : DmaSem sig := 25

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S128x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S256x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S4096x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S4096x768 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S256x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev grid4 : Pipeline.Grid := ⟨2, ![8, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S128x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S4096x128 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S128x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true]
-- ==== UpReferenceIdeal.lean ====
abbrev S4096x256 : Shape := ⟨2, ![4096, 256]⟩
abbrev S256x768 : Shape := ⟨2, ![256, 768]⟩
abbrev S4096x128 : Shape := ⟨2, ![4096, 128]⟩
abbrev S128x1024 : Shape := ⟨2, ![128, 1024]⟩
abbrev S4096x768 : Shape := ⟨2, ![4096, 768]⟩
abbrev S4096x1024 : Shape := ⟨2, ![4096, 1024]⟩
abbrev S1024x128 : Shape := ⟨2, ![1024, 128]⟩
abbrev S768x256 : Shape := ⟨2, ![768, 256]⟩

abbrev nBuf : Space → Nat
  | .hbm => 20
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x768, .bf16⟩
  | .hbm, ⟨2, _⟩ => ⟨S4096x128, .bf16⟩
  | .hbm, ⟨3, _⟩ => ⟨S128x1024, .bf16⟩
  | .hbm, ⟨4, _⟩ => ⟨S4096x768, .bf16⟩
  | .hbm, ⟨5, _⟩ => ⟨S4096x1024, .bf16⟩
  | .hbm, ⟨6, _⟩ => ⟨S4096x256, .f32⟩
  | .hbm, ⟨7, _⟩ => ⟨S256x768, .f32⟩
  | .hbm, ⟨8, _⟩ => ⟨S4096x128, .f32⟩
  | .hbm, ⟨9, _⟩ => ⟨S128x1024, .f32⟩
  | .hbm, ⟨10, _⟩ => ⟨S4096x768, .f32⟩
  | .hbm, ⟨11, _⟩ => ⟨S4096x1024, .f32⟩
  | .hbm, ⟨12, _⟩ => ⟨S4096x768, .f32⟩
  | .hbm, ⟨13, _⟩ => ⟨S4096x1024, .f32⟩
  | .hbm, ⟨14, _⟩ => ⟨S1024x128, .f32⟩
  | .hbm, ⟨15, _⟩ => ⟨S128x1024, .f32⟩
  | .hbm, ⟨16, _⟩ => ⟨S4096x128, .f32⟩
  | .hbm, ⟨17, _⟩ => ⟨S768x256, .f32⟩
  | .hbm, ⟨18, _⟩ => ⟨S256x768, .f32⟩
  | .hbm, ⟨19, _⟩ => ⟨S4096x256, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.HeadMath.lean ====
/-
  THE MATHEMATICS OF ONE HEAD OF ONE CHUNK, over the extended reals and naming no program.

  Retention reads a chunk of 128 positions with a decay table between them and a state that sums the chunks before it:
  `y = s v + qq S`, with `s` the decayed scores and `qq` the weighted queries.  Its output goes through a norm without
  weights over the head's 128 lanes and is multiplied by a gate `g · σ(g)`.  Below are the gradients of all of it with
  respect to queries, keys, values, gate and state, given the gradient `dy` of the gated output and the gradient `dst`
  of the state after the chunk.
-/
module

public import Idealize.ShloMosaic.PureOps.Ideal

@[expose] public section

noncomputable section

open scoped BigOperators

namespace Cert.Proof

open Idealize.ShloMosaic

/-- What one head of one chunk is given. -/
@[ext] structure Head where
  dec : Fin 128 → Fin 128 → EReal
  qw : Fin 128 → EReal
  kw : Fin 128 → EReal
  q : Fin 128 → Fin 64 → EReal
  k : Fin 128 → Fin 64 → EReal
  v : Fin 128 → Fin 128 → EReal
  g : Fin 128 → Fin 128 → EReal
  dy : Fin 128 → Fin 128 → EReal
  prev : Fin 64 → Fin 128 → EReal
  dst : Fin 64 → Fin 128 → EReal
  cd : EReal

namespace Head

/-- A constant of the programs: the value of a 32-bit float word. -/
abbrev lit (b : BitVec 32) : EReal := Ideal.ofBits .f32 b
/-- Division by the number of lanes. -/
def per (x : EReal) : EReal := Ideal.div x (lit 0x43000000#32)

variable (H : Head)

/-- Decayed scores. -/
def s (r c : Fin 128) : EReal := (∑ d, H.q r d * H.k c d) * H.dec r c
/-- Weighted queries. -/
def qq (r : Fin 128) (d : Fin 64) : EReal := H.q r d * H.qw r
/-- The retention output. -/
def y (r e : Fin 128) : EReal := (∑ c, H.s r c * H.v c e) + ∑ d, H.qq r d * H.prev d e
/-- Its mean over the lanes. -/
def mean (r : Fin 128) : EReal := per (∑ e, H.y r e)
/-- The centred output. -/
def ce (r e : Fin 128) : EReal := H.y r e - H.mean r
/-- Variance plus epsilon. -/
def ve (r : Fin 128) : EReal := per (∑ e, H.ce r e * H.ce r e) + lit 0x358637BD#32
/-- Its reciprocal root. -/
def rs (r : Fin 128) : EReal := Ideal.rsqrt (H.ve r)
/-- The derivative of the reciprocal root. -/
def drs (r : Fin 128) : EReal := lit 0xBF000000#32 * Ideal.div (H.rs r) (H.ve r)
/-- The logistic of the gate. -/
def sg (r e : Fin 128) : EReal := Ideal.logistic (H.g r e)
/-- Gradient of the normed output. -/
def gy (r e : Fin 128) : EReal := H.g r e * H.sg r e * H.dy r e
/-- Gradient of the activated gate. -/
def gs (r e : Fin 128) : EReal := H.dy r e * (H.ce r e * H.rs r)
/-- Gradient of the gate. -/
def dg (r e : Fin 128) : EReal :=
  H.gs r e * H.sg r e + H.g r e * H.gs r e * (H.sg r e * (lit 0x3F800000#32 - H.sg r e))
/-- Gradient of the centred output through the scale. -/
def gc (r e : Fin 128) : EReal := H.gy r e * H.rs r
/-- Gradient of the variance, shared out over the lanes. -/
def gv (r : Fin 128) : EReal := per ((∑ e, H.ce r e * H.gy r e) * H.drs r)
/-- Gradient of the centred output through the variance. -/
def gq (r e : Fin 128) : EReal := H.gv r * (lit 0x40000000#32 * H.ce r e)
/-- Gradient of the mean, shared out over the lanes. -/
def gm (r : Fin 128) : EReal := per ((∑ e, -H.gc r e) + ∑ e, -H.gq r e)
/-- Gradient of the retention output. -/
def dyo (r e : Fin 128) : EReal := H.gc r e + H.gq r e + H.gm r
/-- Gradient of the scores. -/
def dsc (r c : Fin 128) : EReal := (∑ e, H.dyo r e * H.v c e) * H.dec r c
/-- Gradient of the queries. -/
def dq (r : Fin 128) (d : Fin 64) : EReal := (∑ e, H.dyo r e * H.prev d e) * H.qw r + ∑ c, H.dsc r c * H.k c d
/-- Gradient of the keys. -/
def dk (c : Fin 128) (d : Fin 64) : EReal := (∑ e, H.v c e * H.dst d e) * H.kw c + ∑ r, H.dsc r c * H.q r d
/-- Gradient of the values. -/
def dv (c e : Fin 128) : EReal := (∑ d, H.k c d * H.kw c * H.dst d e) + ∑ r, H.s r c * H.dyo r e
/-- What the chunk adds to the gradient of the state before it. -/
def up (d : Fin 64) (e : Fin 128) : EReal := ∑ r, H.qq r d * H.dyo r e
/-- Gradient of the state before the chunk. -/
def dprev (d : Fin 64) (e : Fin 128) : EReal := H.dst d e * H.cd + H.up d e

end Head

/-- The lane of a head's `d`-th query or key entry. -/
def lane64 (h : Fin 4) (d : Fin 64) : Fin 256 := ⟨64 * h.val + d.val, by omega⟩
/-- The lane of a head's `e`-th value entry. -/
def lane128 (h : Fin 4) (e : Fin 128) : Fin 512 := ⟨128 * h.val + e.val, by omega⟩
/-- The row of a chunk's `r`-th position. -/
def row (n : Fin 32) (r : Fin 128) : Fin 4096 := ⟨128 * n.val + r.val, by omega⟩

/-- What the whole sequence is given: 32 chunks of 128 positions, four heads. -/
@[ext] structure Arrays where
  dec : Fin 4 → Fin 128 → Fin 128 → EReal
  qw : Fin 4 → Fin 128 → EReal
  kw : Fin 4 → Fin 128 → EReal
  q : Fin 4096 → Fin 256 → EReal
  k : Fin 4096 → Fin 256 → EReal
  v : Fin 4096 → Fin 512 → EReal
  g : Fin 4096 → Fin 512 → EReal
  dy : Fin 4096 → Fin 512 → EReal
  prev : Fin 32 → Fin 4 → Fin 64 → Fin 128 → EReal
  cd : Fin 4 → EReal

namespace Arrays

variable (A : Arrays)

/-- One head of one chunk, given the gradient of the state after it. -/
def head (n : Fin 32) (h : Fin 4) (dst : Fin 64 → Fin 128 → EReal) : Head where
  dec := A.dec h
  qw := A.qw h
  kw := A.kw h
  q r d := A.q (row n r) (lane64 h d)
  k r d := A.k (row n r) (lane64 h d)
  v r e := A.v (row n r) (lane128 h e)
  g r e := A.g (row n r) (lane128 h e)
  dy r e := A.dy (row n r) (lane128 h e)
  prev := A.prev n h
  dst := dst
  cd := A.cd h

/-- The gradient of a head's state after `t` chunks counted from the end of the sequence: zero at the end. -/
def state (h : Fin 4) : ℕ → Fin 64 → Fin 128 → EReal
  | 0 => fun _ _ => 0
  | t + 1 => (A.head ⟨31 - t, by omega⟩ h (state h t)).dprev

/-- A head of a chunk with the gradient of its state. -/
def full (n : Fin 32) (h : Fin 4) : Head := A.head n h (A.state h (31 - n.val))

end Arrays

end Cert.Proof

end
-- ==== Proof.RefHead.lean ====
/-
  THE REFERENCE READ HEAD BY HEAD: every array of the plain program, at a chunk, head, position and lane, is the
  quantity of Proof/HeadMath.lean of that chunk and head.  One lemma per operation; the state's gradient, which is a
  recurrence over the chunks, is Proof/RefState.lean's.
-/
module

public import proofs.«01_k».proof.Proof.Gen.ReferenceIdeal.Read
public import proofs.«01_k».proof.Proof.HeadMath
public import Idealize.ShloMosaic.Lib.Pointwise

@[expose] public section

noncomputable section

namespace Cert.Proof.Ref

open Idealize.ShloMosaic Idealize.SL.Sem Cert.ReferenceIdeal Cert.ReferenceIdeal.Gen Cert.ReferenceIdeal.Read

/-! ### Reading at named coordinates -/

section At

variable {α : Type} {n₀ n₁ n₂ n₃ : Nat}

/-- A value known at a pair of coordinates, read at an index with those coordinates. -/
theorem at2 {f : (⟨2, ![n₀, n₁]⟩ : Shape).Idx → α} {i : (⟨2, ![n₀, n₁]⟩ : Shape).Idx} {a : Fin n₀} {b : Fin n₁} {y : α}
    (hf : f (ix2 a b) = y) (h0 : (i 0).val = a.val := by rfl) (h1 : (i 1).val = b.val := by rfl) : f i = y := by
  have e : i = ix2 a b := by
    funext x; match x with
    | ⟨0, _⟩ => exact Fin.ext h0
    | ⟨1, _⟩ => exact Fin.ext h1
  rw [e]; exact hf

/-- The same with three coordinates. -/
theorem at3 {f : (⟨3, ![n₀, n₁, n₂]⟩ : Shape).Idx → α} {i : (⟨3, ![n₀, n₁, n₂]⟩ : Shape).Idx} {a : Fin n₀} {b : Fin n₁}
    {c : Fin n₂} {y : α} (hf : f (ix3 a b c) = y) (h0 : (i 0).val = a.val := by rfl) (h1 : (i 1).val = b.val := by rfl)
    (h2 : (i 2).val = c.val := by rfl) : f i = y := by
  have e : i = ix3 a b c := by
    funext x; match x with
    | ⟨0, _⟩ => exact Fin.ext h0
    | ⟨1, _⟩ => exact Fin.ext h1
    | ⟨2, _⟩ => exact Fin.ext h2
  rw [e]; exact hf

/-- The same with four coordinates. -/
theorem at4 {f : (⟨4, ![n₀, n₁, n₂, n₃]⟩ : Shape).Idx → α} {i : (⟨4, ![n₀, n₁, n₂, n₃]⟩ : Shape).Idx} {a : Fin n₀}
    {b : Fin n₁} {c : Fin n₂} {d : Fin n₃} {y : α} (hf : f (ix4 a b c d) = y) (h0 : (i 0).val = a.val := by rfl)
    (h1 : (i 1).val = b.val := by rfl) (h2 : (i 2).val = c.val := by rfl) (h3 : (i 3).val = d.val := by rfl) : f i = y := by
  have e : i = ix4 a b c d := by
    funext x; match x with
    | ⟨0, _⟩ => exact Fin.ext h0
    | ⟨1, _⟩ => exact Fin.ext h1
    | ⟨2, _⟩ => exact Fin.ext h2
    | ⟨3, _⟩ => exact Fin.ext h3
  rw [e]; exact hf

end At

/-! ### The operations over the extended reals -/

section Ops

variable {a b a' b' : EReal}

theorem mul2 (ha : a = a') (hb : b = b') : FloatOps.mulf (F := Ideal) (φ := .f32) a b = a' * b' := by rw [ha, hb]; rfl
theorem add2 (ha : a = a') (hb : b = b') : FloatOps.addf (F := Ideal) (φ := .f32) a b = a' + b' := by rw [ha, hb]; rfl
theorem sub2 (ha : a = a') (hb : b = b') : FloatOps.subf (F := Ideal) (φ := .f32) a b = a' - b' := by rw [ha, hb]; rfl
theorem div2 (ha : a = a') (hb : b = b') :
    FloatOps.hostDivf (F := Ideal) (φ := .f32) a b = Ideal.div a' b' := by rw [ha, hb]; rfl
theorem neg1 (ha : a = a') : FloatOps.hostNegf (F := Ideal) (φ := .f32) a = -a' := by rw [ha]; rfl
theorem rsqrt1 (ha : a = a') : FloatOps.hostUnary (F := Ideal) (φ := .f32) .rsqrt a = Ideal.rsqrt a' := by rw [ha]; rfl
theorem exp1 (ha : a = a') : FloatOps.hostUnary (F := Ideal) (φ := .f32) .exp a = Ideal.exp a' := by rw [ha]; rfl
theorem tim (ha : a = a') (hb : b = b') : a * b = a' * b' := by rw [ha, hb]
theorem mit (ha : a = a') (hb : b = b') : a * b = b' * a' := by rw [ha, hb, mul_comm]

theorem zeroLit : FloatOps.ofBits (F := Ideal) .f32 0x00000000#32 = (0 : EReal) := by
  show Ideal.ofBits .f32 0x00000000#32 = 0
  simp [Ideal.ofBits, Ideal.ieee]

theorem oneLit : Head.lit 0x3F800000#32 = 1 := by
  unfold Head.lit
  simp [Ideal.ofBits, Ideal.ieee, -EReal.coe_mul]; norm_num

/-- A sum that starts at zero. -/
theorem sum0 {N : Nat} {z : EReal} {f g : Fin N → EReal} (hz : z = 0) (h : ∀ k, f k = g k) : z + ∑ k, f k = ∑ k, g k := by
  rw [hz, zero_add]; exact Finset.sum_congr rfl fun k _ => h k

/-- A sum over one entry that starts at zero. -/
theorem sum1 {z y : EReal} {f : Fin 1 → EReal} (hz : z = 0) (h : f 0 = y) : z + ∑ k, f k = y := by
  rw [hz, zero_add, Fin.sum_univ_one, h]

theorem sums {N : Nat} {f g : Fin N → EReal} (h : ∀ k, f k = g k) : ∑ k, f k = ∑ k, g k := Finset.sum_congr rfl fun k _ => h k

end Ops

/-- Column of the projection at which the values' lane `j` lies. -/
def vcol (j : Fin 512) : Fin 7424 := ⟨1024 + j.val, by omega⟩
/-- Column of the projection at which the gate's lane `j` lies. -/
def gcol (j : Fin 512) : Fin 7424 := ⟨1536 + j.val, by omega⟩

variable (x0 x1 : (⟨S4096x256, .f32⟩ : BufTy).Contents (Elt Ideal)) (x2 : (⟨S4096x7424, .f32⟩ : BufTy).Contents (Elt Ideal))
  (x3 : (⟨S4096x512, .f32⟩ : BufTy).Contents (Elt Ideal))

/-- What the reference gives every chunk and head: its tables, its arguments and the states before the chunks. -/
def arrays : Arrays where
  dec h r l := val_main_v25 (F := Ideal) (ix3 h r l)
  qw h r := val_main_v41 (F := Ideal) (ix2 r h)
  kw h r := val_main_v33 (F := Ideal) (ix2 r h)
  q i j := x0 (ix2 i j)
  k i j := x1 (ix2 i j)
  v i j := x2 (ix2 i (vcol j))
  g i j := x2 (ix2 i (gcol j))
  dy i j := x3 (ix2 i j)
  prev n h d e := val_main_v260 (F := Ideal) x1 x2 (ix4 n h d e)
  cd h := val_main_v61 (F := Ideal) (ix3 h (0 : Fin 1) (0 : Fin 1))

variable (n : Fin 32) (h : Fin 4) (r c e : Fin 128) (d : Fin 64) (st : Fin 64 → Fin 128 → EReal)

/-- One chunk and head of the reference, with any gradient of the state after it. -/
abbrev hd : Head := Arrays.head (arrays x0 x1 x2 x3) n h st

/-! ### Reshapes: which coordinates a flat position has -/

theorem p64r : (((n.val * 128 + r.val) * 4 + h.val) * 64 + d.val) / 256 = (row n r).val := by unfold row; dsimp only; omega
theorem p64l : (((n.val * 128 + r.val) * 4 + h.val) * 64 + d.val) % 256 = (lane64 h d).val := by unfold lane64; dsimp only; omega
theorem p128r : (((n.val * 128 + r.val) * 4 + h.val) * 128 + e.val) / 512 = (row n r).val := by unfold row; dsimp only; omega
theorem p128l : (((n.val * 128 + r.val) * 4 + h.val) * 128 + e.val) % 512 = (lane128 h e).val := by unfold lane128; dsimp only; omega
theorem q128h : (((n.val * 128 + r.val) * 4 + h.val) * 128 + e.val) / 128 % 4 = h.val := by omega
theorem q128e : (((n.val * 128 + r.val) * 4 + h.val) * 128 + e.val) % 128 = e.val := by omega
theorem c128n : (((row n r).val * 4 + h.val) * 128 + e.val) / 65536 = n.val := by unfold row; dsimp only; omega
theorem c128r : (((row n r).val * 4 + h.val) * 128 + e.val) / 512 % 128 = r.val := by unfold row; dsimp only; omega
theorem c128h : (((row n r).val * 4 + h.val) * 128 + e.val) / 128 % 4 = h.val := by unfold row; dsimp only; omega
theorem c128e : (((row n r).val * 4 + h.val) * 128 + e.val) % 128 = e.val := by unfold row; dsimp only; omega
theorem c512r : (((row n r).val * 4 + h.val) * 128 + e.val) / 512 = (row n r).val := by unfold row; dsimp only; omega
theorem c512l : (((row n r).val * 4 + h.val) * 128 + e.val) % 512 = (lane128 h e).val := by unfold row lane128; dsimp only; omega
theorem f128r : ((row n r).val * 512 + (lane128 h e).val) / 512 = (row n r).val := by unfold row lane128; dsimp only; omega
theorem f128n : ((row n r).val * 512 + (lane128 h e).val) / 65536 = n.val := by unfold row lane128; dsimp only; omega
theorem f128p : ((row n r).val * 512 + (lane128 h e).val) / 512 % 128 = r.val := by unfold row lane128; dsimp only; omega
theorem f128h : ((row n r).val * 512 + (lane128 h e).val) / 128 % 4 = h.val := by unfold row lane128; dsimp only; omega
theorem f128e : ((row n r).val * 512 + (lane128 h e).val) % 128 = e.val := by unfold row lane128; dsimp only; omega
theorem f64n : ((row n r).val * 256 + (lane64 h d).val) / 32768 = n.val := by unfold row lane64; dsimp only; omega
theorem f64p : ((row n r).val * 256 + (lane64 h d).val) / 256 % 128 = r.val := by unfold row lane64; dsimp only; omega
theorem f64h : ((row n r).val * 256 + (lane64 h d).val) / 64 % 4 = h.val := by unfold row lane64; dsimp only; omega
theorem f64d : ((row n r).val * 256 + (lane64 h d).val) % 64 = d.val := by unfold row lane64; dsimp only; omega
theorem g4r : (((row n r).val * 4 + h.val) * 1 + 0) / 4 = (row n r).val := by omega
theorem g4h : (((row n r).val * 4 + h.val) * 1 + 0) % 4 = h.val := by omega

/-! ### Scores and output -/

/-- Queries. -/
theorem v45 : val_main_v45 (F := Ideal) x0 (ix4 n r h d) = (hd x0 x1 x2 x3 n h st).q r d :=
  (val_main_v45_apply ..).trans (at2 (by rfl) (p64r n h r d) (p64l n h r d))

/-- Keys. -/
theorem v46 : val_main_v46 (F := Ideal) x1 (ix4 n r h d) = (hd x0 x1 x2 x3 n h st).k r d :=
  (val_main_v46_apply ..).trans (at2 (by rfl) (p64r n h r d) (p64l n h r d))

theorem v54 : val_main_v54 (F := Ideal) x1 (ix4 n r h d) = (hd x0 x1 x2 x3 n h st).k r d :=
  (val_main_v54_apply ..).trans (at2 (by rfl) (p64r n h r d) (p64l n h r d))

/-- Values. -/
theorem v0 : val_main_v0 (F := Ideal) x2 (ix2 (row n r) (lane128 h e)) = (hd x0 x1 x2 x3 n h st).v r e :=
  (val_main_v0_apply ..).trans (at2 (by rfl))

/-- Gate. -/
theorem v1 : val_main_v1 (F := Ideal) x2 (ix2 (row n r) (lane128 h e)) = (hd x0 x1 x2 x3 n h st).g r e :=
  (val_main_v1_apply ..).trans (at2 (by rfl))

theorem v47 : val_main_v47 (F := Ideal) x2 (ix4 n r h e) = (hd x0 x1 x2 x3 n h st).v r e :=
  (val_main_v47_apply ..).trans (at2 (v0 x0 x1 x2 x3 n h r e st) (p128r n h r e) (p128l n h r e))

theorem v58 : val_main_v58 (F := Ideal) x2 (ix4 n r h e) = (hd x0 x1 x2 x3 n h st).v r e :=
  (val_main_v58_apply ..).trans (at2 (v0 x0 x1 x2 x3 n h r e st) (p128r n h r e) (p128l n h r e))

/-- Scores before the decay. -/
theorem v48 : val_main_v48 (F := Ideal) x0 x1 (ix4 n h r c) = ∑ d, (hd x0 x1 x2 x3 n h st).q r d * (hd x0 x1 x2 x3 n h st).k c d :=
  (val_main_v48_apply ..).trans (sums fun d => tim (at4 (v45 x0 x1 x2 x3 n h r d st)) (at4 (v46 x0 x1 x2 x3 n h c d st)))

theorem v49 : val_main_v49 (F := Ideal) (ix4 (0 : Fin 1) h r c) = (hd x0 x1 x2 x3 n h st).dec r c :=
  (val_main_v49_apply ..).trans (at3 (by rfl))

theorem v50 : val_main_v50 (F := Ideal) (ix4 n h r c) = (hd x0 x1 x2 x3 n h st).dec r c :=
  (val_main_v50_apply ..).trans (at4 (v49 x0 x1 x2 x3 n h r c st))

/-- Scores. -/
theorem v51 : val_main_v51 (F := Ideal) x0 x1 (ix4 n h r c) = (hd x0 x1 x2 x3 n h st).s r c :=
  (val_main_v51_apply ..).trans (mul2 (v48 x0 x1 x2 x3 n h r c st) (v50 x0 x1 x2 x3 n h r c st))

theorem v52 : val_main_v52 (F := Ideal) x0 x1 x2 (ix4 n h e r) = ∑ c, (hd x0 x1 x2 x3 n h st).s r c * (hd x0 x1 x2 x3 n h st).v c e :=
  (val_main_v52_apply ..).trans (sums fun c => mit (at4 (v47 x0 x1 x2 x3 n h c e st)) (at4 (v51 x0 x1 x2 x3 n h r c st)))

/-- The part of the output from inside the chunk. -/
theorem v53 : val_main_v53 (F := Ideal) x0 x1 x2 (ix4 n r h e) = ∑ c, (hd x0 x1 x2 x3 n h st).s r c * (hd x0 x1 x2 x3 n h st).v c e :=
  (val_main_v53_apply ..).trans (at4 (v52 x0 x1 x2 x3 n h r e st))

theorem v55 : val_main_v55 (F := Ideal) (ix4 (0 : Fin 1) r h (0 : Fin 1)) = (hd x0 x1 x2 x3 n h st).kw r :=
  (val_main_v55_apply ..).trans (at2 (by rfl))

theorem v56 : val_main_v56 (F := Ideal) (ix4 n r h d) = (hd x0 x1 x2 x3 n h st).kw r :=
  (val_main_v56_apply ..).trans (at4 (v55 x0 x1 x2 x3 n h r st))

/-- Weighted keys. -/
theorem v57 : val_main_v57 (F := Ideal) x1 (ix4 n r h d) = (hd x0 x1 x2 x3 n h st).k r d * (hd x0 x1 x2 x3 n h st).kw r :=
  (val_main_v57_apply ..).trans (mul2 (v54 x0 x1 x2 x3 n h r d st) (v56 x0 x1 x2 x3 n h r d st))

theorem v261 : val_main_v261 (F := Ideal) (ix4 (0 : Fin 1) r h (0 : Fin 1)) = (hd x0 x1 x2 x3 n h st).qw r :=
  (val_main_v261_apply ..).trans (at2 (by rfl))

theorem v262 : val_main_v262 (F := Ideal) (ix4 n r h d) = (hd x0 x1 x2 x3 n h st).qw r :=
  (val_main_v262_apply ..).trans (at4 (v261 x0 x1 x2 x3 n h r st))

/-- Weighted queries. -/
theorem v263 : val_main_v263 (F := Ideal) x0 (ix4 n r h d) = (hd x0 x1 x2 x3 n h st).qq r d :=
  (val_main_v263_apply ..).trans (mul2 (v45 x0 x1 x2 x3 n h r d st) (v262 x0 x1 x2 x3 n h r d st))

theorem v264 : val_main_v264 (F := Ideal) x0 x1 x2 (ix4 n h e r) = ∑ d, (hd x0 x1 x2 x3 n h st).qq r d * (hd x0 x1 x2 x3 n h st).prev d e :=
  (val_main_v264_apply ..).trans (sums fun d => mit (at4 (by rfl)) (at4 (v263 x0 x1 x2 x3 n h r d st)))

/-- The part of the output from the state. -/
theorem v265 : val_main_v265 (F := Ideal) x0 x1 x2 (ix4 n r h e) = ∑ d, (hd x0 x1 x2 x3 n h st).qq r d * (hd x0 x1 x2 x3 n h st).prev d e :=
  (val_main_v265_apply ..).trans (at4 (v264 x0 x1 x2 x3 n h r e st))

/-- The output. -/
theorem v266 : val_main_v266 (F := Ideal) x0 x1 x2 (ix4 n r h e) = (hd x0 x1 x2 x3 n h st).y r e :=
  (val_main_v266_apply ..).trans (add2 (v53 x0 x1 x2 x3 n h r e st) (v265 x0 x1 x2 x3 n h r e st))

/-! ### The norm -/

theorem k270 (i : S4096x4x1.Idx) : val_main_v270 (F := Ideal) i = Head.lit 0x43000000#32 := (val_main_v270_apply ..).trans rfl
theorem k275 (i : S4096x4x128.Idx) : val_main_v275 (F := Ideal) i = Head.lit 0x40000000#32 := (val_main_v275_apply ..).trans rfl
theorem k279 (i : S4096x4x1.Idx) : val_main_v279 (F := Ideal) i = Head.lit 0x43000000#32 := (val_main_v279_apply ..).trans rfl
theorem k283 (i : S4096x4x1.Idx) : val_main_v283 (F := Ideal) i = Head.lit 0x358637BD#32 := (val_main_v283_apply ..).trans rfl
theorem k287 (i : S4096x4x1.Idx) : val_main_v287 (F := Ideal) i = Head.lit 0xBF000000#32 := (val_main_v287_apply ..).trans rfl
theorem k308 (i : S4096x4x1.Idx) : val_main_v308 (F := Ideal) i = Head.lit 0x43000000#32 := (val_main_v308_apply ..).trans rfl
theorem k318 (i : S4096x4x1.Idx) : val_main_v318 (F := Ideal) i = Head.lit 0x43000000#32 := (val_main_v318_apply ..).trans rfl

theorem v267 : val_main_v267 (F := Ideal) x0 x1 x2 (ix3 (row n r) h e) = (hd x0 x1 x2 x3 n h st).y r e :=
  (val_main_v267_apply ..).trans (at4 (v266 x0 x1 x2 x3 n h r e st) (c128n n h r e) (c128r n h r e) (c128h n h r e) (c128e n h r e))

theorem v268 : val_main_v268 (F := Ideal) x0 x1 x2 (ix2 (row n r) h) = ∑ e, (hd x0 x1 x2 x3 n h st).y r e :=
  (val_main_v268_apply ..).trans (sum0 zeroLit fun e => at3 (v267 x0 x1 x2 x3 n h r e st))

theorem v269 : val_main_v269 (F := Ideal) x0 x1 x2 (ix3 (row n r) h (0 : Fin 1)) = ∑ e, (hd x0 x1 x2 x3 n h st).y r e :=
  (val_main_v269_apply ..).trans (at2 (v268 x0 x1 x2 x3 n h r st))

/-- The mean. -/
theorem v271 : val_main_v271 (F := Ideal) x0 x1 x2 (ix3 (row n r) h (0 : Fin 1)) = (hd x0 x1 x2 x3 n h st).mean r :=
  (val_main_v271_apply ..).trans (div2 (v269 x0 x1 x2 x3 n h r st) (k270 _))

theorem v272 : val_main_v272 (F := Ideal) x0 x1 x2 (ix3 (row n r) h e) = (hd x0 x1 x2 x3 n h st).mean r :=
  (val_main_v272_apply ..).trans (at3 (v271 x0 x1 x2 x3 n h r st))

/-- The centred output. -/
theorem v273 : val_main_v273 (F := Ideal) x0 x1 x2 (ix3 (row n r) h e) = (hd x0 x1 x2 x3 n h st).ce r e :=
  (val_main_v273_apply ..).trans (sub2 (v267 x0 x1 x2 x3 n h r e st) (v272 x0 x1 x2 x3 n h r e st))

theorem v274 : val_main_v274 (F := Ideal) x0 x1 x2 (ix3 (row n r) h e) = (hd x0 x1 x2 x3 n h st).ce r e * (hd x0 x1 x2 x3 n h st).ce r e :=
  (val_main_v274_apply ..).trans (mul2 (v273 x0 x1 x2 x3 n h r e st) (v273 x0 x1 x2 x3 n h r e st))

theorem v276 : val_main_v276 (F := Ideal) x0 x1 x2 (ix3 (row n r) h e) = Head.lit 0x40000000#32 * (hd x0 x1 x2 x3 n h st).ce r e :=
  (val_main_v276_apply ..).trans (mul2 (k275 _) (v273 x0 x1 x2 x3 n h r e st))

theorem v277 : val_main_v277 (F := Ideal) x0 x1 x2 (ix2 (row n r) h) = ∑ e, (hd x0 x1 x2 x3 n h st).ce r e * (hd x0 x1 x2 x3 n h st).ce r e :=
  (val_main_v277_apply ..).trans (sum0 zeroLit fun e => at3 (v274 x0 x1 x2 x3 n h r e st))

theorem v278 : val_main_v278 (F := Ideal) x0 x1 x2 (ix3 (row n r) h (0 : Fin 1)) = ∑ e, (hd x0 x1 x2 x3 n h st).ce r e * (hd x0 x1 x2 x3 n h st).ce r e :=
  (val_main_v278_apply ..).trans (at2 (v277 x0 x1 x2 x3 n h r st))

theorem v280 : val_main_v280 (F := Ideal) x0 x1 x2 (ix3 (row n r) h (0 : Fin 1)) = Head.per (∑ e, (hd x0 x1 x2 x3 n h st).ce r e * (hd x0 x1 x2 x3 n h st).ce r e) :=
  (val_main_v280_apply ..).trans (div2 (v278 x0 x1 x2 x3 n h r st) (k279 _))

theorem v281 : val_main_v281 (F := Ideal) x0 x1 x2 (ix3 (row n r) h e) = (hd x0 x1 x2 x3 n h st).mean r :=
  (val_main_v281_apply ..).trans (at3 (v271 x0 x1 x2 x3 n h r st))

theorem v282 : val_main_v282 (F := Ideal) x0 x1 x2 (ix3 (row n r) h e) = (hd x0 x1 x2 x3 n h st).ce r e :=
  (val_main_v282_apply ..).trans (sub2 (v267 x0 x1 x2 x3 n h r e st) (v281 x0 x1 x2 x3 n h r e st))

/-- Variance plus epsilon. -/
theorem v284 : val_main_v284 (F := Ideal) x0 x1 x2 (ix3 (row n r) h (0 : Fin 1)) = (hd x0 x1 x2 x3 n h st).ve r :=
  (val_main_v284_apply ..).trans (add2 (v280 x0 x1 x2 x3 n h r st) (k283 _))

/-- Its reciprocal root. -/
theorem v285 : val_main_v285 (F := Ideal) x0 x1 x2 (ix3 (row n r) h (0 : Fin 1)) = (hd x0 x1 x2 x3 n h st).rs r :=
  (val_main_v285_apply ..).trans (rsqrt1 (v284 x0 x1 x2 x3 n h r st))

theorem v286 : val_main_v286 (F := Ideal) x0 x1 x2 (ix3 (row n r) h (0 : Fin 1)) = Ideal.div ((hd x0 x1 x2 x3 n h st).rs r) ((hd x0 x1 x2 x3 n h st).ve r) :=
  (val_main_v286_apply ..).trans (div2 (v285 x0 x1 x2 x3 n h r st) (v284 x0 x1 x2 x3 n h r st))

theorem v288 : val_main_v288 (F := Ideal) x0 x1 x2 (ix3 (row n r) h (0 : Fin 1)) = (hd x0 x1 x2 x3 n h st).drs r :=
  (val_main_v288_apply ..).trans (mul2 (k287 _) (v286 x0 x1 x2 x3 n h r st))

theorem v289 : val_main_v289 (F := Ideal) x0 x1 x2 (ix3 (row n r) h e) = (hd x0 x1 x2 x3 n h st).rs r :=
  (val_main_v289_apply ..).trans (at3 (v285 x0 x1 x2 x3 n h r st))

theorem v290 : val_main_v290 (F := Ideal) x0 x1 x2 (ix3 (row n r) h e) = (hd x0 x1 x2 x3 n h st).ce r e * (hd x0 x1 x2 x3 n h st).rs r :=
  (val_main_v290_apply ..).trans (mul2 (v282 x0 x1 x2 x3 n h r e st) (v289 x0 x1 x2 x3 n h r e st))

/-- The normed output. -/
theorem v291 : val_main_v291 (F := Ideal) x0 x1 x2 (ix2 (row n r) (lane128 h e)) = (hd x0 x1 x2 x3 n h st).ce r e * (hd x0 x1 x2 x3 n h st).rs r :=
  (val_main_v291_apply ..).trans (at3 (v290 x0 x1 x2 x3 n h r e st) (f128r n h r e) (f128h n h r e) (f128e n h r e))

/-! ### The gate -/

theorem k_one (i : S4096x512.Idx) : val_main_call1_v6 (F := Ideal) i = Head.lit 0x3F800000#32 := (val_main_call1_v6_apply ..).trans rfl
theorem silu_one (i : S4096x512.Idx) : val_main_call1_v2 (F := Ideal) i = 1 := (val_main_call1_v2_apply ..).trans oneLit
theorem silu_one' (i : S4096x512.Idx) : val_main_call1_v4 (F := Ideal) i = 1 := (val_main_call1_v4_apply ..).trans oneLit

theorem silu_neg : val_main_call1_v0 (F := Ideal) x2 (ix2 (row n r) (lane128 h e)) = -(hd x0 x1 x2 x3 n h st).g r e :=
  (val_main_call1_v0_apply ..).trans (neg1 (v1 x0 x1 x2 x3 n h r e st))

theorem silu_exp : val_main_call1_v1 (F := Ideal) x2 (ix2 (row n r) (lane128 h e))
    = Ideal.exp (-(hd x0 x1 x2 x3 n h st).g r e) :=
  (val_main_call1_v1_apply ..).trans (exp1 (silu_neg x0 x1 x2 x3 n h r e st))

theorem silu_den : val_main_call1_v3 (F := Ideal) x2 (ix2 (row n r) (lane128 h e))
    = 1 + Ideal.exp (-(hd x0 x1 x2 x3 n h st).g r e) :=
  (val_main_call1_v3_apply ..).trans (add2 (silu_one _) (silu_exp x0 x1 x2 x3 n h r e st))

/-- The logistic of the gate. -/
theorem v292_2 : val_main_v292_2 (F := Ideal) x2 (ix2 (row n r) (lane128 h e)) = (hd x0 x1 x2 x3 n h st).sg r e :=
  (val_main_v292_2_apply ..).trans (div2 (silu_one' _) (silu_den x0 x1 x2 x3 n h r e st))

theorem silu_sub : val_main_call1_v7 (F := Ideal) x2 (ix2 (row n r) (lane128 h e))
    = Head.lit 0x3F800000#32 - (hd x0 x1 x2 x3 n h st).sg r e :=
  (val_main_call1_v7_apply ..).trans
    (sub2 (k_one _) (v292_2 x0 x1 x2 x3 n h r e st))

/-- Its derivative. -/
theorem v292_1 : val_main_v292_1 (F := Ideal) x2 (ix2 (row n r) (lane128 h e))
    = (hd x0 x1 x2 x3 n h st).sg r e * (Head.lit 0x3F800000#32 - (hd x0 x1 x2 x3 n h st).sg r e) :=
  (val_main_v292_1_apply ..).trans (mul2 (v292_2 x0 x1 x2 x3 n h r e st) (silu_sub x0 x1 x2 x3 n h r e st))

theorem v292_0 : val_main_v292_0 (F := Ideal) x2 (ix2 (row n r) (lane128 h e)) = (hd x0 x1 x2 x3 n h st).g r e * (hd x0 x1 x2 x3 n h st).sg r e :=
  (val_main_v292_0_apply ..).trans (mul2 (v1 x0 x1 x2 x3 n h r e st) (v292_2 x0 x1 x2 x3 n h r e st))

/-- Gradient of the normed output. -/
theorem v295 : val_main_v295 (F := Ideal) x2 x3 (ix2 (row n r) (lane128 h e)) = (hd x0 x1 x2 x3 n h st).gy r e :=
  (val_main_v295_apply ..).trans (mul2 (v292_0 x0 x1 x2 x3 n h r e st) (by rfl))

/-- Gradient of the activated gate. -/
theorem v296 : val_main_v296 (F := Ideal) x0 x1 x2 x3 (ix2 (row n r) (lane128 h e)) = (hd x0 x1 x2 x3 n h st).gs r e :=
  (val_main_v296_apply ..).trans (mul2 (by rfl) (v291 x0 x1 x2 x3 n h r e st))

theorem bwd_left : val_main_call2_v1 (F := Ideal) x0 x1 x2 x3 (ix2 (row n r) (lane128 h e))
    = (hd x0 x1 x2 x3 n h st).gs r e * (hd x0 x1 x2 x3 n h st).sg r e :=
  (val_main_call2_v1_apply ..).trans (mul2 (v296 x0 x1 x2 x3 n h r e st) (v292_2 x0 x1 x2 x3 n h r e st))

theorem bwd_gate : val_main_call2_v0 (F := Ideal) x0 x1 x2 x3 (ix2 (row n r) (lane128 h e))
    = (hd x0 x1 x2 x3 n h st).g r e * (hd x0 x1 x2 x3 n h st).gs r e :=
  (val_main_call2_v0_apply ..).trans (mul2 (v1 x0 x1 x2 x3 n h r e st) (v296 x0 x1 x2 x3 n h r e st))

theorem bwd_right : val_main_call2_v2 (F := Ideal) x0 x1 x2 x3 (ix2 (row n r) (lane128 h e))
    = (hd x0 x1 x2 x3 n h st).g r e * (hd x0 x1 x2 x3 n h st).gs r e
      * ((hd x0 x1 x2 x3 n h st).sg r e * (Head.lit 0x3F800000#32 - (hd x0 x1 x2 x3 n h st).sg r e)) :=
  (val_main_call2_v2_apply ..).trans (mul2 (bwd_gate x0 x1 x2 x3 n h r e st) (v292_1 x0 x1 x2 x3 n h r e st))

/-- Gradient of the gate. -/
theorem v297 : val_main_v297 (F := Ideal) x0 x1 x2 x3 (ix2 (row n r) (lane128 h e)) = (hd x0 x1 x2 x3 n h st).dg r e :=
  (val_main_v297_apply ..).trans (add2 (bwd_left x0 x1 x2 x3 n h r e st) (bwd_right x0 x1 x2 x3 n h r e st))

/-! ### Back through the norm -/

theorem v298 : val_main_v298 (F := Ideal) x2 x3 (ix3 (row n r) h e) = (hd x0 x1 x2 x3 n h st).gy r e :=
  (val_main_v298_apply ..).trans (at2 (v295 x0 x1 x2 x3 n h r e st) (c512r n h r e) (c512l n h r e))

theorem v299 : val_main_v299 (F := Ideal) x0 x1 x2 x3 (ix3 (row n r) h e) = (hd x0 x1 x2 x3 n h st).ce r e * (hd x0 x1 x2 x3 n h st).gy r e :=
  (val_main_v299_apply ..).trans (mul2 (v282 x0 x1 x2 x3 n h r e st) (v298 x0 x1 x2 x3 n h r e st))

theorem v300 : val_main_v300 (F := Ideal) x0 x1 x2 x3 (ix2 (row n r) h) = ∑ e, (hd x0 x1 x2 x3 n h st).ce r e * (hd x0 x1 x2 x3 n h st).gy r e :=
  (val_main_v300_apply ..).trans (sum0 zeroLit fun e => at3 (v299 x0 x1 x2 x3 n h r e st))

theorem v301 : val_main_v301 (F := Ideal) x0 x1 x2 x3 (ix3 (row n r) h (0 : Fin 1)) = ∑ e, (hd x0 x1 x2 x3 n h st).ce r e * (hd x0 x1 x2 x3 n h st).gy r e :=
  (val_main_v301_apply ..).trans (at2 (v300 x0 x1 x2 x3 n h r st) (g4r n h r) (g4h n h r))

theorem v302 : val_main_v302 (F := Ideal) x0 x1 x2 (ix3 (row n r) h e) = (hd x0 x1 x2 x3 n h st).rs r :=
  (val_main_v302_apply ..).trans (at3 (v285 x0 x1 x2 x3 n h r st))

theorem v303 : val_main_v303 (F := Ideal) x0 x1 x2 x3 (ix3 (row n r) h e) = (hd x0 x1 x2 x3 n h st).gc r e :=
  (val_main_v303_apply ..).trans (mul2 (v298 x0 x1 x2 x3 n h r e st) (v302 x0 x1 x2 x3 n h r e st))

theorem v304 : val_main_v304 (F := Ideal) x0 x1 x2 x3 (ix3 (row n r) h (0 : Fin 1)) = (∑ e, (hd x0 x1 x2 x3 n h st).ce r e * (hd x0 x1 x2 x3 n h st).gy r e) * (hd x0 x1 x2 x3 n h st).drs r :=
  (val_main_v304_apply ..).trans (mul2 (v301 x0 x1 x2 x3 n h r st) (v288 x0 x1 x2 x3 n h r st))

theorem v305 : val_main_v305 (F := Ideal) x0 x1 x2 x3 (ix3 (row n r) h e) = -(hd x0 x1 x2 x3 n h st).gc r e :=
  (val_main_v305_apply ..).trans (neg1 (v303 x0 x1 x2 x3 n h r e st))

theorem v306 : val_main_v306 (F := Ideal) x0 x1 x2 x3 (ix2 (row n r) h) = ∑ e, -(hd x0 x1 x2 x3 n h st).gc r e :=
  (val_main_v306_apply ..).trans (sum0 zeroLit fun e => at3 (v305 x0 x1 x2 x3 n h r e st))

theorem v307 : val_main_v307 (F := Ideal) x0 x1 x2 x3 (ix3 (row n r) h (0 : Fin 1)) = ∑ e, -(hd x0 x1 x2 x3 n h st).gc r e :=
  (val_main_v307_apply ..).trans (at2 (v306 x0 x1 x2 x3 n h r st) (g4r n h r) (g4h n h r))

theorem v309 : val_main_v309 (F := Ideal) x0 x1 x2 x3 (ix3 (row n r) h (0 : Fin 1)) = (hd x0 x1 x2 x3 n h st).gv r :=
  (val_main_v309_apply ..).trans (div2 (v304 x0 x1 x2 x3 n h r st) (k308 _))

theorem v310 : val_main_v310 (F := Ideal) x0 x1 x2 x3 (ix2 (row n r) h) = (hd x0 x1 x2 x3 n h st).gv r :=
  (val_main_v310_apply ..).trans (sum1 zeroLit (at3 (v309 x0 x1 x2 x3 n h r st)))

theorem v311 : val_main_v311 (F := Ideal) x0 x1 x2 x3 (ix3 (row n r) h e) = (hd x0 x1 x2 x3 n h st).gv r :=
  (val_main_v311_apply ..).trans (at2 (v310 x0 x1 x2 x3 n h r st))

theorem v312 : val_main_v312 (F := Ideal) x0 x1 x2 x3 (ix3 (row n r) h e) = (hd x0 x1 x2 x3 n h st).gq r e :=
  (val_main_v312_apply ..).trans (mul2 (v311 x0 x1 x2 x3 n h r e st) (v276 x0 x1 x2 x3 n h r e st))

theorem v313 : val_main_v313 (F := Ideal) x0 x1 x2 x3 (ix3 (row n r) h e) = -(hd x0 x1 x2 x3 n h st).gq r e :=
  (val_main_v313_apply ..).trans (neg1 (v312 x0 x1 x2 x3 n h r e st))

theorem v314 : val_main_v314 (F := Ideal) x0 x1 x2 x3 (ix2 (row n r) h) = ∑ e, -(hd x0 x1 x2 x3 n h st).gq r e :=
  (val_main_v314_apply ..).trans (sum0 zeroLit fun e => at3 (v313 x0 x1 x2 x3 n h r e st))

theorem v315 : val_main_v315 (F := Ideal) x0 x1 x2 x3 (ix3 (row n r) h (0 : Fin 1)) = ∑ e, -(hd x0 x1 x2 x3 n h st).gq r e :=
  (val_main_v315_apply ..).trans (at2 (v314 x0 x1 x2 x3 n h r st) (g4r n h r) (g4h n h r))

theorem v316 : val_main_v316 (F := Ideal) x0 x1 x2 x3 (ix3 (row n r) h e) = (hd x0 x1 x2 x3 n h st).gc r e + (hd x0 x1 x2 x3 n h st).gq r e :=
  (val_main_v316_apply ..).trans (add2 (v303 x0 x1 x2 x3 n h r e st) (v312 x0 x1 x2 x3 n h r e st))

theorem v317 : val_main_v317 (F := Ideal) x0 x1 x2 x3 (ix3 (row n r) h (0 : Fin 1)) = (∑ e, -(hd x0 x1 x2 x3 n h st).gc r e) + ∑ e, -(hd x0 x1 x2 x3 n h st).gq r e :=
  (val_main_v317_apply ..).trans (add2 (v307 x0 x1 x2 x3 n h r st) (v315 x0 x1 x2 x3 n h r st))

theorem v319 : val_main_v319 (F := Ideal) x0 x1 x2 x3 (ix3 (row n r) h (0 : Fin 1)) = (hd x0 x1 x2 x3 n h st).gm r :=
  (val_main_v319_apply ..).trans (div2 (v317 x0 x1 x2 x3 n h r st) (k318 _))

theorem v320 : val_main_v320 (F := Ideal) x0 x1 x2 x3 (ix2 (row n r) h) = (hd x0 x1 x2 x3 n h st).gm r :=
  (val_main_v320_apply ..).trans (sum1 zeroLit (at3 (v319 x0 x1 x2 x3 n h r st)))

theorem v321 : val_main_v321 (F := Ideal) x0 x1 x2 x3 (ix3 (row n r) h e) = (hd x0 x1 x2 x3 n h st).gm r :=
  (val_main_v321_apply ..).trans (at2 (v320 x0 x1 x2 x3 n h r st))

/-- Gradient of the retention output. -/
theorem v322 : val_main_v322 (F := Ideal) x0 x1 x2 x3 (ix3 (row n r) h e) = (hd x0 x1 x2 x3 n h st).dyo r e :=
  (val_main_v322_apply ..).trans (add2 (v316 x0 x1 x2 x3 n h r e st) (v321 x0 x1 x2 x3 n h r e st))

/-! ### Back through the retention -/

theorem v323 : val_main_v323 (F := Ideal) x0 x1 x2 x3 (ix4 n r h e) = (hd x0 x1 x2 x3 n h st).dyo r e :=
  (val_main_v323_apply ..).trans (at3 (v322 x0 x1 x2 x3 n h r e st) (p128r n h r e) (q128h n h r e) (q128e n h r e))

theorem v324 : val_main_v324 (F := Ideal) x0 x1 x2 x3 (ix4 n h e r) = (hd x0 x1 x2 x3 n h st).dyo r e :=
  (val_main_v324_apply ..).trans (at4 (v323 x0 x1 x2 x3 n h r e st))

theorem v325 : val_main_v325 (F := Ideal) x0 x1 x2 x3 (ix4 n h r d) = ∑ e, (hd x0 x1 x2 x3 n h st).dyo r e * (hd x0 x1 x2 x3 n h st).prev d e :=
  (val_main_v325_apply ..).trans (sums fun e => tim (at4 (v324 x0 x1 x2 x3 n h r e st)) (at4 (by rfl)))

theorem v326 : val_main_v326 (F := Ideal) x0 x1 x2 x3 (ix4 n r h d) = ∑ e, (hd x0 x1 x2 x3 n h st).dyo r e * (hd x0 x1 x2 x3 n h st).prev d e :=
  (val_main_v326_apply ..).trans (at4 (v325 x0 x1 x2 x3 n h r d st))

theorem v329 : val_main_v329 (F := Ideal) (ix4 n r h d) = (hd x0 x1 x2 x3 n h st).qw r :=
  (val_main_v329_apply ..).trans (at4 (v261 x0 x1 x2 x3 n h r st))

theorem v330 : val_main_v330 (F := Ideal) x0 x1 x2 x3 (ix4 n r h d) = (∑ e, (hd x0 x1 x2 x3 n h st).dyo r e * (hd x0 x1 x2 x3 n h st).prev d e) * (hd x0 x1 x2 x3 n h st).qw r :=
  (val_main_v330_apply ..).trans (mul2 (v326 x0 x1 x2 x3 n h r d st) (v329 x0 x1 x2 x3 n h r d st))

theorem v327 : val_main_v327 (F := Ideal) x0 x1 x2 x3 (ix4 n h e d) = (hd x0 x1 x2 x3 n h st).up d e :=
  (val_main_v327_apply ..).trans (sums fun r => mit (at4 (v324 x0 x1 x2 x3 n h r e st)) (at4 (v263 x0 x1 x2 x3 n h r d st)))

/-- What the chunk adds to the gradient of the state before it. -/
theorem v328 : val_main_v328 (F := Ideal) x0 x1 x2 x3 (ix4 n h d e) = (hd x0 x1 x2 x3 n h st).up d e :=
  (val_main_v328_apply ..).trans (at4 (v327 x0 x1 x2 x3 n h e d st))

theorem v539 : val_main_v539 (F := Ideal) x0 x1 x2 x3 (ix4 n h e r) = (hd x0 x1 x2 x3 n h st).dyo r e :=
  (val_main_v539_apply ..).trans (at4 (v323 x0 x1 x2 x3 n h r e st))

theorem v540 : val_main_v540 (F := Ideal) x0 x1 x2 x3 (ix4 n h r c) = ∑ e, (hd x0 x1 x2 x3 n h st).dyo r e * (hd x0 x1 x2 x3 n h st).v c e :=
  (val_main_v540_apply ..).trans (sums fun e => tim (at4 (v539 x0 x1 x2 x3 n h r e st)) (at4 (v47 x0 x1 x2 x3 n h c e st)))

theorem v541 : val_main_v541 (F := Ideal) x0 x1 x2 x3 (ix4 n h e c) = ∑ r, (hd x0 x1 x2 x3 n h st).s r c * (hd x0 x1 x2 x3 n h st).dyo r e :=
  (val_main_v541_apply ..).trans (sums fun r => mit (at4 (v539 x0 x1 x2 x3 n h r e st)) (at4 (v51 x0 x1 x2 x3 n h r c st)))

theorem v542 : val_main_v542 (F := Ideal) x0 x1 x2 x3 (ix4 n c h e) = ∑ r, (hd x0 x1 x2 x3 n h st).s r c * (hd x0 x1 x2 x3 n h st).dyo r e :=
  (val_main_v542_apply ..).trans (at4 (v541 x0 x1 x2 x3 n h c e st))

theorem v543 : val_main_v543 (F := Ideal) (ix4 n h r c) = (hd x0 x1 x2 x3 n h st).dec r c :=
  (val_main_v543_apply ..).trans (at4 (v49 x0 x1 x2 x3 n h r c st))

/-- Gradient of the scores. -/
theorem v544 : val_main_v544 (F := Ideal) x0 x1 x2 x3 (ix4 n h r c) = (hd x0 x1 x2 x3 n h st).dsc r c :=
  (val_main_v544_apply ..).trans (mul2 (v540 x0 x1 x2 x3 n h r c st) (v543 x0 x1 x2 x3 n h r c st))

theorem v545 : val_main_v545 (F := Ideal) x0 x1 x2 x3 (ix4 n h c d) = ∑ r, (hd x0 x1 x2 x3 n h st).dsc r c * (hd x0 x1 x2 x3 n h st).q r d :=
  (val_main_v545_apply ..).trans (sums fun r => tim (at4 (v544 x0 x1 x2 x3 n h r c st)) (at4 (v45 x0 x1 x2 x3 n h r d st)))

theorem v546 : val_main_v546 (F := Ideal) x0 x1 x2 x3 (ix4 n c h d) = ∑ r, (hd x0 x1 x2 x3 n h st).dsc r c * (hd x0 x1 x2 x3 n h st).q r d :=
  (val_main_v546_apply ..).trans (at4 (v545 x0 x1 x2 x3 n h c d st))

theorem v547 : val_main_v547 (F := Ideal) x0 x1 x2 x3 (ix4 n h r d) = ∑ c, (hd x0 x1 x2 x3 n h st).dsc r c * (hd x0 x1 x2 x3 n h st).k c d :=
  (val_main_v547_apply ..).trans (sums fun c => tim (at4 (v544 x0 x1 x2 x3 n h r c st)) (at4 (v46 x0 x1 x2 x3 n h c d st)))

theorem v548 : val_main_v548 (F := Ideal) x0 x1 x2 x3 (ix4 n r h d) = ∑ c, (hd x0 x1 x2 x3 n h st).dsc r c * (hd x0 x1 x2 x3 n h st).k c d :=
  (val_main_v548_apply ..).trans (at4 (v547 x0 x1 x2 x3 n h r d st))

theorem v549 : val_main_v549 (F := Ideal) x0 x1 x2 x3 (ix4 n r h d) = (hd x0 x1 x2 x3 n h st).dq r d :=
  (val_main_v549_apply ..).trans (add2 (v330 x0 x1 x2 x3 n h r d st) (v548 x0 x1 x2 x3 n h r d st))

theorem v550 : val_main_v550 (F := Ideal) x0 x1 x2 x3 (ix2 (row n c) (lane128 h e)) = ∑ r, (hd x0 x1 x2 x3 n h st).s r c * (hd x0 x1 x2 x3 n h st).dyo r e :=
  (val_main_v550_apply ..).trans (at4 (v542 x0 x1 x2 x3 n h c e st) (f128n n h c e) (f128p n h c e) (f128h n h c e) (f128e n h c e))

theorem v552 : val_main_v552 (F := Ideal) x0 x1 x2 x3 (ix2 (row n c) (lane64 h d)) = ∑ r, (hd x0 x1 x2 x3 n h st).dsc r c * (hd x0 x1 x2 x3 n h st).q r d :=
  (val_main_v552_apply ..).trans (at4 (v546 x0 x1 x2 x3 n h c d st) (f64n n h c d) (f64p n h c d) (f64h n h c d) (f64d n h c d))

/-! ### Results that need no gradient of the state -/

/-- Gradient of the queries. -/
theorem v554 : val_main_v554 (F := Ideal) x0 x1 x2 x3 (ix2 (row n r) (lane64 h d)) = (hd x0 x1 x2 x3 n h st).dq r d :=
  (val_main_v554_apply ..).trans (at4 (v549 x0 x1 x2 x3 n h r d st) (f64n n h r d) (f64p n h r d) (f64h n h r d) (f64d n h r d))

/-- Gradient of the gate. -/
theorem v556 : val_main_v556 (F := Ideal) x0 x1 x2 x3 (ix2 (row n r) (lane128 h e)) = (hd x0 x1 x2 x3 n h st).dg r e :=
  (val_main_v556_apply ..).trans (v297 x0 x1 x2 x3 n h r e st)

end Cert.Proof.Ref
-- ==== Proof.RefState.lean ====
/-
  THE REFERENCE'S GRADIENT OF THE STATE: going back over the chunks, the state's gradient before a chunk is the one
  after it, decayed, plus what the chunk adds.  The reference stacks the gradients after the chunks; with them the
  gradients of the keys and of the values are the mathematics of Proof/HeadMath.lean.
-/
module

public import proofs.«01_k».proof.Proof.RefHead

@[expose] public section

set_option maxRecDepth 8192

noncomputable section

namespace Cert.Proof.Ref

open Idealize.ShloMosaic Idealize.SL.Sem Cert.ReferenceIdeal Cert.ReferenceIdeal.Gen Cert.ReferenceIdeal.Read

variable (x0 x1 : (⟨S4096x256, .f32⟩ : BufTy).Contents (Elt Ideal)) (x2 : (⟨S4096x7424, .f32⟩ : BufTy).Contents (Elt Ideal))
  (x3 : (⟨S4096x512, .f32⟩ : BufTy).Contents (Elt Ideal))
  (n : Fin 32) (h : Fin 4) (r c e : Fin 128) (d : Fin 64)

/-- An array of one state for every head. -/
abbrev States : Type := S4x64x128.Idx → EReal

/-- The gradient of the state after `t` chunks, counted from the last. -/
abbrev st (t : ℕ) : Fin 64 → Fin 128 → EReal := (arrays x0 x1 x2 x3).state h t

/-- An array of states holds the gradients after `t` chunks. -/
def Holds (t : ℕ) (D : States) : Prop := ∀ (h : Fin 4) (d : Fin 64) (e : Fin 128), D (ix3 h d e) = st x0 x1 x2 x3 h t d e

/-- The chunk decay of every head, on every entry of its state. -/
theorem decay : val_main_v337 (F := Ideal) (ix3 h d e) = (arrays x0 x1 x2 x3).cd h :=
  (val_main_v337_apply ..).trans (at3 (a := h) (b := (0 : Fin 1)) (c := (0 : Fin 1)) (by rfl))

/-- What all chunks add. -/
theorem adds (s : Fin 64 → Fin 128 → EReal) :
    val_main_v332 (F := Ideal) x0 x1 x2 x3 (ix4 n h d e) = (hd x0 x1 x2 x3 n h s).up d e :=
  (val_main_v332_apply ..).trans (at4 (v328 x0 x1 x2 x3 n h e d s))

theorem z8h : ((h.val * 64 + d.val) * 128 + e.val) / 8192 % 4 = h.val := by omega
theorem z8d : ((h.val * 64 + d.val) * 128 + e.val) / 128 % 64 = d.val := by omega
theorem z8e : ((h.val * 64 + d.val) * 128 + e.val) % 128 = e.val := by omega

/-- One chunk's slice of an array over the chunks. -/
theorem slice_apply (k : Fin 32) (y : S32x4x64x128.Idx → EReal) (hs : S32x4x64x128.Slices ![k.val, 0, 0, 0] S1x4x64x128) :
    shapeCast S4x64x128 (extractStridedSlice S1x4x64x128 ![k.val, 0, 0, 0] y hs) shapeCasts_S1x4x64x128_S4x64x128
      (ix3 h d e) = y (ix4 k h d e) := by
  refine (shapeCast_apply _ shapeCasts_S1x4x64x128_S4x64x128 (ix3 h d e) (ix4 (0 : Fin 1) h d e) ?_).trans ?_
  · rewrite [Shape.rowMajor_val_four, Shape.rowMajor_val_three]
    show ((0 * 4 + h.val) * 64 + d.val) * 128 + e.val = (h.val * 64 + d.val) * 128 + e.val
    omega
  · exact extractStridedSlice_apply ![k.val, 0, 0, 0] y hs (ix4 (0 : Fin 1) h d e) (ix4 k h d e) (fun a => match a with
      | ⟨0, _⟩ => by show k.val = k.val + 0; omega
      | ⟨1, _⟩ => by show h.val = 0 + h.val; omega
      | ⟨2, _⟩ => by show d.val = 0 + d.val; omega
      | ⟨3, _⟩ => by show e.val = 0 + e.val; omega)

/-- One step back over a chunk. -/
theorem step (t : ℕ) (k : Fin 32) (hk : k.val = 31 - t) (hs : S32x4x64x128.Slices ![k.val, 0, 0, 0] S1x4x64x128)
    (D : States) (hD : Holds x0 x1 x2 x3 t D) :
    Holds x0 x1 x2 x3 (t + 1) (addf (F := Ideal) (φ := .f32)
      (shapeCast S4x64x128 (extractStridedSlice S1x4x64x128 ![k.val, 0, 0, 0] (val_main_v332 (F := Ideal) x0 x1 x2 x3) hs)
        shapeCasts_S1x4x64x128_S4x64x128) (mulf (F := Ideal) (φ := .f32) D (val_main_v337 (F := Ideal)))) := by
  intro h d e
  have ek : (⟨31 - t, by omega⟩ : Fin 32) = k := Fin.ext hk.symm
  refine (add2 ((slice_apply h e d k _ hs).trans (adds x0 x1 x2 x3 k h e d (st x0 x1 x2 x3 h t)))
    (mul2 (hD h d e) (decay x0 x1 x2 x3 h e d))).trans ?_
  show _ = ((arrays x0 x1 x2 x3).head ⟨31 - t, _⟩ h (st x0 x1 x2 x3 h t)).dprev d e
  rw [ek]
  exact add_comm _ _

/-! ### The chunks, from the last -/

theorem s0 : Holds x0 x1 x2 x3 0 (val_main_v331 (F := Ideal)) := fun _ _ _ => (val_main_v331_apply ..).trans zeroLit
theorem s1 : Holds x0 x1 x2 x3 1 (val_main_v339 (F := Ideal) x0 x1 x2 x3) := step x0 x1 x2 x3 0 31 (by rfl) slices_S32x4x64x128_S1x4x64x128_31_0_0_0 (val_main_v331 (F := Ideal)) (s0 x0 x1 x2 x3)
theorem s2 : Holds x0 x1 x2 x3 2 (val_main_v344 (F := Ideal) x0 x1 x2 x3) := step x0 x1 x2 x3 1 30 (by rfl) slices_S32x4x64x128_S1x4x64x128_30_0_0_0 (val_main_v339 (F := Ideal) x0 x1 x2 x3) (s1 x0 x1 x2 x3)
theorem s3 : Holds x0 x1 x2 x3 3 (val_main_v349 (F := Ideal) x0 x1 x2 x3) := step x0 x1 x2 x3 2 29 (by rfl) slices_S32x4x64x128_S1x4x64x128_29_0_0_0 (val_main_v344 (F := Ideal) x0 x1 x2 x3) (s2 x0 x1 x2 x3)
theorem s4 : Holds x0 x1 x2 x3 4 (val_main_v354 (F := Ideal) x0 x1 x2 x3) := step x0 x1 x2 x3 3 28 (by rfl) slices_S32x4x64x128_S1x4x64x128_28_0_0_0 (val_main_v349 (F := Ideal) x0 x1 x2 x3) (s3 x0 x1 x2 x3)
theorem s5 : Holds x0 x1 x2 x3 5 (val_main_v359 (F := Ideal) x0 x1 x2 x3) := step x0 x1 x2 x3 4 27 (by rfl) slices_S32x4x64x128_S1x4x64x128_27_0_0_0 (val_main_v354 (F := Ideal) x0 x1 x2 x3) (s4 x0 x1 x2 x3)
theorem s6 : Holds x0 x1 x2 x3 6 (val_main_v364 (F := Ideal) x0 x1 x2 x3) := step x0 x1 x2 x3 5 26 (by rfl) slices_S32x4x64x128_S1x4x64x128_26_0_0_0 (val_main_v359 (F := Ideal) x0 x1 x2 x3) (s5 x0 x1 x2 x3)
theorem s7 : Holds x0 x1 x2 x3 7 (val_main_v369 (F := Ideal) x0 x1 x2 x3) := step x0 x1 x2 x3 6 25 (by rfl) slices_S32x4x64x128_S1x4x64x128_25_0_0_0 (val_main_v364 (F := Ideal) x0 x1 x2 x3) (s6 x0 x1 x2 x3)
theorem s8 : Holds x0 x1 x2 x3 8 (val_main_v374 (F := Ideal) x0 x1 x2 x3) := step x0 x1 x2 x3 7 24 (by rfl) slices_S32x4x64x128_S1x4x64x128_24_0_0_0 (val_main_v369 (F := Ideal) x0 x1 x2 x3) (s7 x0 x1 x2 x3)
theorem s9 : Holds x0 x1 x2 x3 9 (val_main_v379 (F := Ideal) x0 x1 x2 x3) := step x0 x1 x2 x3 8 23 (by rfl) slices_S32x4x64x128_S1x4x64x128_23_0_0_0 (val_main_v374 (F := Ideal) x0 x1 x2 x3) (s8 x0 x1 x2 x3)
theorem s10 : Holds x0 x1 x2 x3 10 (val_main_v384 (F := Ideal) x0 x1 x2 x3) := step x0 x1 x2 x3 9 22 (by rfl) slices_S32x4x64x128_S1x4x64x128_22_0_0_0 (val_main_v379 (F := Ideal) x0 x1 x2 x3) (s9 x0 x1 x2 x3)
theorem s11 : Holds x0 x1 x2 x3 11 (val_main_v389 (F := Ideal) x0 x1 x2 x3) := step x0 x1 x2 x3 10 21 (by rfl) slices_S32x4x64x128_S1x4x64x128_21_0_0_0 (val_main_v384 (F := Ideal) x0 x1 x2 x3) (s10 x0 x1 x2 x3)
theorem s12 : Holds x0 x1 x2 x3 12 (val_main_v394 (F := Ideal) x0 x1 x2 x3) := step x0 x1 x2 x3 11 20 (by rfl) slices_S32x4x64x128_S1x4x64x128_20_0_0_0 (val_main_v389 (F := Ideal) x0 x1 x2 x3) (s11 x0 x1 x2 x3)
theorem s13 : Holds x0 x1 x2 x3 13 (val_main_v399 (F := Ideal) x0 x1 x2 x3) := step x0 x1 x2 x3 12 19 (by rfl) slices_S32x4x64x128_S1x4x64x128_19_0_0_0 (val_main_v394 (F := Ideal) x0 x1 x2 x3) (s12 x0 x1 x2 x3)
theorem s14 : Holds x0 x1 x2 x3 14 (val_main_v404 (F := Ideal) x0 x1 x2 x3) := step x0 x1 x2 x3 13 18 (by rfl) slices_S32x4x64x128_S1x4x64x128_18_0_0_0 (val_main_v399 (F := Ideal) x0 x1 x2 x3) (s13 x0 x1 x2 x3)
theorem s15 : Holds x0 x1 x2 x3 15 (val_main_v409 (F := Ideal) x0 x1 x2 x3) := step x0 x1 x2 x3 14 17 (by rfl) slices_S32x4x64x128_S1x4x64x128_17_0_0_0 (val_main_v404 (F := Ideal) x0 x1 x2 x3) (s14 x0 x1 x2 x3)
theorem s16 : Holds x0 x1 x2 x3 16 (val_main_v414 (F := Ideal) x0 x1 x2 x3) := step x0 x1 x2 x3 15 16 (by rfl) slices_S32x4x64x128_S1x4x64x128_16_0_0_0 (val_main_v409 (F := Ideal) x0 x1 x2 x3) (s15 x0 x1 x2 x3)
theorem s17 : Holds x0 x1 x2 x3 17 (val_main_v419 (F := Ideal) x0 x1 x2 x3) := step x0 x1 x2 x3 16 15 (by rfl) slices_S32x4x64x128_S1x4x64x128_15_0_0_0 (val_main_v414 (F := Ideal) x0 x1 x2 x3) (s16 x0 x1 x2 x3)
theorem s18 : Holds x0 x1 x2 x3 18 (val_main_v424 (F := Ideal) x0 x1 x2 x3) := step x0 x1 x2 x3 17 14 (by rfl) slices_S32x4x64x128_S1x4x64x128_14_0_0_0 (val_main_v419 (F := Ideal) x0 x1 x2 x3) (s17 x0 x1 x2 x3)
theorem s19 : Holds x0 x1 x2 x3 19 (val_main_v429 (F := Ideal) x0 x1 x2 x3) := step x0 x1 x2 x3 18 13 (by rfl) slices_S32x4x64x128_S1x4x64x128_13_0_0_0 (val_main_v424 (F := Ideal) x0 x1 x2 x3) (s18 x0 x1 x2 x3)
theorem s20 : Holds x0 x1 x2 x3 20 (val_main_v434 (F := Ideal) x0 x1 x2 x3) := step x0 x1 x2 x3 19 12 (by rfl) slices_S32x4x64x128_S1x4x64x128_12_0_0_0 (val_main_v429 (F := Ideal) x0 x1 x2 x3) (s19 x0 x1 x2 x3)
theorem s21 : Holds x0 x1 x2 x3 21 (val_main_v439 (F := Ideal) x0 x1 x2 x3) := step x0 x1 x2 x3 20 11 (by rfl) slices_S32x4x64x128_S1x4x64x128_11_0_0_0 (val_main_v434 (F := Ideal) x0 x1 x2 x3) (s20 x0 x1 x2 x3)
theorem s22 : Holds x0 x1 x2 x3 22 (val_main_v444 (F := Ideal) x0 x1 x2 x3) := step x0 x1 x2 x3 21 10 (by rfl) slices_S32x4x64x128_S1x4x64x128_10_0_0_0 (val_main_v439 (F := Ideal) x0 x1 x2 x3) (s21 x0 x1 x2 x3)
theorem s23 : Holds x0 x1 x2 x3 23 (val_main_v449 (F := Ideal) x0 x1 x2 x3) := step x0 x1 x2 x3 22 9 (by rfl) slices_S32x4x64x128_S1x4x64x128_9_0_0_0 (val_main_v444 (F := Ideal) x0 x1 x2 x3) (s22 x0 x1 x2 x3)
theorem s24 : Holds x0 x1 x2 x3 24 (val_main_v454 (F := Ideal) x0 x1 x2 x3) := step x0 x1 x2 x3 23 8 (by rfl) slices_S32x4x64x128_S1x4x64x128_8_0_0_0 (val_main_v449 (F := Ideal) x0 x1 x2 x3) (s23 x0 x1 x2 x3)
theorem s25 : Holds x0 x1 x2 x3 25 (val_main_v459 (F := Ideal) x0 x1 x2 x3) := step x0 x1 x2 x3 24 7 (by rfl) slices_S32x4x64x128_S1x4x64x128_7_0_0_0 (val_main_v454 (F := Ideal) x0 x1 x2 x3) (s24 x0 x1 x2 x3)
theorem s26 : Holds x0 x1 x2 x3 26 (val_main_v464 (F := Ideal) x0 x1 x2 x3) := step x0 x1 x2 x3 25 6 (by rfl) slices_S32x4x64x128_S1x4x64x128_6_0_0_0 (val_main_v459 (F := Ideal) x0 x1 x2 x3) (s25 x0 x1 x2 x3)
theorem s27 : Holds x0 x1 x2 x3 27 (val_main_v469 (F := Ideal) x0 x1 x2 x3) := step x0 x1 x2 x3 26 5 (by rfl) slices_S32x4x64x128_S1x4x64x128_5_0_0_0 (val_main_v464 (F := Ideal) x0 x1 x2 x3) (s26 x0 x1 x2 x3)
theorem s28 : Holds x0 x1 x2 x3 28 (val_main_v474 (F := Ideal) x0 x1 x2 x3) := step x0 x1 x2 x3 27 4 (by rfl) slices_S32x4x64x128_S1x4x64x128_4_0_0_0 (val_main_v469 (F := Ideal) x0 x1 x2 x3) (s27 x0 x1 x2 x3)
theorem s29 : Holds x0 x1 x2 x3 29 (val_main_v479 (F := Ideal) x0 x1 x2 x3) := step x0 x1 x2 x3 28 3 (by rfl) slices_S32x4x64x128_S1x4x64x128_3_0_0_0 (val_main_v474 (F := Ideal) x0 x1 x2 x3) (s28 x0 x1 x2 x3)
theorem s30 : Holds x0 x1 x2 x3 30 (val_main_v484 (F := Ideal) x0 x1 x2 x3) := step x0 x1 x2 x3 29 2 (by rfl) slices_S32x4x64x128_S1x4x64x128_2_0_0_0 (val_main_v479 (F := Ideal) x0 x1 x2 x3) (s29 x0 x1 x2 x3)
theorem s31 : Holds x0 x1 x2 x3 31 (val_main_v489 (F := Ideal) x0 x1 x2 x3) := step x0 x1 x2 x3 30 1 (by rfl) slices_S32x4x64x128_S1x4x64x128_1_0_0_0 (val_main_v484 (F := Ideal) x0 x1 x2 x3) (s30 x0 x1 x2 x3)

/-! ### The stack of them -/

/-- States as one piece of a stack. -/
abbrev piece (D : States) : S1x4x64x128.Idx → EReal := broadcastInDim S1x4x64x128 ![1, 2, 3] bcast_S4x64x128_S1x4x64x128_1_2_3 D

theorem piece_apply (D : States) : piece D (ix4 (0 : Fin 1) h d e) = D (ix3 h d e) :=
  broadcastInDim_apply _ bcast_S4x64x128_S1x4x64x128_1_2_3 D (ix4 (0 : Fin 1) h d e) (ix3 h d e) (fun a => match a with
    | ⟨0, _⟩ => by show h.val = if (4 : Nat) = 1 then 0 else h.val; rw [if_neg (by decide)]
    | ⟨1, _⟩ => by show d.val = if (64 : Nat) = 1 then 0 else d.val; rw [if_neg (by decide)]
    | ⟨2, _⟩ => by show e.val = if (128 : Nat) = 1 then 0 else e.val; rw [if_neg (by decide)])

/-- Sixteen pieces, stacked, read at one of them. -/
theorem stack16 (f : Fin 16 → States) (j : Fin 16)
    (hc : Shape.Concatenates ((List.ofFn fun k : Fin 16 => (⟨S1x4x64x128, piece (f k)⟩ : (s : Shape) × (s.Idx → EReal))).map (·.1))
      S16x4x64x128 0) :
    concatenate S16x4x64x128 0 (List.ofFn fun k : Fin 16 => ⟨S1x4x64x128, piece (f k)⟩) hc (ix4 j h d e) = f j (ix3 h d e) :=
  (concatenate_ofFn_unit_apply (t := S16x4x64x128) (s₁ := S1x4x64x128) 0 (fun k => piece (f k)) hc rfl rfl (ix4 j h d e) j rfl
    (ix4 (0 : Fin 1) h d e) (fun b hb => match b, hb with
      | ⟨0, _⟩, hb => absurd rfl hb
      | ⟨1, _⟩, _ => rfl
      | ⟨2, _⟩, _ => rfl
      | ⟨3, _⟩, _ => rfl)).trans (piece_apply h e d (f j))

/-- The gradients after the first sixteen chunks. -/
def early : Fin 16 → States :=
  ![val_main_v489 (F := Ideal) x0 x1 x2 x3, val_main_v484 (F := Ideal) x0 x1 x2 x3, val_main_v479 (F := Ideal) x0 x1 x2 x3, val_main_v474 (F := Ideal) x0 x1 x2 x3, val_main_v469 (F := Ideal) x0 x1 x2 x3, val_main_v464 (F := Ideal) x0 x1 x2 x3, val_main_v459 (F := Ideal) x0 x1 x2 x3, val_main_v454 (F := Ideal) x0 x1 x2 x3, val_main_v449 (F := Ideal) x0 x1 x2 x3, val_main_v444 (F := Ideal) x0 x1 x2 x3, val_main_v439 (F := Ideal) x0 x1 x2 x3, val_main_v434 (F := Ideal) x0 x1 x2 x3, val_main_v429 (F := Ideal) x0 x1 x2 x3, val_main_v424 (F := Ideal) x0 x1 x2 x3, val_main_v419 (F := Ideal) x0 x1 x2 x3, val_main_v414 (F := Ideal) x0 x1 x2 x3]

/-- The gradients after the last sixteen. -/
def late : Fin 16 → States :=
  ![val_main_v409 (F := Ideal) x0 x1 x2 x3, val_main_v404 (F := Ideal) x0 x1 x2 x3, val_main_v399 (F := Ideal) x0 x1 x2 x3, val_main_v394 (F := Ideal) x0 x1 x2 x3, val_main_v389 (F := Ideal) x0 x1 x2 x3, val_main_v384 (F := Ideal) x0 x1 x2 x3, val_main_v379 (F := Ideal) x0 x1 x2 x3, val_main_v374 (F := Ideal) x0 x1 x2 x3, val_main_v369 (F := Ideal) x0 x1 x2 x3, val_main_v364 (F := Ideal) x0 x1 x2 x3, val_main_v359 (F := Ideal) x0 x1 x2 x3, val_main_v354 (F := Ideal) x0 x1 x2 x3, val_main_v349 (F := Ideal) x0 x1 x2 x3, val_main_v344 (F := Ideal) x0 x1 x2 x3, val_main_v339 (F := Ideal) x0 x1 x2 x3, val_main_v331 (F := Ideal)]

theorem early_holds : ∀ j : Fin 16, Holds x0 x1 x2 x3 (31 - j.val) (early x0 x1 x2 x3 j)
  | ⟨0, _⟩ => s31 x0 x1 x2 x3
  | ⟨1, _⟩ => s30 x0 x1 x2 x3
  | ⟨2, _⟩ => s29 x0 x1 x2 x3
  | ⟨3, _⟩ => s28 x0 x1 x2 x3
  | ⟨4, _⟩ => s27 x0 x1 x2 x3
  | ⟨5, _⟩ => s26 x0 x1 x2 x3
  | ⟨6, _⟩ => s25 x0 x1 x2 x3
  | ⟨7, _⟩ => s24 x0 x1 x2 x3
  | ⟨8, _⟩ => s23 x0 x1 x2 x3
  | ⟨9, _⟩ => s22 x0 x1 x2 x3
  | ⟨10, _⟩ => s21 x0 x1 x2 x3
  | ⟨11, _⟩ => s20 x0 x1 x2 x3
  | ⟨12, _⟩ => s19 x0 x1 x2 x3
  | ⟨13, _⟩ => s18 x0 x1 x2 x3
  | ⟨14, _⟩ => s17 x0 x1 x2 x3
  | ⟨15, _⟩ => s16 x0 x1 x2 x3
  | ⟨k + 16, hk⟩ => absurd hk (by omega)

theorem late_holds : ∀ j : Fin 16, Holds x0 x1 x2 x3 (15 - j.val) (late x0 x1 x2 x3 j)
  | ⟨0, _⟩ => s15 x0 x1 x2 x3
  | ⟨1, _⟩ => s14 x0 x1 x2 x3
  | ⟨2, _⟩ => s13 x0 x1 x2 x3
  | ⟨3, _⟩ => s12 x0 x1 x2 x3
  | ⟨4, _⟩ => s11 x0 x1 x2 x3
  | ⟨5, _⟩ => s10 x0 x1 x2 x3
  | ⟨6, _⟩ => s9 x0 x1 x2 x3
  | ⟨7, _⟩ => s8 x0 x1 x2 x3
  | ⟨8, _⟩ => s7 x0 x1 x2 x3
  | ⟨9, _⟩ => s6 x0 x1 x2 x3
  | ⟨10, _⟩ => s5 x0 x1 x2 x3
  | ⟨11, _⟩ => s4 x0 x1 x2 x3
  | ⟨12, _⟩ => s3 x0 x1 x2 x3
  | ⟨13, _⟩ => s2 x0 x1 x2 x3
  | ⟨14, _⟩ => s1 x0 x1 x2 x3
  | ⟨15, _⟩ => s0 x0 x1 x2 x3
  | ⟨k + 16, hk⟩ => absurd hk (by omega)

theorem v527 (j : Fin 16) : val_main_v527 (F := Ideal) x0 x1 x2 x3 (ix4 j h d e) = st x0 x1 x2 x3 h (31 - j.val) d e :=
  (stack16 h e d (early x0 x1 x2 x3) j concatenates_S1x4x64x128_S1x4x64x128_S1x4x64x128_S1x4x64x128_S1x4x64x128_S1x4x64x128_S1x4x64x128_S1x4x64x128_S1x4x64x128_S1x4x64x128_S1x4x64x128_S1x4x64x128_S1x4x64x128_S1x4x64x128_S1x4x64x128_S1x4x64x128_S16x4x64x128_d0).trans
    (early_holds x0 x1 x2 x3 j h d e)

theorem v528 (j : Fin 16) : val_main_v528 (F := Ideal) x0 x1 x2 x3 (ix4 j h d e) = st x0 x1 x2 x3 h (15 - j.val) d e :=
  (stack16 h e d (late x0 x1 x2 x3) j concatenates_S1x4x64x128_S1x4x64x128_S1x4x64x128_S1x4x64x128_S1x4x64x128_S1x4x64x128_S1x4x64x128_S1x4x64x128_S1x4x64x128_S1x4x64x128_S1x4x64x128_S1x4x64x128_S1x4x64x128_S1x4x64x128_S1x4x64x128_S1x4x64x128_S16x4x64x128_d0).trans
    (late_holds x0 x1 x2 x3 j h d e)

/-- The two halves, joined. -/
theorem v529 : val_main_v529 (F := Ideal) x0 x1 x2 x3 (ix4 n h d e) = st x0 x1 x2 x3 h (31 - n.val) d e := by
  unfold val_main_v529
  by_cases hn : n.val < 16
  · exact (concatenate_pair_apply_left 0 _ _ concatenates_S16x4x64x128_S16x4x64x128_S32x4x64x128_d0 (ix4 n h d e) rfl
      (ix4 (⟨n.val, hn⟩ : Fin 16) h d e) (fun b => match b with
        | ⟨0, _⟩ => rfl
        | ⟨1, _⟩ => rfl
        | ⟨2, _⟩ => rfl
        | ⟨3, _⟩ => rfl)).trans (v527 x0 x1 x2 x3 h e d ⟨n.val, hn⟩)
  · have hj : n.val - 16 < 16 := by omega
    have e15 : 15 - (n.val - 16) = 31 - n.val := by omega
    refine (concatenate_pair_apply_right 0 _ _ concatenates_S16x4x64x128_S16x4x64x128_S32x4x64x128_d0 (ix4 n h d e) rfl rfl
      (ix4 (⟨n.val - 16, hj⟩ : Fin 16) h d e) (fun b hb => match b, hb with
        | ⟨0, _⟩, hb => absurd rfl hb
        | ⟨1, _⟩, _ => rfl
        | ⟨2, _⟩, _ => rfl
        | ⟨3, _⟩, _ => rfl) (by show n.val - 16 + 16 = n.val; omega)).trans ((v528 x0 x1 x2 x3 h e d ⟨n.val - 16, hj⟩).trans ?_)
    show st x0 x1 x2 x3 h (15 - (n.val - 16)) d e = _
    rw [e15]

/-- One chunk and head of the reference. -/
abbrev full : Head := (arrays x0 x1 x2 x3).full n h

/-- The gradient of the state after a chunk. -/
theorem v530 : val_main_v530 (F := Ideal) x0 x1 x2 x3 (ix4 n h d e) = (full x0 x1 x2 x3 n h).dst d e := by
  unfold val_main_v530
  exact (concatenate_pair_apply_left 0 _ _ concatenates_S32x4x64x128_S0x4x64x128_S32x4x64x128_d0 (ix4 n h d e) rfl
      (ix4 n h d e) (fun b => match b with
        | ⟨0, _⟩ => rfl
        | ⟨1, _⟩ => rfl
        | ⟨2, _⟩ => rfl
        | ⟨3, _⟩ => rfl)).trans (v529 x0 x1 x2 x3 n h e d)

/-! ### Gradients of the values and of the keys -/

/-- The state after the chunk, as `Proof/RefHead.lean`'s lemmas take it. -/
abbrev fst' : Fin 64 → Fin 128 → EReal := st x0 x1 x2 x3 h (31 - n.val)

theorem v531 : val_main_v531 (F := Ideal) x0 x1 x2 x3 (ix4 n h e c)
    = ∑ d, (full x0 x1 x2 x3 n h).k c d * (full x0 x1 x2 x3 n h).kw c * (full x0 x1 x2 x3 n h).dst d e :=
  (val_main_v531_apply ..).trans (sums fun d => mit (at4 (v530 x0 x1 x2 x3 n h e d)) (at4 (v57 x0 x1 x2 x3 n h c d (fst' x0 x1 x2 x3 n h))))

theorem v532 : val_main_v532 (F := Ideal) x0 x1 x2 x3 (ix4 n c h e)
    = ∑ d, (full x0 x1 x2 x3 n h).k c d * (full x0 x1 x2 x3 n h).kw c * (full x0 x1 x2 x3 n h).dst d e :=
  (val_main_v532_apply ..).trans (at4 (v531 x0 x1 x2 x3 n h c e))

theorem v533 : val_main_v533 (F := Ideal) x0 x1 x2 x3 (ix4 n h d c)
    = ∑ e, (full x0 x1 x2 x3 n h).v c e * (full x0 x1 x2 x3 n h).dst d e :=
  (val_main_v533_apply ..).trans (sums fun e => mit (at4 (v530 x0 x1 x2 x3 n h e d)) (at4 (v58 x0 x1 x2 x3 n h c e (fst' x0 x1 x2 x3 n h))))

theorem v534 : val_main_v534 (F := Ideal) x0 x1 x2 x3 (ix4 n c h d)
    = ∑ e, (full x0 x1 x2 x3 n h).v c e * (full x0 x1 x2 x3 n h).dst d e :=
  (val_main_v534_apply ..).trans (at4 (v533 x0 x1 x2 x3 n h c d))

theorem v535 : val_main_v535 (F := Ideal) x0 x1 x2 x3 (ix2 (row n c) (lane128 h e))
    = ∑ d, (full x0 x1 x2 x3 n h).k c d * (full x0 x1 x2 x3 n h).kw c * (full x0 x1 x2 x3 n h).dst d e :=
  (val_main_v535_apply ..).trans (at4 (v532 x0 x1 x2 x3 n h c e) (f128n n h c e) (f128p n h c e) (f128h n h c e) (f128e n h c e))

theorem v536 : val_main_v536 (F := Ideal) (ix4 n c h d) = (full x0 x1 x2 x3 n h).kw c :=
  (val_main_v536_apply ..).trans (at4 (v55 x0 x1 x2 x3 n h c (fst' x0 x1 x2 x3 n h)))

theorem v537 : val_main_v537 (F := Ideal) x0 x1 x2 x3 (ix4 n c h d)
    = (∑ e, (full x0 x1 x2 x3 n h).v c e * (full x0 x1 x2 x3 n h).dst d e) * (full x0 x1 x2 x3 n h).kw c :=
  (val_main_v537_apply ..).trans (mul2 (v534 x0 x1 x2 x3 n h c d) (v536 x0 x1 x2 x3 n h c d))

theorem v538 : val_main_v538 (F := Ideal) x0 x1 x2 x3 (ix2 (row n c) (lane64 h d))
    = (∑ e, (full x0 x1 x2 x3 n h).v c e * (full x0 x1 x2 x3 n h).dst d e) * (full x0 x1 x2 x3 n h).kw c :=
  (val_main_v538_apply ..).trans (at4 (v537 x0 x1 x2 x3 n h c d) (f64n n h c d) (f64p n h c d) (f64h n h c d) (f64d n h c d))

/-- Gradient of the values. -/
theorem v551 : val_main_v551 (F := Ideal) x0 x1 x2 x3 (ix2 (row n c) (lane128 h e)) = (full x0 x1 x2 x3 n h).dv c e :=
  (val_main_v551_apply ..).trans (add2 (v535 x0 x1 x2 x3 n h c e) (v550 x0 x1 x2 x3 n h c e (fst' x0 x1 x2 x3 n h)))

/-- Gradient of the keys. -/
theorem v553 : val_main_v553 (F := Ideal) x0 x1 x2 x3 (ix2 (row n c) (lane64 h d)) = (full x0 x1 x2 x3 n h).dk c d :=
  (val_main_v553_apply ..).trans (add2 (v538 x0 x1 x2 x3 n h c d) (v552 x0 x1 x2 x3 n h c d (fst' x0 x1 x2 x3 n h)))

/-! ### The four results -/

theorem result_dq : val_main_v554 (F := Ideal) x0 x1 x2 x3 (ix2 (row n r) (lane64 h d)) = (full x0 x1 x2 x3 n h).dq r d :=
  v554 x0 x1 x2 x3 n h r d (fst' x0 x1 x2 x3 n h)
theorem result_dk : val_main_v553 (F := Ideal) x0 x1 x2 x3 (ix2 (row n r) (lane64 h d)) = (full x0 x1 x2 x3 n h).dk r d :=
  v553 x0 x1 x2 x3 n h r d
theorem result_dv : val_main_v555 (F := Ideal) x0 x1 x2 x3 (ix2 (row n r) (lane128 h e)) = (full x0 x1 x2 x3 n h).dv r e :=
  (val_main_v555_apply ..).trans (v551 x0 x1 x2 x3 n h r e)
theorem result_dg : val_main_v556 (F := Ideal) x0 x1 x2 x3 (ix2 (row n r) (lane128 h e)) = (full x0 x1 x2 x3 n h).dg r e :=
  v556 x0 x1 x2 x3 n h r e (fst' x0 x1 x2 x3 n h)

end Cert.Proof.Ref
-- ==== Proof.Tile.lean ====
/-
  ONE HEAD'S TILE of the retention backward kernel, as plain vector expressions.

  The kernel body handles four heads one after the other with the same operations; the printed payloads cut that
  sequence into pieces at different places for each head.  Here the sequence is written once, value by value, over what
  one head loads: the decay table, the two weight columns, the head's `q`, `k`, `v`, gate and incoming gradient tiles,
  the forward state before the chunk, and the gradient state carried from the later chunks.  `cd` is the factor by which
  a state decays over a whole chunk.  Everything is over any float instance.
-/
module

public import proofs.«01_k».proof.Proof.Gen.KernelIdeal

@[expose] public section

noncomputable section

namespace Cert.Proof.Tile

open Idealize.ShloMosaic Cert.KernelIdeal Cert.KernelIdeal.Gen

variable {F : FTy → Type} [FloatOps F]

/-- What one head of one chunk reads. -/
structure Loads (F : FTy → Type) where
  /-- decay between two positions of the chunk -/
  dec : Vec F S1x128x128 .f32
  /-- weight of the incoming state at a position -/
  qw : Vec F S1x128x1 .f32
  /-- weight of a position in the outgoing state -/
  kw : Vec F S1x128x1 .f32
  /-- queries -/
  q : Vec F S128x64 .f32
  /-- keys -/
  k : Vec F S128x64 .f32
  /-- values -/
  v : Vec F S128x128 .f32
  /-- gate before its activation -/
  g : Vec F S128x128 .f32
  /-- incoming gradient -/
  dy : Vec F S128x128 .f32
  /-- forward state before the chunk -/
  prev : Vec F S1x1x64x128 .f32
  /-- gradient of the state after the chunk -/
  dst : Vec F S1x64x128 .f32
  /-- decay of a state over the chunk -/
  cd : F .f32

variable (L : Loads F)

/-- A column of row sums. -/
def rowSum (x : FVec F S128x128 .f32) : FVec F S128x1 .f32 :=
  shapeCast S128x1 (multiReduction .add [1] S128 x 0x00000000#32 reduces_S128x128_S128 (.inl rfl) rfl) shapeCasts_S128_S128x1
/-- The sum along an axis of extent one. -/
def unitSum (x : FVec F S128x1 .f32) : FVec F S128x1 .f32 :=
  shapeCast S128x1 (multiReduction .add [1] S128 x 0x00000000#32 reduces_S128x1_S128 (.inl rfl) rfl) shapeCasts_S128_S128x1
/-- A column spread over 128 lanes. -/
def wide (x : FVec F S128x1 .f32) : FVec F S128x128 .f32 := broadcastTo S128x128 x broadcasts_S128x1_S128x128
/-- A column spread over 64 lanes. -/
def half (x : FVec F S128x1 .f32) : FVec F S128x64 .f32 := broadcastTo S128x64 x broadcasts_S128x1_S128x64
/-- A column divided by 128. -/
def over128 (x : FVec F S128x1 .f32) : FVec F S128x1 .f32 := divf x (broadcast S128x1 (Scalar.ofBits .f32 0x43000000#32))
/-- The cast in front of a product. -/
def lo {s : Shape} (x : FVec F s .f32) : FVec F s .bf16 := truncf .bf16 x bitsLt_bf16_f32

def decM : FVec F S128x128 .f32 := shapeCast S128x128 L.dec shapeCasts_S1x128x128_S128x128
def qwM : FVec F S128x1 .f32 := shapeCast S128x1 L.qw shapeCasts_S1x128x1_S128x1
def kwM : FVec F S128x1 .f32 := shapeCast S128x1 L.kw shapeCasts_S1x128x1_S128x1
def prevM : FVec F S64x128 .f32 := shapeCast S64x128 L.prev shapeCasts_S1x1x64x128_S64x128
def dstM : FVec F S64x128 .f32 :=
  shapeCast S64x128 (shapeCast S64x128 L.dst shapeCasts_S1x64x128_S64x128) shapeCasts_S64x128_S64x128

/-- Decayed scores. -/
def scores : FVec F S128x128 .f32 :=
  mulf (matmul dot_S128x64_S128x64_S128x128_1_1_0_0_n_n none (lo L.q) (lo L.k) (constant S128x128 .f32 0x00000000#32)) (decM L)
/-- Weighted queries. -/
def qq : FVec F S128x64 .f32 := mulf L.q (half (qwM L))
/-- The retention output before its norm. -/
def y : FVec F S128x128 .f32 :=
  addf (matmul dot_S128x128_S128x128_S128x128_1_0_0_1_n_n none (lo (scores L)) (lo L.v) (constant S128x128 .f32 0x00000000#32))
    (matmul dot_S128x64_S64x128_S128x128_1_0_0_1_n_n none (lo (qq L)) (lo (prevM L)) (constant S128x128 .f32 0x00000000#32))
/-- Its mean. -/
def mean : FVec F S128x1 .f32 := over128 (rowSum (y L))
/-- The centred output. -/
def ce : FVec F S128x128 .f32 := subf (y L) (wide (mean L))
/-- Twice the centred output. -/
def ce2 : FVec F S128x128 .f32 := mulf (broadcast S128x128 (Scalar.ofBits .f32 0x40000000#32)) (ce L)
/-- Variance plus epsilon. -/
def ve : FVec F S128x1 .f32 :=
  addf (over128 (rowSum (mulf (ce L) (ce L)))) (broadcast S128x1 (Scalar.ofBits .f32 0x358637BD#32))
/-- Reciprocal root of it. -/
def rs : FVec F S128x1 .f32 := rsqrt (ve L)
/-- Derivative of the reciprocal root. -/
def drs : FVec F S128x1 .f32 := mulf (broadcast S128x1 (Scalar.ofBits .f32 0xBF000000#32)) (divf (rs L) (ve L))
/-- The gate's logistic. -/
def sg : FVec F S128x128 .f32 := logistic L.g
/-- Derivative of the logistic. -/
def dsg : FVec F S128x128 .f32 := mulf (sg L) (subf (broadcast S128x128 (Scalar.ofBits .f32 0x3F800000#32)) (sg L))
/-- Gradient of the normed output. -/
def gy : FVec F S128x128 .f32 := mulf (mulf L.g (sg L)) L.dy
/-- Gradient of the activated gate. -/
def gs : FVec F S128x128 .f32 := mulf L.dy (mulf (ce L) (wide (rs L)))
/-- Gradient of the gate. -/
def dg : FVec F S128x128 .f32 := addf (mulf (gs L) (sg L)) (mulf (mulf L.g (gs L)) (dsg L))
/-- Gradient of the centred output through the scale. -/
def gc : FVec F S128x128 .f32 := mulf (gy L) (wide (rs L))
/-- Gradient of the variance. -/
def gv : FVec F S128x1 .f32 := over128 (mulf (rowSum (mulf (ce L) (gy L))) (drs L))
/-- Gradient of the centred output through the variance. -/
def gq : FVec F S128x128 .f32 := mulf (wide (unitSum (gv L))) (ce2 L)
/-- Minus the row sums of a gradient. -/
def negSum (x : FVec F S128x128 .f32) : FVec F S128x1 .f32 :=
  rowSum (subf (broadcast S128x128 (Scalar.ofBits .f32 0x00000000#32)) x)
/-- Gradient of the mean. -/
def gm : FVec F S128x1 .f32 := over128 (addf (negSum (gc L)) (negSum (gq L)))
/-- Gradient of the retention output. -/
def dyo : FVec F S128x128 .f32 := addf (addf (gc L) (gq L)) (wide (unitSum (gm L)))
/-- Gradient of the decayed scores, decayed. -/
def dsc : FVec F S128x128 .f32 :=
  mulf (matmul dot_S128x128_S128x128_S128x128_1_1_0_0_n_n none (lo (dyo L)) (lo L.v) (constant S128x128 .f32 0x00000000#32)) (decM L)
/-- Gradient of the queries. -/
def dq : FVec F S128x64 .f32 :=
  addf (mulf (matmul dot_S128x128_S64x128_S128x64_1_1_0_0_n_n none (lo (dyo L)) (lo (prevM L)) (constant S128x64 .f32 0x00000000#32))
      (half (qwM L)))
    (matmul dot_S128x128_S128x64_S128x64_1_0_0_1_n_n none (lo (dsc L)) (lo L.k) (constant S128x64 .f32 0x00000000#32))
/-- Gradient of the keys. -/
def dk : FVec F S128x64 .f32 :=
  addf (mulf (matmul dot_S128x128_S64x128_S128x64_1_1_0_0_n_n none (lo L.v) (lo (dstM L)) (constant S128x64 .f32 0x00000000#32))
      (half (kwM L)))
    (matmul dot_S128x128_S128x64_S128x64_0_0_1_1_n_n none (lo (dsc L)) (lo L.q) (constant S128x64 .f32 0x00000000#32))
/-- Gradient of the values. -/
def dv : FVec F S128x128 .f32 :=
  addf (matmul dot_S128x64_S64x128_S128x128_1_0_0_1_n_n none (lo (mulf L.k (half (kwM L)))) (lo (dstM L))
      (constant S128x128 .f32 0x00000000#32))
    (matmul dot_S128x128_S128x128_S128x128_0_0_1_1_n_n none (lo (scores L)) (lo (dyo L)) (constant S128x128 .f32 0x00000000#32))
/-- Gradient of the state before the chunk. -/
def dprev : FVec F S64x128 .f32 :=
  addf (mulf (dstM L) (broadcast S64x128 L.cd))
    (matmul dot_S128x64_S128x128_S64x128_0_0_1_1_n_n none (lo (qq L)) (lo (dyo L)) (constant S64x128 .f32 0x00000000#32))
/-- … as it is stored. -/
def dprevSt : FVec F S1x64x128 .f32 := shapeCast S1x64x128 (dprev L) shapeCasts_S64x128_S1x64x128

end Cert.Proof.Tile

end
-- ==== Proof.Block.lean ====
/-
  WHAT ONE GRID POINT WRITES.

  A grid point is one chunk of 128 positions; its body runs the four heads of Proof/Tile.lean over slices of the point's
  blocks.  `loads` names what head `h` reads of the blocks; the theorems say that every output block the generated run
  found is the four heads' tiles put side by side (and, for the carried gradient state, stacked).
-/
module

public import proofs.«01_k».proof.Proof.Tile
public import proofs.«01_k».proof.Proof.Gen.KernelIdeal.Frame

@[expose] public section

noncomputable section

namespace Cert.Proof.Block

open Idealize.ShloMosaic Idealize.SL.Sem Cert.KernelIdeal Cert.KernelIdeal.Gen Cert.Proof.Tile

variable {F : FTy → Type} [FloatOps F] [Named F]

/-- The blocks one grid point reads. -/
structure Blocks (F : FTy → Type) where
  q : Vec F S128x256 .f32
  k : Vec F S128x256 .f32
  v : Vec F S128x512 .f32
  g : Vec F S128x512 .f32
  prev : Vec F S1x4x64x128 .f32
  dy : Vec F S128x512 .f32
  dec : Vec F S4x128x128 .f32
  qw : Vec F S4x128x1 .f32
  kw : Vec F S4x128x1 .f32

/-- A state's decay over a chunk, per head: the named constants. -/
def cd (h : Fin 4) : F .f32 := match h with
  | 0 => Named.named κ "chunk_decay0" 0x3C8CC36A#32
  | 1 => Named.named κ "chunk_decay1" 0x3E08698E#32
  | 2 => Named.named κ "chunk_decay2" 0x3EBB9DB9#32
  | 3 => Named.named κ "chunk_decay3" 0x3F1B1EB1#32

/-- Head `h`'s columns of a block with 64 columns per head. -/
abbrev colsHalf (h : Fin 4) : Rect S128x256 := Rect.unit ![0, 64 * h.val] ![128, 64] (by
  intro a; match a with
  | ⟨0, _⟩ => exact Nat.le_refl 128
  | ⟨1, _⟩ => show 64 * h.val + 64 ≤ 256; omega)
/-- Head `h`'s columns of a block with 128 columns per head. -/
abbrev cols (h : Fin 4) : Rect S128x512 := Rect.unit ![0, 128 * h.val] ![128, 128] (by
  intro a; match a with
  | ⟨0, _⟩ => exact Nat.le_refl 128
  | ⟨1, _⟩ => show 128 * h.val + 128 ≤ 512; omega)
/-- Head `h`'s part of the forward states. -/
abbrev prevPart (h : Fin 4) : Rect S1x4x64x128 := Rect.unit ![0, h.val, 0, 0] ![1, 1, 64, 128] (by
  intro a; match a with
  | ⟨0, _⟩ => exact Nat.le_refl 1
  | ⟨1, _⟩ => show h.val + 1 ≤ 4; omega
  | ⟨2, _⟩ => exact Nat.le_refl 64
  | ⟨3, _⟩ => exact Nat.le_refl 128)
/-- Head `h`'s part of the carried gradient state. -/
abbrev statePart (h : Fin 4) : Rect S4x64x128 := Rect.unit ![h.val, 0, 0] ![1, 64, 128] (by
  intro a; match a with
  | ⟨0, _⟩ => show h.val + 1 ≤ 4; omega
  | ⟨1, _⟩ => exact Nat.le_refl 64
  | ⟨2, _⟩ => exact Nat.le_refl 128)
/-- Head `h`'s decay table. -/
abbrev decPart (h : Fin 4) : Rect S4x128x128 := Rect.unit ![h.val, 0, 0] ![1, 128, 128] (by
  intro a; match a with
  | ⟨0, _⟩ => show h.val + 1 ≤ 4; omega
  | ⟨1, _⟩ => exact Nat.le_refl 128
  | ⟨2, _⟩ => exact Nat.le_refl 128)
/-- Head `h`'s weight column. -/
abbrev colPart (h : Fin 4) : Rect S4x128x1 := Rect.unit ![h.val, 0, 0] ![1, 128, 1] (by
  intro a; match a with
  | ⟨0, _⟩ => show h.val + 1 ≤ 4; omega
  | ⟨1, _⟩ => exact Nat.le_refl 128
  | ⟨2, _⟩ => exact Nat.le_refl 1)

/-- What head `h` reads of the blocks, with `d` the carried gradient state. -/
def loads (B : Blocks F) (d : Vec F S4x64x128 .f32) (h : Fin 4) : Loads F where
  dec := View.ld B.dec (decPart h)
  qw := View.ld B.qw (colPart h)
  kw := View.ld B.kw (colPart h)
  q := View.ld B.q (colsHalf h)
  k := View.ld B.k (colsHalf h)
  v := View.ld B.v (cols h)
  g := View.ld B.g (cols h)
  dy := View.ld B.dy (cols h)
  prev := View.ld B.prev (prevPart h)
  dst := View.ld d (statePart h)
  cd := cd h

/-- Four tiles of 64 columns side by side. -/
def sideHalf (t : Fin 4 → FVec F S128x64 .f32) : FVec F S128x256 .f32 :=
  View.canon (Val := Elt F) (e := .f32) [⟨colsHalf 3, t 3⟩, ⟨colsHalf 2, t 2⟩, ⟨colsHalf 1, t 1⟩, ⟨colsHalf 0, t 0⟩]
/-- Four tiles of 128 columns side by side. -/
def side (t : Fin 4 → FVec F S128x128 .bf16) : FVec F S128x512 .bf16 :=
  View.canon (Val := Elt F) (e := .bf16) [⟨cols 3, t 3⟩, ⟨cols 2, t 2⟩, ⟨cols 1, t 1⟩, ⟨cols 0, t 0⟩]
/-- Four states stacked. -/
def stack (t : Fin 4 → FVec F S1x64x128 .f32) : FVec F S4x64x128 .f32 :=
  View.canon (Val := Elt F) (e := .f32) [⟨statePart 3, t 3⟩, ⟨statePart 2, t 2⟩, ⟨statePart 1, t 1⟩, ⟨statePart 0, t 0⟩]

end Cert.Proof.Block

end
-- ==== Proof.Points.lean ====
/-
  WHAT ONE GRID POINT LEAVES, and two facts about the state it carries.
-/
module

public import proofs.«01_k».proof.Proof.Block
public import Idealize.ShloMosaic.Lib.Pipeline.ReadBack

@[expose] public section

noncomputable section

namespace Cert.Proof.Block

open Idealize.ShloMosaic Idealize.SL.Sem Cert.KernelIdeal Cert.KernelIdeal.Gen Cert.Proof.Tile

variable {F : FTy → Type} [FloatOps F] [Named F]

/-- The state the first point starts from, as the body stores it. -/
def zeroState : FVec F S4x64x128 .f32 :=
  shapeCast S4x64x128 (broadcast S4x64x128 (Scalar.ofBits .f32 0x00000000#32)) shapeCasts_S4x64x128_S4x64x128

/-- The five values a point leaves: the gradients of queries, keys, values and gate, and the gradient state. -/
def results (B : Blocks F) (d : Vec F S4x64x128 .f32) :
    FVec F S128x256 .f32 × FVec F S128x256 .f32 × FVec F S128x512 .bf16 × FVec F S128x512 .bf16 × FVec F S4x64x128 .f32 :=
  (sideHalf fun h => dq (loads B d h), sideHalf fun h => dk (loads B d h), side fun h => lo (dv (loads B d h)),
    side fun h => lo (dg (loads B d h)), stack fun h => dprevSt (loads B d h))

/-- Pieces that cover an index decide the contents there: earlier writes do not matter. -/
theorem canon_append_of_cover {Val : EltTy → Type} [∀ e, Nonempty (Val e)] {s : Shape} {e : EltTy}
    (L' : List (View.Piece Val s e)) (y : s.Idx) :
    ∀ L : List (View.Piece Val s e), (∃ p ∈ L, y ∈ p.1.set) → View.canon (L ++ L') y = View.canon L y
  | [], h => by obtain ⟨p, hp, _⟩ := h; simp at hp
  | p :: L, h => by
      by_cases hm : y ∈ p.1.set
      · obtain ⟨x, rfl⟩ := p.1.exists_idx_of_mem hm
        exact (View.canon_cons_emb p.1 p.2 (L ++ L') x).trans (View.canon_cons_emb p.1 p.2 L x).symm
      · rw [List.cons_append, View.canon_cons_of_not_mem p _ hm, View.canon_cons_of_not_mem p _ hm]
        refine canon_append_of_cover L' y L ?_
        obtain ⟨p', hp', hy⟩ := h
        rcases List.mem_cons.mp hp' with rfl | hp'
        · exact absurd hy hm
        · exact ⟨p', hp', hy⟩

/-- The four heads' parts cover the carried state. -/
theorem stack_cover (t : Fin 4 → FVec F S1x64x128 .f32) (y : S4x64x128.Idx) :
    ∃ p ∈ ([⟨statePart 3, t 3⟩, ⟨statePart 2, t 2⟩, ⟨statePart 1, t 1⟩, ⟨statePart 0, t 0⟩] :
      List (View.Piece (Elt F) S4x64x128 .f32)), y ∈ p.1.set :=
  View.cover_of_tiledL ([⟨statePart 3, t 3⟩, ⟨statePart 2, t 2⟩, ⟨statePart 1, t 1⟩, ⟨statePart 0, t 0⟩] :
      List (View.Piece (Elt F) S4x64x128 .f32)) S1x64x128.size (by sl_kernel_rfl) y

/-- Four states stacked over whatever was written before them. -/
theorem stack_over (t : Fin 4 → FVec F S1x64x128 .f32) (L' : List (View.Piece (Elt F) S4x64x128 .f32)) :
    View.canon (⟨statePart 3, t 3⟩ :: ⟨statePart 2, t 2⟩ :: ⟨statePart 1, t 1⟩ :: ⟨statePart 0, t 0⟩ :: L') = stack t :=
  funext fun y => canon_append_of_cover L' y _ (stack_cover t y)

end Cert.Proof.Block

end
-- ==== Proof.PointFirst.lean ====
/-
  THE FIRST POINT computes the four heads' tiles over its blocks and the zero state, which it stores before the heads
  run: the values the generated run found are Proof/Points.lean's `results`.
-/
module

public import proofs.«01_k».proof.Proof.Points
public import Idealize.ShloMosaic.Lib.Pipeline.ReadBack

@[expose] public section

noncomputable section

namespace Cert.Proof.Block

open Idealize.ShloMosaic Idealize.SL.Sem Cert.KernelIdeal Cert.KernelIdeal.Gen Cert.Proof.Tile

variable {F : FTy → Type} [FloatOps F] [Named F]

section Points
variable (c : Dev nD) (i : grid0.Coords)
  (a1 : Memref sig .tc .vmem S128x256 .f32) (h1 : a1.IsWhole) (a2 : Memref sig .tc .vmem S128x256 .f32) (h2 :
  a2.IsWhole) (a3 : Memref sig .tc .vmem S128x512 .f32) (h3 : a3.IsWhole) (a4 : Memref sig .tc .vmem S128x512 .f32)
  (h4 : a4.IsWhole) (a5 : Memref sig .tc .vmem S1x4x64x128 .f32) (h5 : a5.IsWhole) (a6 : Memref sig .tc .vmem S128x512
  .f32) (h6 : a6.IsWhole) (a7 : Memref sig .tc .vmem S4x128x128 .f32) (h7 : a7.IsWhole) (a8 : Memref sig .tc .vmem
  S4x128x1 .f32) (h8 : a8.IsWhole) (a9 : Memref sig .tc .vmem S4x128x1 .f32) (h9 : a9.IsWhole) (a10 : Memref sig .tc
  .vmem S128x256 .f32) (h10 : a10.IsWhole) (a11 : Memref sig .tc .vmem S128x256 .f32) (h11 : a11.IsWhole) (a12 :
  Memref sig .tc .vmem S128x512 .bf16) (h12 : a12.IsWhole) (a13 : Memref sig .tc .vmem S128x512 .bf16) (h13 :
  a13.IsWhole) (a14 : Memref sig .tc .vmem S4x64x128 .f32) (h14 : a14.IsWhole)
  (B : Blocks F)

set_option maxHeartbeats 2000000 in
/-- The first point. -/
theorem first_results (hc : cond0_0 i) :
    out0_A_9 c i a1 h1 a2 h2 a3 h3 a4 h4 a5 h5 a6 h6 a7 h7 a8 h8 a9 h9 a10 h10 a11 h11 a12 h12 a13 h13 a14 h14
        hc B.q B.k B.v B.g B.prev B.dy B.dec B.qw B.kw = (results B zeroState).1 ∧
    out0_A_10 c i a1 h1 a2 h2 a3 h3 a4 h4 a5 h5 a6 h6 a7 h7 a8 h8 a9 h9 a10 h10 a11 h11 a12 h12 a13 h13 a14 h14
        hc B.q B.k B.v B.g B.prev B.dy B.dec B.qw B.kw = (results B zeroState).2.1 ∧
    out0_A_11 c i a1 h1 a2 h2 a3 h3 a4 h4 a5 h5 a6 h6 a7 h7 a8 h8 a9 h9 a10 h10 a11 h11 a12 h12 a13 h13 a14 h14
        hc B.q B.k B.v B.g B.prev B.dy B.dec B.qw B.kw = (results B zeroState).2.2.1 ∧
    out0_A_12 c i a1 h1 a2 h2 a3 h3 a4 h4 a5 h5 a6 h6 a7 h7 a8 h8 a9 h9 a10 h10 a11 h11 a12 h12 a13 h13 a14 h14
        hc B.q B.k B.v B.g B.prev B.dy B.dec B.qw B.kw = (results B zeroState).2.2.2.1 ∧
    sout0_A_0 c i a1 h1 a2 h2 a3 h3 a4 h4 a5 h5 a6 h6 a7 h7 a8 h8 a9 h9 a10 h10 a11 h11 a12 h12 a13 h13 a14 h14
        hc B.q B.k B.v B.g B.prev B.dy B.dec B.qw B.kw = (results B zeroState).2.2.2.2 := by
  refine ⟨?_, ?_, ?_, ?_, ?_⟩
  on_goal 1 => unfold out0_A_9; rw [View.read_writes_eq_canon _ _ _ (cover0_A_9 c i a1 h1 a2 h2 a3 h3 a4 h4 a5 h5 a6 h6 a7 h7 a8 h8 a9 h9 a10 h10 a11 h11 a12 h12 a13 h13 a14 h14
    hc B.q B.k B.v B.g B.prev B.dy B.dec B.qw B.kw)]
  on_goal 2 => unfold out0_A_10; rw [View.read_writes_eq_canon _ _ _ (cover0_A_10 c i a1 h1 a2 h2 a3 h3 a4 h4 a5 h5 a6 h6 a7 h7 a8 h8 a9 h9 a10 h10 a11 h11 a12 h12 a13 h13 a14 h14
    hc B.q B.k B.v B.g B.prev B.dy B.dec B.qw B.kw)]
  on_goal 3 => unfold out0_A_11; rw [View.read_writes_eq_canon _ _ _ (cover0_A_11 c i a1 h1 a2 h2 a3 h3 a4 h4 a5 h5 a6 h6 a7 h7 a8 h8 a9 h9 a10 h10 a11 h11 a12 h12 a13 h13 a14 h14
    hc B.q B.k B.v B.g B.prev B.dy B.dec B.qw B.kw)]
  on_goal 4 => unfold out0_A_12; rw [View.read_writes_eq_canon _ _ _ (cover0_A_12 c i a1 h1 a2 h2 a3 h3 a4 h4 a5 h5 a6 h6 a7 h7 a8 h8 a9 h9 a10 h10 a11 h11 a12 h12 a13 h13 a14 h14
    hc B.q B.k B.v B.g B.prev B.dy B.dec B.qw B.kw)]
  on_goal 5 => unfold sout0_A_0; rw [View.read_writes_eq_canon _ _ _ (scover0_A_0 c i a1 h1 a2 h2 a3 h3 a4 h4 a5 h5 a6 h6 a7 h7 a8 h8 a9 h9 a10 h10 a11 h11 a12 h12 a13 h13 a14 h14
    hc B.q B.k B.v B.g B.prev B.dy B.dec B.qw B.kw)]
  all_goals
    (unfold kernelRun0_A
     dsimp only
     sl_unfold_words
     simp (disch := decide) only [View.readCov_skip, View.readCov_fill]
     simp only [View.readAt_eq_ld, h1.read_unread, h2.read_unread, h3.read_unread, h4.read_unread, h5.read_unread, h6.read_unread, h7.read_unread, h8.read_unread, h9.read_unread]
     first | rfl | exact stack_over (F := F) (fun h => dprevSt (loads B zeroState h)) _)

end Points

end Cert.Proof.Block

end
-- ==== Proof.PointLater.lean ====
/-
  A POINT THAT IS NOT THE FIRST computes the four heads' tiles over its blocks and the state the point before it left:
  the values the generated run found are Proof/Points.lean's `results`.
-/
module

public import proofs.«01_k».proof.Proof.Points
public import Idealize.ShloMosaic.Lib.Pipeline.ReadBack

@[expose] public section

noncomputable section

namespace Cert.Proof.Block

open Idealize.ShloMosaic Idealize.SL.Sem Cert.KernelIdeal Cert.KernelIdeal.Gen Cert.Proof.Tile

variable {F : FTy → Type} [FloatOps F] [Named F]

section Points
variable (c : Dev nD) (i : grid0.Coords)
  (a1 : Memref sig .tc .vmem S128x256 .f32) (h1 : a1.IsWhole) (a2 : Memref sig .tc .vmem S128x256 .f32) (h2 :
  a2.IsWhole) (a3 : Memref sig .tc .vmem S128x512 .f32) (h3 : a3.IsWhole) (a4 : Memref sig .tc .vmem S128x512 .f32)
  (h4 : a4.IsWhole) (a5 : Memref sig .tc .vmem S1x4x64x128 .f32) (h5 : a5.IsWhole) (a6 : Memref sig .tc .vmem S128x512
  .f32) (h6 : a6.IsWhole) (a7 : Memref sig .tc .vmem S4x128x128 .f32) (h7 : a7.IsWhole) (a8 : Memref sig .tc .vmem
  S4x128x1 .f32) (h8 : a8.IsWhole) (a9 : Memref sig .tc .vmem S4x128x1 .f32) (h9 : a9.IsWhole) (a10 : Memref sig .tc
  .vmem S128x256 .f32) (h10 : a10.IsWhole) (a11 : Memref sig .tc .vmem S128x256 .f32) (h11 : a11.IsWhole) (a12 :
  Memref sig .tc .vmem S128x512 .bf16) (h12 : a12.IsWhole) (a13 : Memref sig .tc .vmem S128x512 .bf16) (h13 :
  a13.IsWhole) (a14 : Memref sig .tc .vmem S4x64x128 .f32) (h14 : a14.IsWhole)
  (B : Blocks F) (d : Vec F S4x64x128 .f32)

set_option maxHeartbeats 2000000 in
/-- A point that is not the first. -/
theorem later_results (hc : ¬cond0_0 i) :
    out0_B_9 c i a1 h1 a2 h2 a3 h3 a4 h4 a5 h5 a6 h6 a7 h7 a8 h8 a9 h9 a10 h10 a11 h11 a12 h12 a13 h13 a14 h14
        hc B.q B.k B.v B.g B.prev B.dy B.dec B.qw B.kw d = (results B d).1 ∧
    out0_B_10 c i a1 h1 a2 h2 a3 h3 a4 h4 a5 h5 a6 h6 a7 h7 a8 h8 a9 h9 a10 h10 a11 h11 a12 h12 a13 h13 a14 h14
        hc B.q B.k B.v B.g B.prev B.dy B.dec B.qw B.kw d = (results B d).2.1 ∧
    out0_B_11 c i a1 h1 a2 h2 a3 h3 a4 h4 a5 h5 a6 h6 a7 h7 a8 h8 a9 h9 a10 h10 a11 h11 a12 h12 a13 h13 a14 h14
        hc B.q B.k B.v B.g B.prev B.dy B.dec B.qw B.kw d = (results B d).2.2.1 ∧
    out0_B_12 c i a1 h1 a2 h2 a3 h3 a4 h4 a5 h5 a6 h6 a7 h7 a8 h8 a9 h9 a10 h10 a11 h11 a12 h12 a13 h13 a14 h14
        hc B.q B.k B.v B.g B.prev B.dy B.dec B.qw B.kw d = (results B d).2.2.2.1 ∧
    sout0_B_0 c i a1 h1 a2 h2 a3 h3 a4 h4 a5 h5 a6 h6 a7 h7 a8 h8 a9 h9 a10 h10 a11 h11 a12 h12 a13 h13 a14 h14
        hc B.q B.k B.v B.g B.prev B.dy B.dec B.qw B.kw d = (results B d).2.2.2.2 := by
  refine ⟨?_, ?_, ?_, ?_, ?_⟩
  on_goal 1 => unfold out0_B_9; rw [View.read_writes_eq_canon _ _ _ (cover0_B_9 c i a1 h1 a2 h2 a3 h3 a4 h4 a5 h5 a6 h6 a7 h7 a8 h8 a9 h9 a10 h10 a11 h11 a12 h12 a13 h13 a14 h14
    hc B.q B.k B.v B.g B.prev B.dy B.dec B.qw B.kw d)]
  on_goal 2 => unfold out0_B_10; rw [View.read_writes_eq_canon _ _ _ (cover0_B_10 c i a1 h1 a2 h2 a3 h3 a4 h4 a5 h5 a6 h6 a7 h7 a8 h8 a9 h9 a10 h10 a11 h11 a12 h12 a13 h13 a14 h14
    hc B.q B.k B.v B.g B.prev B.dy B.dec B.qw B.kw d)]
  on_goal 3 => unfold out0_B_11; rw [View.read_writes_eq_canon _ _ _ (cover0_B_11 c i a1 h1 a2 h2 a3 h3 a4 h4 a5 h5 a6 h6 a7 h7 a8 h8 a9 h9 a10 h10 a11 h11 a12 h12 a13 h13 a14 h14
    hc B.q B.k B.v B.g B.prev B.dy B.dec B.qw B.kw d)]
  on_goal 4 => unfold out0_B_12; rw [View.read_writes_eq_canon _ _ _ (cover0_B_12 c i a1 h1 a2 h2 a3 h3 a4 h4 a5 h5 a6 h6 a7 h7 a8 h8 a9 h9 a10 h10 a11 h11 a12 h12 a13 h13 a14 h14
    hc B.q B.k B.v B.g B.prev B.dy B.dec B.qw B.kw d)]
  on_goal 5 => unfold sout0_B_0; rw [View.read_writes_eq_canon _ _ _ (scover0_B_0 c i a1 h1 a2 h2 a3 h3 a4 h4 a5 h5 a6 h6 a7 h7 a8 h8 a9 h9 a10 h10 a11 h11 a12 h12 a13 h13 a14 h14
    hc B.q B.k B.v B.g B.prev B.dy B.dec B.qw B.kw d)]
  all_goals
    (unfold kernelRun0_B
     dsimp only
     sl_unfold_words
     simp only [View.readAt_eq_ld, h1.read_unread, h2.read_unread, h3.read_unread, h4.read_unread, h5.read_unread, h6.read_unread, h7.read_unread, h8.read_unread, h9.read_unread, h14.read_unread]
     rfl)

end Points

end Cert.Proof.Block

end
-- ==== Proof.Sweep.lean ====
/-
  THE SWEEP: what every grid point leaves, over the blocks it reads and the state the point before left.
-/
module

public import proofs.«01_k».proof.Proof.PointFirst
public import proofs.«01_k».proof.Proof.PointLater

@[expose] public section

noncomputable section

namespace Cert.Proof.Block

open Idealize.ShloMosaic Idealize.SL.Sem Cert.KernelIdeal Cert.KernelIdeal.Gen Idealize.ShloMosaic.TcCoe Cert.Proof.Tile

variable {F : FTy → Type} [FloatOps F] [Named F]
variable (m : (ℓ : Loc nD τ sig) → Buf (Elt F) ℓ) (c : Dev nD) (t : Fin cfg0.N)

/-- The blocks of a point. -/
def blocks : Blocks F where
  q := iblk m c 0 t
  k := iblk m c 1 t
  v := X0_2 m c t
  g := X0_3 m c t
  prev := iblk m c 4 t
  dy := iblk m c 5 t
  dec := iblk m c 6 t
  qw := iblk m c 7 t
  kw := iblk m c 8 t

/-- The state a point starts from. -/
def before : (n : ℕ) → n < cfg0.N → Vec F S4x64x128 .f32
  | 0, _ => zeroState
  | n + 1, h => (outsAt0 m c n (Nat.lt_of_succ_lt h)).2.2.2.2

omit [FloatOps F] [Named F] in
/-- Five equations as one. -/
theorem five {α β γ δ ε : Type} {a : α} {b : β} {x : γ} {d : δ} {e : ε} {r : α × β × γ × δ × ε}
    (h : a = r.1 ∧ b = r.2.1 ∧ x = r.2.2.1 ∧ d = r.2.2.2.1 ∧ e = r.2.2.2.2) : (a, b, x, d, e) = r := by
  obtain ⟨rfl, rfl, rfl, rfl, rfl⟩ := h
  rfl

theorem blocks_q : (blocks m c t).q = iblk m c 0 t := rfl
theorem blocks_k : (blocks m c t).k = iblk m c 1 t := rfl
theorem blocks_v : (blocks m c t).v = X0_2 m c t := rfl
theorem blocks_g : (blocks m c t).g = X0_3 m c t := rfl
theorem blocks_prev : (blocks m c t).prev = iblk m c 4 t := rfl
theorem blocks_dy : (blocks m c t).dy = iblk m c 5 t := rfl
theorem blocks_dec : (blocks m c t).dec = iblk m c 6 t := rfl
theorem blocks_qw : (blocks m c t).qw = iblk m c 7 t := rfl
theorem blocks_kw : (blocks m c t).kw = iblk m c 8 t := rfl

/-- Every point leaves the results of its blocks and of the state before it. -/
theorem outs_eq : outsAt0 m c t.val t.isLt = results (blocks m c t) (before m c t.val t.isLt) := by
  have hN : t.val < 32 := Nat.lt_of_lt_of_eq t.isLt N_0
  by_cases h0 : t.val % 32 = 0
  · have H := first_results c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t)
      (ms0_10 t) (hs0_10 t) (ms0_11 t) (hs0_11 t) (ms0_12 t) (hs0_12 t) scM0_0 (Memref.isWhole_whole _) (blocks m c t) ((hcond0_0 t).mpr h0)
    have hb : before m c t.val t.isLt = zeroState := by
      obtain ⟨n, hn⟩ := t
      obtain rfl : n = 0 := by simp only at h0 hN; omega
      rfl
    rw [hb]
    refine (outsAt0_A m c t h0).trans ?_
    simp only [blocks_q, blocks_k, blocks_v, blocks_g, blocks_prev, blocks_dy, blocks_dec, blocks_qw, blocks_kw] at H
    exact five H
  · have hb : before m c t.val t.isLt = (outsAt0 m c (t.val - 1) (Nat.lt_of_le_of_lt (Nat.sub_le _ _) t.isLt)).2.2.2.2 := by
      obtain ⟨n, hn⟩ := t
      obtain ⟨k, rfl⟩ : ∃ k, n = k + 1 := ⟨n - 1, by simp only at h0; omega⟩
      rfl
    have H := later_results c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t)
      (ms0_10 t) (hs0_10 t) (ms0_11 t) (hs0_11 t) (ms0_12 t) (hs0_12 t) scM0_0 (Memref.isWhole_whole _) (blocks m c t) (before m c t.val t.isLt)
      (fun h => h0 ((hcond0_0 t).mp h))
    rw [hb] at H ⊢
    refine (outsAt0_B m c t h0).trans ?_
    simp only [blocks_q, blocks_k, blocks_v, blocks_g, blocks_prev, blocks_dy, blocks_dec, blocks_qw, blocks_kw] at H
    exact five H

end Cert.Proof.Block

end
-- ==== Proof.Chunk.lean ====
/-
  BLOCKS AND ARRAYS: what a grid point's input blocks hold, and where its output blocks land, by coordinates.

  The grid runs over the chunks backwards: point `t` takes chunk `31 - t`, so row `r` of its blocks is row
  `128 (31 - t) + r` of an array.
-/
module

public import proofs.«01_k».proof.Proof.Gen.KernelIdeal.Value
public import proofs.«01_k».proof.Proof.Block
public import proofs.«01_k».proof.Proof.HeadMath
public import Idealize.ShloMosaic.Lib.Pointwise

@[expose] public section

noncomputable section

namespace Cert.Proof.Chunk

open Idealize.ShloMosaic Idealize.SL.Sem Cert.KernelIdeal Cert.KernelIdeal.Gen Idealize.ShloMosaic.TcCoe Cert.Proof.Block

variable {F : FTy → Type} [FloatOps F] [Named F]
variable (m : (ℓ : Loc nD τ sig) → Buf (Elt F) ℓ) (c : Dev nD) (t : Fin cfg0.N)

/-- The chunk of a point. -/
def chunk : Fin 32 := ⟨31 - t.val, by omega⟩

theorem index0 : ∀ t : Fin cfg0.N, win0_0.index t 0 = 31 - t.val ∧ win0_0.index t 1 = 0 := by decide +kernel
theorem block0 (r : Fin 128) (j : Fin 256) :
    (iblk m c 0 t : Vec F S128x256 .f32) (ix2 r j) = V m c main_arg0 (ix2 (row (chunk t) r) j) := by
  unfold iblk
  rw [View.read_apply]
  show V m c main_arg0 _ = V m c main_arg0 _
  refine congrArg _ (funext fun a => Fin.ext ?_)
  match a with
  | ⟨0, _⟩ => show win0_0.index t 0 * 128 + 1 * r.val = 128 * (31 - t.val) + r.val; rw [(index0 t).1]; omega
  | ⟨1, _⟩ => show win0_0.index t 1 * 256 + 1 * j.val = j.val; rw [(index0 t).2]; omega

theorem index1 : ∀ t : Fin cfg0.N, win0_1.index t 0 = 31 - t.val ∧ win0_1.index t 1 = 0 := by decide +kernel
theorem block1 (r : Fin 128) (j : Fin 256) :
    (iblk m c 1 t : Vec F S128x256 .f32) (ix2 r j) = V m c main_arg1 (ix2 (row (chunk t) r) j) := by
  unfold iblk
  rw [View.read_apply]
  show V m c main_arg1 _ = V m c main_arg1 _
  refine congrArg _ (funext fun a => Fin.ext ?_)
  match a with
  | ⟨0, _⟩ => show win0_1.index t 0 * 128 + 1 * r.val = 128 * (31 - t.val) + r.val; rw [(index1 t).1]; omega
  | ⟨1, _⟩ => show win0_1.index t 1 * 256 + 1 * j.val = j.val; rw [(index1 t).2]; omega

/-- Column `j` of the values in the array of all projections. -/
def col2 (j : Fin 512) : Fin 7424 := ⟨1024 + j.val, by omega⟩
theorem index2 : ∀ t : Fin cfg0.N, win0_2.index t 0 = 31 - t.val ∧ win0_2.index t 1 = 2 := by decide +kernel
theorem block2 (r : Fin 128) (j : Fin 512) :
    (X0_2 m c t : Vec F S128x512 .f32) (ix2 r j) = V m c main_arg2 (ix2 (row (chunk t) r) (col2 j)) := by
  refine (dif_pos (moved0_2 t _)).trans ?_
  unfold iblk
  rw [View.read_apply]
  show V m c main_arg2 _ = V m c main_arg2 _
  refine congrArg _ (funext fun a => Fin.ext ?_)
  match a with
  | ⟨0, _⟩ => show win0_2.index t 0 * 128 + 1 * r.val = 128 * (31 - t.val) + r.val; rw [(index2 t).1]; omega
  | ⟨1, _⟩ => show win0_2.index t 1 * 512 + 1 * j.val = 1024 + j.val; rw [(index2 t).2]; omega

/-- Column `j` of the gates in the array of all projections. -/
def col3 (j : Fin 512) : Fin 7424 := ⟨1536 + j.val, by omega⟩
theorem index3 : ∀ t : Fin cfg0.N, win0_3.index t 0 = 31 - t.val ∧ win0_3.index t 1 = 3 := by decide +kernel
theorem block3 (r : Fin 128) (j : Fin 512) :
    (X0_3 m c t : Vec F S128x512 .f32) (ix2 r j) = V m c main_arg2 (ix2 (row (chunk t) r) (col3 j)) := by
  refine (dif_pos (moved0_3 t _)).trans ?_
  unfold iblk
  rw [View.read_apply]
  show V m c main_arg2 _ = V m c main_arg2 _
  refine congrArg _ (funext fun a => Fin.ext ?_)
  match a with
  | ⟨0, _⟩ => show win0_3.index t 0 * 128 + 1 * r.val = 128 * (31 - t.val) + r.val; rw [(index3 t).1]; omega
  | ⟨1, _⟩ => show win0_3.index t 1 * 512 + 1 * j.val = 1536 + j.val; rw [(index3 t).2]; omega

theorem index4 : ∀ t : Fin cfg0.N, win0_4.index t 0 = 31 - t.val ∧ win0_4.index t 1 = 0 ∧ win0_4.index t 2 = 0 ∧ win0_4.index t 3 = 0 := by decide +kernel
theorem block4 (h : Fin 4) (d : Fin 64) (e : Fin 128) :
    (iblk m c 4 t : Vec F S1x4x64x128 .f32) (ix4 0 h d e) = V m c main_v281 (ix4 (chunk t) h d e) := by
  unfold iblk
  rw [View.read_apply]
  show V m c main_v281 _ = V m c main_v281 _
  refine congrArg _ (funext fun a => Fin.ext ?_)
  match a with
  | ⟨0, _⟩ => show win0_4.index t 0 * 1 + 1 * 0 = 31 - t.val; rw [(index4 t).1]; omega
  | ⟨1, _⟩ => show win0_4.index t 1 * 4 + 1 * h.val = h.val; rw [(index4 t).2.1]; omega
  | ⟨2, _⟩ => show win0_4.index t 2 * 64 + 1 * d.val = d.val; rw [(index4 t).2.2.1]; omega
  | ⟨3, _⟩ => show win0_4.index t 3 * 128 + 1 * e.val = e.val; rw [(index4 t).2.2.2]; omega

theorem index5 : ∀ t : Fin cfg0.N, win0_5.index t 0 = 31 - t.val ∧ win0_5.index t 1 = 0 := by decide +kernel
theorem block5 (r : Fin 128) (j : Fin 512) :
    (iblk m c 5 t : Vec F S128x512 .f32) (ix2 r j) = V m c main_arg3 (ix2 (row (chunk t) r) j) := by
  unfold iblk
  rw [View.read_apply]
  show V m c main_arg3 _ = V m c main_arg3 _
  refine congrArg _ (funext fun a => Fin.ext ?_)
  match a with
  | ⟨0, _⟩ => show win0_5.index t 0 * 128 + 1 * r.val = 128 * (31 - t.val) + r.val; rw [(index5 t).1]; omega
  | ⟨1, _⟩ => show win0_5.index t 1 * 512 + 1 * j.val = j.val; rw [(index5 t).2]; omega

theorem index6 : ∀ t : Fin cfg0.N, win0_6.index t 0 = 0 ∧ win0_6.index t 1 = 0 ∧ win0_6.index t 2 = 0 := by decide +kernel
theorem block6 (h : Fin 4) (r l : Fin 128) :
    (iblk m c 6 t : Vec F S4x128x128 .f32) (ix3 h r l) = V m c main_v305 (ix3 h r l) := by
  unfold iblk
  rw [View.read_apply]
  show V m c main_v305 _ = V m c main_v305 _
  refine congrArg _ (funext fun a => Fin.ext ?_)
  match a with
  | ⟨0, _⟩ => show win0_6.index t 0 * 4 + 1 * h.val = h.val; rw [(index6 t).1]; omega
  | ⟨1, _⟩ => show win0_6.index t 1 * 128 + 1 * r.val = r.val; rw [(index6 t).2.1]; omega
  | ⟨2, _⟩ => show win0_6.index t 2 * 128 + 1 * l.val = l.val; rw [(index6 t).2.2]; omega

theorem index7 : ∀ t : Fin cfg0.N, win0_7.index t 0 = 0 ∧ win0_7.index t 1 = 0 ∧ win0_7.index t 2 = 0 := by decide +kernel
theorem block7 (h : Fin 4) (r : Fin 128) :
    (iblk m c 7 t : Vec F S4x128x1 .f32) (ix3 h r 0) = V m c main_v323 (ix3 h r 0) := by
  unfold iblk
  rw [View.read_apply]
  show V m c main_v323 _ = V m c main_v323 _
  refine congrArg _ (funext fun a => Fin.ext ?_)
  match a with
  | ⟨0, _⟩ => show win0_7.index t 0 * 4 + 1 * h.val = h.val; rw [(index7 t).1]; omega
  | ⟨1, _⟩ => show win0_7.index t 1 * 128 + 1 * r.val = r.val; rw [(index7 t).2.1]; omega
  | ⟨2, _⟩ => show win0_7.index t 2 * 1 + 1 * 0 = 0; rw [(index7 t).2.2]

theorem index8 : ∀ t : Fin cfg0.N, win0_8.index t 0 = 0 ∧ win0_8.index t 1 = 0 ∧ win0_8.index t 2 = 0 := by decide +kernel
theorem block8 (h : Fin 4) (r : Fin 128) :
    (iblk m c 8 t : Vec F S4x128x1 .f32) (ix3 h r 0) = V m c main_v314 (ix3 h r 0) := by
  unfold iblk
  rw [View.read_apply]
  show V m c main_v314 _ = V m c main_v314 _
  refine congrArg _ (funext fun a => Fin.ext ?_)
  match a with
  | ⟨0, _⟩ => show win0_8.index t 0 * 4 + 1 * h.val = h.val; rw [(index8 t).1]; omega
  | ⟨1, _⟩ => show win0_8.index t 1 * 128 + 1 * r.val = r.val; rw [(index8 t).2.1]; omega
  | ⟨2, _⟩ => show win0_8.index t 2 * 1 + 1 * 0 = 0; rw [(index8 t).2.2]

theorem index9 : ∀ t : Fin cfg0.N, win0_9.index t 0 = 31 - t.val ∧ win0_9.index t 1 = 0 := by decide +kernel
theorem final9 (r : Fin 128) (j : Fin 256) :
    (dats m 0 c).arrAt 9 cfg0.N (ix2 (row (chunk t) r) j) = (outsAt0 m c t.val t.isLt).1 (ix2 r j) := by
  have h := (Value.blocks9 m c t ((by decide +kernel : ∀ t : Fin cfg0.N, (cfg0.win 9).flush t = true) t)).trans (Value.flushed9 m c t)
  refine Eq.trans ?_ (congrFun h (ix2 r j))
  rw [View.read_apply]
  refine congrArg ((dats m 0 c).arrAt 9 cfg0.N) (funext fun a => Fin.ext (Eq.symm ?_))
  match a with
  | ⟨0, _⟩ => show win0_9.index t 0 * 128 + 1 * r.val = 128 * (31 - t.val) + r.val; rw [(index9 t).1]; omega
  | ⟨1, _⟩ => show win0_9.index t 1 * 256 + 1 * j.val = j.val; rw [(index9 t).2]; omega

theorem index10 : ∀ t : Fin cfg0.N, win0_10.index t 0 = 31 - t.val ∧ win0_10.index t 1 = 0 := by decide +kernel
theorem final10 (r : Fin 128) (j : Fin 256) :
    (dats m 0 c).arrAt 10 cfg0.N (ix2 (row (chunk t) r) j) = (outsAt0 m c t.val t.isLt).2.1 (ix2 r j) := by
  have h := (Value.blocks10 m c t ((by decide +kernel : ∀ t : Fin cfg0.N, (cfg0.win 10).flush t = true) t)).trans (Value.flushed10 m c t)
  refine Eq.trans ?_ (congrFun h (ix2 r j))
  rw [View.read_apply]
  refine congrArg ((dats m 0 c).arrAt 10 cfg0.N) (funext fun a => Fin.ext (Eq.symm ?_))
  match a with
  | ⟨0, _⟩ => show win0_10.index t 0 * 128 + 1 * r.val = 128 * (31 - t.val) + r.val; rw [(index10 t).1]; omega
  | ⟨1, _⟩ => show win0_10.index t 1 * 256 + 1 * j.val = j.val; rw [(index10 t).2]; omega

theorem index11 : ∀ t : Fin cfg0.N, win0_11.index t 0 = 31 - t.val ∧ win0_11.index t 1 = 0 := by decide +kernel
theorem final11 (r : Fin 128) (j : Fin 512) :
    (dats m 0 c).arrAt 11 cfg0.N (ix2 (row (chunk t) r) j) = (outsAt0 m c t.val t.isLt).2.2.1 (ix2 r j) := by
  have h := (Value.blocks11 m c t ((by decide +kernel : ∀ t : Fin cfg0.N, (cfg0.win 11).flush t = true) t)).trans (Value.flushed11 m c t)
  refine Eq.trans ?_ (congrFun h (ix2 r j))
  rw [View.read_apply]
  refine congrArg ((dats m 0 c).arrAt 11 cfg0.N) (funext fun a => Fin.ext (Eq.symm ?_))
  match a with
  | ⟨0, _⟩ => show win0_11.index t 0 * 128 + 1 * r.val = 128 * (31 - t.val) + r.val; rw [(index11 t).1]; omega
  | ⟨1, _⟩ => show win0_11.index t 1 * 512 + 1 * j.val = j.val; rw [(index11 t).2]; omega

theorem index12 : ∀ t : Fin cfg0.N, win0_12.index t 0 = 31 - t.val ∧ win0_12.index t 1 = 0 := by decide +kernel
theorem final12 (r : Fin 128) (j : Fin 512) :
    (dats m 0 c).arrAt 12 cfg0.N (ix2 (row (chunk t) r) j) = (outsAt0 m c t.val t.isLt).2.2.2.1 (ix2 r j) := by
  have h := (Value.blocks12 m c t ((by decide +kernel : ∀ t : Fin cfg0.N, (cfg0.win 12).flush t = true) t)).trans (Value.flushed12 m c t)
  refine Eq.trans ?_ (congrFun h (ix2 r j))
  rw [View.read_apply]
  refine congrArg ((dats m 0 c).arrAt 12 cfg0.N) (funext fun a => Fin.ext (Eq.symm ?_))
  match a with
  | ⟨0, _⟩ => show win0_12.index t 0 * 128 + 1 * r.val = 128 * (31 - t.val) + r.val; rw [(index12 t).1]; omega
  | ⟨1, _⟩ => show win0_12.index t 1 * 512 + 1 * j.val = j.val; rw [(index12 t).2]; omega

end Cert.Proof.Chunk

end
-- ==== Proof.TileMath.lean ====
/-
  THE KERNEL'S TILE IS THE MATHEMATICS: every value of Proof/Tile.lean, read at an index over the extended reals, is the
  value of the same name in Proof/HeadMath.lean.
-/
module

public import proofs.«01_k».proof.Proof.Tile
public import proofs.«01_k».proof.Proof.HeadMath
public import Idealize.ShloMosaic.Lib.Pointwise

@[expose] public section

noncomputable section

namespace Cert.Proof.Tile

open Idealize.ShloMosaic Cert.KernelIdeal Cert.KernelIdeal.Gen

/-- A head's loads as functions of coordinates. -/
def head (L : Loads Ideal) : Head where
  dec r c := L.dec (ix3 0 r c)
  qw r := L.qw (ix3 0 r 0)
  kw r := L.kw (ix3 0 r 0)
  q r d := L.q (ix2 r d)
  k r d := L.k (ix2 r d)
  v r e := L.v (ix2 r e)
  g r e := L.g (ix2 r e)
  dy r e := L.dy (ix2 r e)
  prev d e := L.prev (ix4 0 0 d e)
  dst d e := L.dst (ix3 0 d e)
  cd := L.cd

variable (L : Loads Ideal) (r c e : Fin 128) (d : Fin 64)

theorem rowSum_apply (x : FVec Ideal S128x128 .f32) : rowSum x (ix2 r 0) = ∑ e : Fin 128, x (ix2 r e) := by
  pointwise [rowSum]
theorem unitSum_apply (x : FVec Ideal S128x1 .f32) : unitSum x (ix2 r 0) = x (ix2 r 0) := by
  pointwise [unitSum]
  exact Fin.sum_univ_one _
theorem wide_apply (x : FVec Ideal S128x1 .f32) : wide x (ix2 r e) = x (ix2 r 0) := by
  pointwise [wide]
theorem half_apply (x : FVec Ideal S128x1 .f32) : half x (ix2 r d) = x (ix2 r 0) := by
  pointwise [half]
theorem over128_apply (x : FVec Ideal S128x1 .f32) : over128 x (ix2 r 0) = Head.per (x (ix2 r 0)) := by
  pointwise [over128, Head.per]
theorem decM_apply : decM L (ix2 r c) = (head L).dec r c := by
  pointwise [decM, head]
theorem qwM_apply : qwM L (ix2 r 0) = (head L).qw r := by
  pointwise [qwM, head]
theorem kwM_apply : kwM L (ix2 r 0) = (head L).kw r := by
  pointwise [kwM, head]
theorem prevM_apply : prevM L (ix2 d e) = (head L).prev d e := by
  pointwise [prevM, head]
theorem dstM_apply : dstM L (ix2 d e) = (head L).dst d e := by
  pointwise [dstM, head]
theorem lo_apply {s : Shape} (x : FVec Ideal s .f32) (i : s.Idx) : lo x i = x i := rfl
theorem q_apply : L.q (ix2 r d) = (head L).q r d := rfl
theorem k_apply : L.k (ix2 r d) = (head L).k r d := rfl
theorem v_apply : L.v (ix2 r e) = (head L).v r e := rfl
theorem g_apply : L.g (ix2 r e) = (head L).g r e := rfl
theorem dy_apply : L.dy (ix2 r e) = (head L).dy r e := rfl
theorem cd_apply : L.cd = (head L).cd := rfl
theorem scores_apply : scores L (ix2 r c) = (head L).s r c := by
  pointwise [scores, lo_apply, q_apply, k_apply, decM_apply, Head.s]
theorem qq_apply : qq L (ix2 r d) = (head L).qq r d := by
  pointwise [qq, q_apply, half_apply, qwM_apply, Head.qq]
theorem y_apply : y L (ix2 r e) = (head L).y r e := by
  pointwise [y, lo_apply, scores_apply, v_apply, qq_apply, prevM_apply, Head.y]
theorem mean_apply : mean L (ix2 r 0) = (head L).mean r := by
  pointwise [mean, over128_apply, rowSum_apply, y_apply, Head.mean]
theorem ce_apply : ce L (ix2 r e) = (head L).ce r e := by
  pointwise [ce, y_apply, wide_apply, mean_apply, Head.ce]
theorem ce2_apply : ce2 L (ix2 r e) = Head.lit 0x40000000#32 * (head L).ce r e := by
  pointwise [ce2, ce_apply]
theorem ve_apply : ve L (ix2 r 0) = (head L).ve r := by
  pointwise [ve, over128_apply, rowSum_apply, ce_apply, Head.ve]
theorem rs_apply : rs L (ix2 r 0) = (head L).rs r := by
  pointwise [rs, ve_apply, Head.rs]
theorem drs_apply : drs L (ix2 r 0) = (head L).drs r := by
  pointwise [drs, rs_apply, ve_apply, Head.drs]
theorem sg_apply : sg L (ix2 r e) = (head L).sg r e := by
  pointwise [sg, g_apply, Head.sg]
theorem dsg_apply : dsg L (ix2 r e) = (head L).sg r e * (Head.lit 0x3F800000#32 - (head L).sg r e) := by
  pointwise [dsg, sg_apply]
theorem gy_apply : gy L (ix2 r e) = (head L).gy r e := by
  pointwise [gy, g_apply, sg_apply, dy_apply, Head.gy]
theorem gs_apply : gs L (ix2 r e) = (head L).gs r e := by
  pointwise [gs, dy_apply, ce_apply, wide_apply, rs_apply, Head.gs]
theorem dg_apply : dg L (ix2 r e) = (head L).dg r e := by
  pointwise [dg, gs_apply, sg_apply, g_apply, dsg_apply, Head.dg]
theorem gc_apply : gc L (ix2 r e) = (head L).gc r e := by
  pointwise [gc, gy_apply, wide_apply, rs_apply, Head.gc]
theorem gv_apply : gv L (ix2 r 0) = (head L).gv r := by
  pointwise [gv, over128_apply, rowSum_apply, ce_apply, gy_apply, drs_apply, Head.gv]
theorem gq_apply : gq L (ix2 r e) = (head L).gq r e := by
  pointwise [gq, wide_apply, unitSum_apply, gv_apply, ce2_apply, Head.gq]
theorem negSum_apply (x : FVec Ideal S128x128 .f32) : negSum x (ix2 r 0) = ∑ e : Fin 128, -x (ix2 r e) := by
  pointwise [negSum, rowSum_apply]
  simp only [zero_sub]
theorem gm_apply : gm L (ix2 r 0) = (head L).gm r := by
  pointwise [gm, over128_apply, negSum_apply, gc_apply, gq_apply, Head.gm]
theorem dyo_apply : dyo L (ix2 r e) = (head L).dyo r e := by
  pointwise [dyo, gc_apply, gq_apply, wide_apply, unitSum_apply, gm_apply, Head.dyo]
theorem dsc_apply : dsc L (ix2 r c) = (head L).dsc r c := by
  pointwise [dsc, lo_apply, dyo_apply, v_apply, decM_apply, Head.dsc]
theorem dq_apply : dq L (ix2 r d) = (head L).dq r d := by
  pointwise [dq, lo_apply, dyo_apply, prevM_apply, half_apply, qwM_apply, dsc_apply, k_apply, Head.dq]
theorem dk_apply : dk L (ix2 r d) = (head L).dk r d := by
  pointwise [dk, lo_apply, v_apply, dstM_apply, half_apply, kwM_apply, dsc_apply, q_apply, Head.dk]
theorem dv_apply : dv L (ix2 r e) = (head L).dv r e := by
  pointwise [dv, lo_apply, k_apply, half_apply, kwM_apply, dstM_apply, scores_apply, dyo_apply, Head.dv]
theorem dprev_apply : dprev L (ix2 d e) = (head L).dprev d e := by
  pointwise [dprev, lo_apply, dstM_apply, cd_apply, qq_apply, dyo_apply, Head.dprev, Head.up]
theorem dprevSt_apply : dprevSt L (ix3 0 d e) = (head L).dprev d e := by
  pointwise [dprevSt, dprev_apply]

end Cert.Proof.Tile

end
-- ==== Proof.BlockMath.lean ====
/-
  THE KERNEL'S BLOCKS ARE THE MATHEMATICS: what a head reads of a point's blocks, by coordinates, and the tiles a point
  writes side by side, read back at a head's lanes.
-/
module

public import proofs.«01_k».proof.Proof.Points
public import proofs.«01_k».proof.Proof.TileMath

@[expose] public section

noncomputable section

namespace Cert.Proof.Block

open Idealize.ShloMosaic Idealize.SL.Sem Cert.KernelIdeal Cert.KernelIdeal.Gen Cert.Proof.Tile

section Parts

variable {F : FTy → Type} (h : Fin 4) (r e : Fin 128) (d : Fin 64)

theorem ld_colsHalf (X : Vec F S128x256 .f32) : View.ld X (colsHalf h) (ix2 r d) = X (ix2 r (lane64 h d)) :=
  congrArg X (funext fun a => Fin.ext (match a with
    | ⟨0, _⟩ => show 0 + 1 * r.val = r.val by omega
    | ⟨1, _⟩ => show 64 * h.val + 1 * d.val = 64 * h.val + d.val by omega))
theorem ld_cols (X : Vec F S128x512 .f32) : View.ld X (cols h) (ix2 r e) = X (ix2 r (lane128 h e)) :=
  congrArg X (funext fun a => Fin.ext (match a with
    | ⟨0, _⟩ => show 0 + 1 * r.val = r.val by omega
    | ⟨1, _⟩ => show 128 * h.val + 1 * e.val = 128 * h.val + e.val by omega))
theorem ld_prevPart (X : Vec F S1x4x64x128 .f32) : View.ld X (prevPart h) (ix4 0 0 d e) = X (ix4 0 h d e) :=
  congrArg X (funext fun a => Fin.ext (match a with
    | ⟨0, _⟩ => rfl
    | ⟨1, _⟩ => show h.val + 1 * 0 = h.val by omega
    | ⟨2, _⟩ => show 0 + 1 * d.val = d.val by omega
    | ⟨3, _⟩ => show 0 + 1 * e.val = e.val by omega))
theorem ld_statePart (X : Vec F S4x64x128 .f32) : View.ld X (statePart h) (ix3 0 d e) = X (ix3 h d e) :=
  congrArg X (funext fun a => Fin.ext (match a with
    | ⟨0, _⟩ => show h.val + 1 * 0 = h.val by omega
    | ⟨1, _⟩ => show 0 + 1 * d.val = d.val by omega
    | ⟨2, _⟩ => show 0 + 1 * e.val = e.val by omega))
theorem ld_decPart (X : Vec F S4x128x128 .f32) : View.ld X (decPart h) (ix3 0 r e) = X (ix3 h r e) :=
  congrArg X (funext fun a => Fin.ext (match a with
    | ⟨0, _⟩ => show h.val + 1 * 0 = h.val by omega
    | ⟨1, _⟩ => show 0 + 1 * r.val = r.val by omega
    | ⟨2, _⟩ => show 0 + 1 * e.val = e.val by omega))
theorem ld_colPart (X : Vec F S4x128x1 .f32) : View.ld X (colPart h) (ix3 0 r 0) = X (ix3 h r 0) :=
  congrArg X (funext fun a => Fin.ext (match a with
    | ⟨0, _⟩ => show h.val + 1 * 0 = h.val by omega
    | ⟨1, _⟩ => show 0 + 1 * r.val = r.val by omega
    | ⟨2, _⟩ => rfl))

end Parts

/-- What head `h` reads of the blocks, by coordinates. -/
theorem head_loads (B : Blocks Ideal) (s : Vec Ideal S4x64x128 .f32) (h : Fin 4) : head (loads B s h) = {
    dec := fun r c => B.dec (ix3 h r c)
    qw := fun r => B.qw (ix3 h r 0)
    kw := fun r => B.kw (ix3 h r 0)
    q := fun r d => B.q (ix2 r (lane64 h d))
    k := fun r d => B.k (ix2 r (lane64 h d))
    v := fun r e => B.v (ix2 r (lane128 h e))
    g := fun r e => B.g (ix2 r (lane128 h e))
    dy := fun r e => B.dy (ix2 r (lane128 h e))
    prev := fun d e => B.prev (ix4 0 h d e)
    dst := fun d e => s (ix3 h d e)
    cd := cd (F := Ideal) h } :=
  Head.ext (funext fun r => funext fun c => ld_decPart h r c B.dec) (funext fun r => ld_colPart h r B.qw)
    (funext fun r => ld_colPart h r B.kw) (funext fun r => funext fun d => ld_colsHalf h r d B.q)
    (funext fun r => funext fun d => ld_colsHalf h r d B.k) (funext fun r => funext fun e => ld_cols h r e B.v)
    (funext fun r => funext fun e => ld_cols h r e B.g) (funext fun r => funext fun e => ld_cols h r e B.dy)
    (funext fun d => funext fun e => ld_prevPart h e d B.prev) (funext fun d => funext fun e => ld_statePart h e d s) rfl

section Sides

/-- Four pieces in disjoint parts are read back each in its part. -/
theorem canon_four {Val : EltTy → Type} [∀ e, Nonempty (Val e)] {s : Shape} {e : EltTy} (R : Fin 4 → Rect s)
    (t : ∀ h, (R h).shape.Idx → Val e) (hd : ∀ h h', h ≠ h' → ∀ x, (R h).emb x ∉ (R h').set) (h : Fin 4)
    (x : (R h).shape.Idx) :
    View.canon ([⟨R 3, t 3⟩, ⟨R 2, t 2⟩, ⟨R 1, t 1⟩, ⟨R 0, t 0⟩] : List (View.Piece Val s e)) ((R h).emb x) = t h x := by
  have e3 : ∀ x, View.canon ([⟨R 3, t 3⟩, ⟨R 2, t 2⟩, ⟨R 1, t 1⟩, ⟨R 0, t 0⟩] : List (View.Piece Val s e)) ((R 3).emb x) = t 3 x :=
    fun x => View.canon_cons_emb (R 3) (t 3) _ x
  have e2 : ∀ x, View.canon ([⟨R 3, t 3⟩, ⟨R 2, t 2⟩, ⟨R 1, t 1⟩, ⟨R 0, t 0⟩] : List (View.Piece Val s e)) ((R 2).emb x) = t 2 x :=
    fun x => (View.canon_cons_of_not_mem ⟨R 3, t 3⟩ _ (hd 2 3 (by decide) x)).trans (View.canon_cons_emb (R 2) (t 2) _ x)
  have e1 : ∀ x, View.canon ([⟨R 3, t 3⟩, ⟨R 2, t 2⟩, ⟨R 1, t 1⟩, ⟨R 0, t 0⟩] : List (View.Piece Val s e)) ((R 1).emb x) = t 1 x :=
    fun x => (View.canon_cons_of_not_mem ⟨R 3, t 3⟩ _ (hd 1 3 (by decide) x)).trans
      ((View.canon_cons_of_not_mem ⟨R 2, t 2⟩ _ (hd 1 2 (by decide) x)).trans (View.canon_cons_emb (R 1) (t 1) _ x))
  have e0 : ∀ x, View.canon ([⟨R 3, t 3⟩, ⟨R 2, t 2⟩, ⟨R 1, t 1⟩, ⟨R 0, t 0⟩] : List (View.Piece Val s e)) ((R 0).emb x) = t 0 x :=
    fun x => (View.canon_cons_of_not_mem ⟨R 3, t 3⟩ _ (hd 0 3 (by decide) x)).trans
      ((View.canon_cons_of_not_mem ⟨R 2, t 2⟩ _ (hd 0 2 (by decide) x)).trans
        ((View.canon_cons_of_not_mem ⟨R 1, t 1⟩ _ (hd 0 1 (by decide) x)).trans (View.canon_cons_emb (R 0) (t 0) _ x)))
  match h, x with
  | ⟨0, _⟩, x => exact e0 x
  | ⟨1, _⟩, x => exact e1 x
  | ⟨2, _⟩, x => exact e2 x
  | ⟨3, _⟩, x => exact e3 x

variable {F : FTy → Type} [FloatOps F] [Named F]

theorem sideHalf_apply (t : Fin 4 → FVec F S128x64 .f32) (h : Fin 4) (r : Fin 128) (d : Fin 64) :
    sideHalf t (ix2 r (lane64 h d)) = t h (ix2 r d) := by
  refine Eq.trans (congrArg _ ?_) (canon_four (Val := Elt F) (e := .f32) colsHalf t (fun h h' hne x hm => ?_) h (ix2 r d))
  · exact funext fun a => Fin.ext (match a with
      | ⟨0, _⟩ => show r.val = 0 + 1 * r.val by omega
      | ⟨1, _⟩ => show 64 * h.val + d.val = 64 * h.val + 1 * d.val by omega)
  · have h1 := (Rect.mem_set_unit.mp hm) 1
    have h2 : 64 * h'.val ≤ 64 * h.val + 1 * (x 1).val ∧ 64 * h.val + 1 * (x 1).val < 64 * h'.val + 64 := h1
    have h3 : (x 1).val < 64 := (x 1).isLt
    have h4 : h.val ≠ h'.val := fun e => hne (Fin.ext e)
    omega
theorem side_apply (t : Fin 4 → FVec F S128x128 .bf16) (h : Fin 4) (r e : Fin 128) :
    side t (ix2 r (lane128 h e)) = t h (ix2 r e) := by
  refine Eq.trans (congrArg _ ?_) (canon_four (Val := Elt F) (e := .bf16) cols t (fun h h' hne x hm => ?_) h (ix2 r e))
  · exact funext fun a => Fin.ext (match a with
      | ⟨0, _⟩ => show r.val = 0 + 1 * r.val by omega
      | ⟨1, _⟩ => show 128 * h.val + e.val = 128 * h.val + 1 * e.val by omega)
  · have h1 := (Rect.mem_set_unit.mp hm) 1
    have h2 : 128 * h'.val ≤ 128 * h.val + 1 * (x 1).val ∧ 128 * h.val + 1 * (x 1).val < 128 * h'.val + 128 := h1
    have h3 : (x 1).val < 128 := (x 1).isLt
    have h4 : h.val ≠ h'.val := fun e => hne (Fin.ext e)
    omega
theorem stack_apply (t : Fin 4 → FVec F S1x64x128 .f32) (h : Fin 4) (d : Fin 64) (e : Fin 128) :
    stack t (ix3 h d e) = t h (ix3 0 d e) := by
  refine Eq.trans (congrArg _ ?_) (canon_four (Val := Elt F) (e := .f32) statePart t (fun h h' hne x hm => ?_) h (ix3 0 d e))
  · exact funext fun a => Fin.ext (match a with
      | ⟨0, _⟩ => show h.val = h.val + 1 * 0 by omega
      | ⟨1, _⟩ => show d.val = 0 + 1 * d.val by omega
      | ⟨2, _⟩ => show e.val = 0 + 1 * e.val by omega)
  · have h1 := (Rect.mem_set_unit.mp hm) 0
    have h2 : h'.val ≤ h.val + 1 * (x 0).val ∧ h.val + 1 * (x 0).val < h'.val + 1 := h1
    have h3 : (x 0).val < 1 := (x 0).isLt
    have h4 : h.val ≠ h'.val := fun e => hne (Fin.ext e)
    omega

end Sides

/-- The state the first point starts from is zero. -/
theorem zeroState_apply (i : S4x64x128.Idx) : zeroState (F := Ideal) i = 0 := by
  obtain ⟨h, d, e, rfl⟩ : ∃ h d e, i = ix3 h d e := ⟨i 0, i 1, i 2, eq_ix3 i⟩
  pointwise [zeroState]

section Results

variable (B : Blocks Ideal) (s : Vec Ideal S4x64x128 .f32) (h : Fin 4) (r e : Fin 128) (d : Fin 64)

theorem results_dq : (results B s).1 (ix2 r (lane64 h d)) = (head (loads B s h)).dq r d := by
  show sideHalf (fun h => dq (loads B s h)) _ = _
  rw [sideHalf_apply, dq_apply]
theorem results_dk : (results B s).2.1 (ix2 r (lane64 h d)) = (head (loads B s h)).dk r d := by
  show sideHalf (fun h => dk (loads B s h)) _ = _
  rw [sideHalf_apply, dk_apply]
theorem results_dv : (results B s).2.2.1 (ix2 r (lane128 h e)) = (head (loads B s h)).dv r e := by
  show side (fun h => lo (dv (loads B s h))) _ = _
  rw [side_apply, lo_apply, dv_apply]
theorem results_dg : (results B s).2.2.2.1 (ix2 r (lane128 h e)) = (head (loads B s h)).dg r e := by
  show side (fun h => lo (dg (loads B s h))) _ = _
  rw [side_apply, lo_apply, dg_apply]
theorem results_state : (results B s).2.2.2.2 (ix3 h d e) = (head (loads B s h)).dprev d e := by
  refine (stack_apply (fun h => dprevSt (loads B s h)) h d e).trans ?_
  exact dprevSt_apply (loads B s h) e d

end Results

end Cert.Proof.Block

end
-- ==== Proof.KernelMath.lean ====
/-
  THE KERNEL COMPUTES THE MATHEMATICS: after the run, every entry of its four result arrays is the gradient of
  Proof/HeadMath.lean at that chunk, head, position and lane, over the arrays its region starts from.
-/
module

public import proofs.«01_k».proof.Proof.Sweep
public import proofs.«01_k».proof.Proof.Chunk
public import proofs.«01_k».proof.Proof.BlockMath

@[expose] public section

noncomputable section

namespace Cert.Proof.Chunk

open Idealize.ShloMosaic Idealize.SL.Sem Cert.KernelIdeal Cert.KernelIdeal.Gen Idealize.ShloMosaic.TcCoe Cert.Proof.Block
open Cert.Proof.Tile

variable (m : (ℓ : Loc nD τ sig) → Buf (Elt Ideal) ℓ) (c : Dev nD) (t : Fin cfg0.N)

/-- What the kernel's region starts from. -/
def arrays : Arrays where
  dec h r l := V m c main_v305 (ix3 h r l)
  qw h r := V m c main_v323 (ix3 h r (0 : Fin 1))
  kw h r := V m c main_v314 (ix3 h r (0 : Fin 1))
  q i j := V m c main_arg0 (ix2 i j)
  k i j := V m c main_arg1 (ix2 i j)
  v i j := V m c main_arg2 (ix2 i (col2 j))
  g i j := V m c main_arg2 (ix2 i (col3 j))
  dy i j := V m c main_arg3 (ix2 i j)
  prev n h d e := V m c main_v281 (ix4 n h d e)
  cd h := cd (F := Ideal) h

section Fields

variable (h : Fin 4) (r e : Fin 128) (d : Fin 64)

theorem field_dec : (blocks m c t).dec (ix3 h r e) = (arrays m c).dec h r e := by
  dsimp only [arrays, blocks]; exact block6 m c t h r e
theorem field_qw : (blocks m c t).qw (ix3 h r 0) = (arrays m c).qw h r := by
  dsimp only [arrays, blocks]; exact block7 m c t h r
theorem field_kw : (blocks m c t).kw (ix3 h r 0) = (arrays m c).kw h r := by
  dsimp only [arrays, blocks]; exact block8 m c t h r
theorem field_q : (blocks m c t).q (ix2 r (lane64 h d)) = (arrays m c).q (row (chunk t) r) (lane64 h d) := by
  dsimp only [arrays, blocks]; exact block0 m c t r (lane64 h d)
theorem field_k : (blocks m c t).k (ix2 r (lane64 h d)) = (arrays m c).k (row (chunk t) r) (lane64 h d) := by
  dsimp only [arrays, blocks]; exact block1 m c t r (lane64 h d)
theorem field_v : (blocks m c t).v (ix2 r (lane128 h e)) = (arrays m c).v (row (chunk t) r) (lane128 h e) := by
  dsimp only [arrays, blocks]; exact block2 m c t r (lane128 h e)
theorem field_g : (blocks m c t).g (ix2 r (lane128 h e)) = (arrays m c).g (row (chunk t) r) (lane128 h e) := by
  dsimp only [arrays, blocks]; exact block3 m c t r (lane128 h e)
theorem field_dy : (blocks m c t).dy (ix2 r (lane128 h e)) = (arrays m c).dy (row (chunk t) r) (lane128 h e) := by
  dsimp only [arrays, blocks]; exact block5 m c t r (lane128 h e)
theorem field_prev : (blocks m c t).prev (ix4 0 h d e) = (arrays m c).prev (chunk t) h d e := by
  dsimp only [arrays, blocks]; exact block4 m c t h d e

end Fields

/-- What a head of a point reads. -/
theorem head_blocks (s : Vec Ideal S4x64x128 .f32) (h : Fin 4) :
    head (loads (blocks m c t) s h) = (arrays m c).head (chunk t) h fun d e => s (ix3 h d e) := by
  rw [head_loads]
  unfold Arrays.head
  simp only [field_dec, field_qw, field_kw, field_q, field_k, field_v, field_g, field_dy, field_prev]
  rfl

/-- The state a point starts from. -/
theorem before_apply (h : Fin 4) (n : ℕ) (hn : n < cfg0.N) :
    (fun d e => before m c n hn (ix3 h d e)) = (arrays m c).state h n := by
  induction n with
  | zero => exact funext fun d => funext fun e => zeroState_apply _
  | succ n ih =>
    have hn' := Nat.lt_of_succ_lt hn
    funext d e
    show (outsAt0 m c n hn').2.2.2.2 (ix3 h d e) = _
    rw [outs_eq m c ⟨n, hn'⟩]
    refine (results_state _ _ h e d).trans ?_
    rw [head_blocks, ih hn']
    rfl

theorem head_point (h : Fin 4) :
    head (loads (blocks m c t) (before m c t.val t.isLt) h) = (arrays m c).head (chunk t) h ((arrays m c).state h t.val) := by
  rw [head_blocks, before_apply]

/-- The point of a chunk. -/
def point (n : Fin 32) : Fin cfg0.N := ⟨31 - n.val, Nat.lt_of_lt_of_eq (by omega) N_0.symm⟩
theorem chunk_point (n : Fin 32) : chunk (point n) = n := Fin.ext (by show 31 - (31 - n.val) = n.val; omega)

theorem head_chunk (n : Fin 32) (h : Fin 4) :
    head (loads (blocks m c (point n)) (before m c (point n).val (point n).isLt) h) = (arrays m c).full n h := by
  rw [head_point, chunk_point]
  rfl

variable (n : Fin 32) (h : Fin 4) (r e : Fin 128) (d : Fin 64)

theorem final_dq : (dats m 0 c).arrAt 9 cfg0.N (ix2 (row n r) (lane64 h d)) = ((arrays m c).full n h).dq r d := by
  have H := final9 m c (point n) r (lane64 h d)
  rw [chunk_point, outs_eq m c (point n)] at H
  rw [← head_chunk]
  exact H.trans (results_dq _ _ h r d)
theorem final_dk : (dats m 0 c).arrAt 10 cfg0.N (ix2 (row n r) (lane64 h d)) = ((arrays m c).full n h).dk r d := by
  have H := final10 m c (point n) r (lane64 h d)
  rw [chunk_point, outs_eq m c (point n)] at H
  rw [← head_chunk]
  exact H.trans (results_dk _ _ h r d)
theorem final_dv : (dats m 0 c).arrAt 11 cfg0.N (ix2 (row n r) (lane128 h e)) = ((arrays m c).full n h).dv r e := by
  have H := final11 m c (point n) r (lane128 h e)
  rw [chunk_point, outs_eq m c (point n)] at H
  rw [← head_chunk]
  exact H.trans (results_dv _ _ h r e)
theorem final_dg : (dats m 0 c).arrAt 12 cfg0.N (ix2 (row n r) (lane128 h e)) = ((arrays m c).full n h).dg r e := by
  have H := final12 m c (point n) r (lane128 h e)
  rw [chunk_point, outs_eq m c (point n)] at H
  rw [← head_chunk]
  exact H.trans (results_dg _ _ h r e)

end Cert.Proof.Chunk

end
-- ==== Proof.HostSide.lean ====
/-
  WHAT THE HOST PREPARES FOR THE KERNEL: the decay table, the two columns of powers and the states entering the chunks
  are the arrays the reference computes of the same arguments.
-/
module

public import proofs.«01_k».proof.Proof.Gen.ReferenceIdeal.Read
public import proofs.«01_k».proof.Proof.KernelMath
public import Idealize.ShloMosaic.Lib.StableHlo.RunRead

@[expose] public section

set_option maxRecDepth 100000
set_option maxHeartbeats 1000000

noncomputable section

namespace Cert.Proof.Chunk

open Idealize.ShloMosaic Idealize.SL.Sem Cert.KernelIdeal Cert.KernelIdeal.Gen Idealize.ShloMosaic.TcCoe
open Idealize.ShloMosaic.StableHlo
open Cert.ReferenceIdeal.Read

variable (m : (ℓ : Loc nD τ sig) → Buf (Elt Ideal) ℓ) (c : Dev nD)

/-- A host line read in two stretches. -/
theorem after_split (ops : List (HloOp τ sig (Elt Ideal))) (V : Valuation τ sig (Elt Ideal)) (n : ℕ) :
    after ops V = after (ops.drop n) (upto ops V n) := by
  have h := after_append (ops.take n) (ops.drop n) V
  rw [List.take_append_drop] at h
  exact h

/-- The decay between two positions of a chunk. -/
theorem V_dec : V m c main_v305 = val_main_v25 (F := Ideal) := by
  unfold V; after_reads_simp; rfl

/-- The decay from a chunk's beginning to a position. -/
theorem V_qw (h : Fin 4) (r : Fin 128) :
    V m c main_v323 (ix3 h r (0 : Fin 1)) = val_main_v41 (F := Ideal) (ix2 r h) := by
  unfold V; after_reads_simp; rfl

/-- The decay from a position to the chunk's end. -/
theorem V_kw (h : Fin 4) (r : Fin 128) :
    V m c main_v314 (ix3 h r (0 : Fin 1)) = val_main_v33 (F := Ideal) (ix2 r h) := by
  unfold V; after_reads_simp; rfl

/-- The states entering the chunks: both programs run the same recurrence; what they share before it is named once
(the chunks' own contributions, the decay of a chunk, its table, the zero state) and the recurrence is the same text. -/
theorem V_prev : V m c main_v281 = val_main_v260 (F := Ideal) (m (c, main_arg1)) (m (c, main_arg2)) := by
  unfold V
  rw [after_split _ _ 67]
  have e52 : upto (List.flatten [hostOps0 (F := Ideal), hostOps0_1, hostOps0_2, hostOps0_3, hostOps0_4]) (fun b => m (c, b)) 67 main_v52
      = val_main_v63 (F := Ideal) (m (c, main_arg1)) (m (c, main_arg2)) := by
    after_reads_simp; rfl
  have e42 : upto (List.flatten [hostOps0 (F := Ideal), hostOps0_1, hostOps0_2, hostOps0_3, hostOps0_4]) (fun b => m (c, b)) 67 main_v42
      = val_main_v44 (F := Ideal) := by
    after_reads_simp; rfl
  have e50 : upto (List.flatten [hostOps0 (F := Ideal), hostOps0_1, hostOps0_2, hostOps0_3, hostOps0_4]) (fun b => m (c, b)) 67 main_v50
      = val_main_v60 (F := Ideal) := by
    after_reads_simp; rfl
  have e53 : upto (List.flatten [hostOps0 (F := Ideal), hostOps0_1, hostOps0_2, hostOps0_3, hostOps0_4]) (fun b => m (c, b)) 67 main_v53
      = val_main_v64 (F := Ideal) := by
    after_reads_simp; rfl
  generalize upto (List.flatten [hostOps0 (F := Ideal), hostOps0_1, hostOps0_2, hostOps0_3, hostOps0_4]) (fun b => m (c, b)) 67 = U at *
  after_reads_simp [↓ readPieces, Matrix.cons_val]
  dsimp only [val_main_v61, val_main_v65, val_main_v66, val_main_v67, val_main_v68, val_main_v69, val_main_v70,
    val_main_v71, val_main_v72, val_main_v73, val_main_v74, val_main_v75, val_main_v76, val_main_v77,
    val_main_v78, val_main_v79, val_main_v80, val_main_v81, val_main_v82, val_main_v83, val_main_v84,
    val_main_v85, val_main_v86, val_main_v87, val_main_v88, val_main_v89, val_main_v90, val_main_v91,
    val_main_v92, val_main_v93, val_main_v94, val_main_v95, val_main_v96, val_main_v97, val_main_v98,
    val_main_v99, val_main_v100, val_main_v101, val_main_v102, val_main_v103, val_main_v104, val_main_v105,
    val_main_v106, val_main_v107, val_main_v108, val_main_v109, val_main_v110, val_main_v111, val_main_v112,
    val_main_v113, val_main_v114, val_main_v115, val_main_v116, val_main_v117, val_main_v118, val_main_v119,
    val_main_v120, val_main_v121, val_main_v122, val_main_v123, val_main_v124, val_main_v125, val_main_v126,
    val_main_v127, val_main_v128, val_main_v129, val_main_v130, val_main_v131, val_main_v132, val_main_v133,
    val_main_v134, val_main_v135, val_main_v136, val_main_v137, val_main_v138, val_main_v139, val_main_v140,
    val_main_v141, val_main_v142, val_main_v143, val_main_v144, val_main_v145, val_main_v146, val_main_v147,
    val_main_v148, val_main_v149, val_main_v150, val_main_v151, val_main_v152, val_main_v153, val_main_v154,
    val_main_v155, val_main_v156, val_main_v157, val_main_v158, val_main_v159, val_main_v160, val_main_v161,
    val_main_v162, val_main_v163, val_main_v164, val_main_v165, val_main_v166, val_main_v167, val_main_v168,
    val_main_v169, val_main_v170, val_main_v171, val_main_v172, val_main_v173, val_main_v174, val_main_v175,
    val_main_v176, val_main_v177, val_main_v178, val_main_v179, val_main_v180, val_main_v181, val_main_v182,
    val_main_v183, val_main_v184, val_main_v185, val_main_v186, val_main_v187, val_main_v188, val_main_v189,
    val_main_v190, val_main_v191, val_main_v192, val_main_v193, val_main_v194, val_main_v195, val_main_v196,
    val_main_v197, val_main_v198, val_main_v199, val_main_v200, val_main_v201, val_main_v202, val_main_v203,
    val_main_v204, val_main_v205, val_main_v206, val_main_v207, val_main_v208, val_main_v209, val_main_v210,
    val_main_v211, val_main_v212, val_main_v213, val_main_v214, val_main_v215, val_main_v216, val_main_v217,
    val_main_v218, val_main_v219, val_main_v220, val_main_v221, val_main_v222, val_main_v223, val_main_v224,
    val_main_v225, val_main_v226, val_main_v227, val_main_v228, val_main_v229, val_main_v230, val_main_v231,
    val_main_v232, val_main_v233, val_main_v234, val_main_v235, val_main_v236, val_main_v237, val_main_v238,
    val_main_v239, val_main_v240, val_main_v241, val_main_v242, val_main_v243, val_main_v244, val_main_v245,
    val_main_v246, val_main_v247, val_main_v248, val_main_v249, val_main_v250, val_main_v251, val_main_v252,
    val_main_v253, val_main_v254, val_main_v255, val_main_v256, val_main_v257, val_main_v258, val_main_v259,
    val_main_v260]
  generalize val_main_v63 (F := Ideal) (m (c, main_arg1)) (m (c, main_arg2)) = y at *
  generalize val_main_v60 (F := Ideal) = z at *
  generalize val_main_v44 (F := Ideal) = d at *
  generalize val_main_v64 (F := Ideal) = o at *
  subst e52 e42 e50 e53
  rfl

end Cert.Proof.Chunk

end
-- ==== Proof.Decay.lean ====
/-
  A CHUNK'S DECAY: the reference computes exp (128 · log1p (−2^(−5−h))), the kernel holds (1 − 2^(−5−h))^128 as a named
  constant; over the reals they are one number.
-/
module

public import proofs.«01_k».proof.Proof.RefHead
public import proofs.«01_k».proof.Proof.Block

@[expose] public section

noncomputable section

namespace Cert.Proof.Ref

open Idealize.ShloMosaic Idealize.SL.Sem Cert.ReferenceIdeal Cert.ReferenceIdeal.Gen Cert.ReferenceIdeal.Read

theorem fiveLit : FloatOps.ofBits (F := Ideal) .f32 0xC0A00000#32 = ((-5 : ℝ) : EReal) := by
  show Ideal.ofBits .f32 0xC0A00000#32 = _
  simp [Ideal.ofBits, Ideal.ieee, -EReal.coe_mul]; norm_num
theorem twoLit : FloatOps.ofBits (F := Ideal) .f32 0x40000000#32 = ((2 : ℝ) : EReal) := by
  show Ideal.ofBits .f32 0x40000000#32 = _
  simp [Ideal.ofBits, Ideal.ieee, -EReal.coe_mul]; norm_num
theorem lengthLit : FloatOps.ofBits (F := Ideal) .f32 0x43000000#32 = ((128 : ℝ) : EReal) := by
  show Ideal.ofBits .f32 0x43000000#32 = _
  simp [Ideal.ofBits, Ideal.ieee, -EReal.coe_mul]; norm_num

/-- The exponential of 128 times a logarithm is the 128th power. -/
theorem exp_log1p (p x : ℝ) (hx : x = 1 - Real.rpow 2 p) (h0 : 0 < x) :
    Ideal.exp (Ideal.log1p (-(Ideal.pow ((2 : ℝ) : EReal) ((p : ℝ) : EReal))) * ((128 : ℝ) : EReal)) = ((x ^ 128 : ℝ) : EReal) := by
  have e : (1 : EReal) + -((Real.rpow 2 p : ℝ) : EReal) = ((x : ℝ) : EReal) := by
    rw [hx, ← EReal.coe_neg, ← EReal.coe_one, ← EReal.coe_add]; rfl
  rw [Ideal.pow_coe_coe, Ideal.log1p, e, Ideal.log_coe, if_neg (not_le.mpr h0), ← EReal.coe_mul, Ideal.exp_coe]
  congr 1
  rw [mul_comm, ← Real.log_rpow h0, Real.exp_log (Real.rpow_pos_of_pos h0 _)]
  exact_mod_cast Real.rpow_natCast x 128

/-- The reference's decay of a chunk. -/
theorem decay_apply (h : Fin 4) : val_main_v61 (F := Ideal) (ix3 h (0 : Fin 1) (0 : Fin 1))
    = (((1 - Real.rpow 2 (-5 - (h.val : ℝ))) ^ 128 : ℝ) : EReal) := by
  have h0 : 0 < 1 - Real.rpow 2 (-5 - (h.val : ℝ)) := by
    have : Real.rpow 2 (-5 - (h.val : ℝ)) < 1 := Real.rpow_lt_one_of_one_lt_of_neg (by norm_num) (by
      have : (0 : ℝ) ≤ (h.val : ℝ) := Nat.cast_nonneg _
      linarith)
    linarith
  rw [← exp_log1p _ _ rfl h0]
  have hi : ∀ i : S4.Idx, (i 0).val = h.val → val_main_v4 (F := Ideal) i = ((-5 - (h.val : ℝ) : ℝ) : EReal) := by
    intro i hi
    rw [val_main_v4_apply, val_main_v3_apply, val_main_cst_apply, fiveLit, EReal.coe_sub]
    refine sub2 rfl ?_
    show (((BitVec.ofNat 32 (i 0).val).toInt : ℝ) : EReal) = _
    rw [hi]
    match h with
    | 0 | 1 | 2 | 3 => rfl
  rw [val_main_v61_apply, val_main_v44_apply]
  refine exp1 ?_
  rw [val_main_v43_apply]
  refine mul2 ?_ ?_
  · rw [val_main_v8_apply, val_main_v7_apply, val_main_v6_apply, val_main_v5_apply, val_main_cst_0_apply, twoLit, hi _ (by rfl)]
    rfl
  · rw [val_main_v42_apply, val_main_cst_6_apply]; exact lengthLit

/-- A named decay is the power it names. -/
theorem named_eq {name : String} {b : BitVec 32} {p q x : ℝ} (hk : Cert.KernelIdeal.κ name = some ((p / q : ℝ) : EReal))
    (h : p / q = x) : Named.named (F := Ideal) (φ := .f32) Cert.KernelIdeal.κ name b = ((x : ℝ) : EReal) := by
  rw [← h]; exact IdealRules.named_const.ideal_named_scalar _ _ _ _ hk

theorem two_pow (a : ℕ) (p : ℝ) (hp : p = -(a : ℝ)) : Real.rpow 2 p = 1 / 2 ^ a := by
  rw [hp]
  show (2 : ℝ) ^ (-(a : ℝ)) = _
  rw [Real.rpow_neg (by norm_num), Real.rpow_natCast, one_div]

/-- The kernel's decay of a chunk. -/
theorem decay_named (h : Fin 4) : Block.cd (F := Ideal) h = (((1 - Real.rpow 2 (-5 - (h.val : ℝ))) ^ 128 : ℝ) : EReal) := by
  match h with
  | 0 => exact named_eq rfl (by rw [two_pow 5 _ (by norm_num)]; norm_num)
  | 1 => exact named_eq rfl (by rw [two_pow 6 _ (by norm_num)]; norm_num)
  | 2 => exact named_eq rfl (by rw [two_pow 7 _ (by norm_num)]; norm_num)
  | 3 => exact named_eq rfl (by rw [two_pow 8 _ (by norm_num)]; norm_num)

theorem decay_eq (h : Fin 4) : Block.cd (F := Ideal) h = val_main_v61 (F := Ideal) (ix3 h (0 : Fin 1) (0 : Fin 1)) :=
  (decay_named h).trans (decay_apply h).symm

end Cert.Proof.Ref

end
-- ==== Proof.Meet.lean ====
/-
  THE TWO PROGRAMS MEET: they start from the same arrays, so that the gradients of Proof/HeadMath.lean they compute are
  the same, and every index of a result is a chunk's position and a head's lane.
-/
module

public import proofs.«01_k».proof.Proof.RefState
public import proofs.«01_k».proof.Proof.HostSide
public import proofs.«01_k».proof.Proof.Decay

@[expose] public section

noncomputable section

namespace Cert.Proof.Chunk

open Idealize.ShloMosaic Idealize.SL.Sem Cert.KernelIdeal Cert.KernelIdeal.Gen Idealize.ShloMosaic.TcCoe
open Cert.ReferenceIdeal.Read

variable (m : (ℓ : Loc nD τ sig) → Buf (Elt Ideal) ℓ) (c : Dev nD)

/-- Two sets of arrays are the same when each array is. -/
theorem arrays_ext {A B : Arrays} (h0 : A.dec = B.dec) (h1 : A.qw = B.qw) (h2 : A.kw = B.kw) (h3 : A.q = B.q) (h4 : A.k = B.k)
    (h5 : A.v = B.v) (h6 : A.g = B.g) (h7 : A.dy = B.dy) (h8 : A.prev = B.prev) (h9 : A.cd = B.cd) : A = B := by
  cases A; cases B
  cases h0; cases h1; cases h2; cases h3; cases h4; cases h5; cases h6; cases h7; cases h8; cases h9
  rfl

/-- What the reference uses, over the kernel's arguments. -/
abbrev meant : Arrays := Ref.arrays (m (c, main_arg0)) (m (c, main_arg1)) (m (c, main_arg2)) (m (c, main_arg3))

theorem meet_field_dec : (arrays m c).dec = (meant m c).dec := by
  dsimp only [arrays, Ref.arrays]; rw [V_dec]; rfl
theorem meet_field_qw : (arrays m c).qw = (meant m c).qw := by
  dsimp only [arrays, Ref.arrays]; funext h r; exact V_qw m c h r
theorem meet_field_kw : (arrays m c).kw = (meant m c).kw := by
  dsimp only [arrays, Ref.arrays]; funext h r; exact V_kw m c h r
theorem meet_field_q : (arrays m c).q = (meant m c).q := by
  dsimp only [arrays, Ref.arrays]; rw [V_main_arg0]; rfl
theorem meet_field_k : (arrays m c).k = (meant m c).k := by
  dsimp only [arrays, Ref.arrays]; rw [V_main_arg1]; rfl
theorem meet_field_v : (arrays m c).v = (meant m c).v := by
  dsimp only [arrays, Ref.arrays]; rw [V_main_arg2]; rfl
theorem meet_field_g : (arrays m c).g = (meant m c).g := by
  dsimp only [arrays, Ref.arrays]; rw [V_main_arg2]; rfl
theorem meet_field_dy : (arrays m c).dy = (meant m c).dy := by
  dsimp only [arrays, Ref.arrays]; rw [V_main_arg3]; rfl
theorem meet_field_prev : (arrays m c).prev = (meant m c).prev := by
  dsimp only [arrays, Ref.arrays]; rw [V_prev]; rfl
theorem meet_field_cd : (arrays m c).cd = (meant m c).cd := by
  dsimp only [arrays, Ref.arrays]; funext h; exact Ref.decay_eq h

/-- The kernel's region starts from the arrays the reference uses. -/
theorem arrays_eq : arrays m c = meant m c :=
  arrays_ext (meet_field_dec m c) (meet_field_qw m c) (meet_field_kw m c) (meet_field_q m c) (meet_field_k m c)
    (meet_field_v m c) (meet_field_g m c) (meet_field_dy m c) (meet_field_prev m c) (meet_field_cd m c)

theorem full_eq (n : Fin 32) (h : Fin 4) : (arrays m c).full n h
    = Ref.full (m (c, main_arg0)) (m (c, main_arg1)) (m (c, main_arg2)) (m (c, main_arg3)) n h := by
  rw [arrays_eq, Ref.full]

/-- Two arrays of 64 columns a head agree when they agree at every chunk, position, head and lane. -/
theorem ext_half {f g : (⟨2, ![4096, 256]⟩ : Shape).Idx → EReal}
    (H : ∀ (n : Fin 32) (h : Fin 4) (r : Fin 128) (d : Fin 64), f (ix2 (row n r) (lane64 h d)) = g (ix2 (row n r) (lane64 h d))) :
    f = g := by
  funext i
  have h0 : (i 0).val < 4096 := (i 0).isLt
  have h1 : (i 1).val < 256 := (i 1).isLt
  have e : i = ix2 (row ⟨(i 0).val / 128, by omega⟩ ⟨(i 0).val % 128, by omega⟩)
      (lane64 ⟨(i 1).val / 64, by omega⟩ ⟨(i 1).val % 64, by omega⟩) := by
    funext x; match x with
    | ⟨0, _⟩ => exact Fin.ext (by show (i 0).val = 128 * ((i 0).val / 128) + (i 0).val % 128; omega)
    | ⟨1, _⟩ => exact Fin.ext (by show (i 1).val = 64 * ((i 1).val / 64) + (i 1).val % 64; omega)
  rw [e]; exact H _ _ _ _

/-- The same with 128 columns a head. -/
theorem ext_whole {f g : (⟨2, ![4096, 512]⟩ : Shape).Idx → EReal}
    (H : ∀ (n : Fin 32) (h : Fin 4) (r e : Fin 128), f (ix2 (row n r) (lane128 h e)) = g (ix2 (row n r) (lane128 h e))) :
    f = g := by
  funext i
  have h0 : (i 0).val < 4096 := (i 0).isLt
  have h1 : (i 1).val < 512 := (i 1).isLt
  have e : i = ix2 (row ⟨(i 0).val / 128, by omega⟩ ⟨(i 0).val % 128, by omega⟩)
      (lane128 ⟨(i 1).val / 128, by omega⟩ ⟨(i 1).val % 128, by omega⟩) := by
    funext x; match x with
    | ⟨0, _⟩ => exact Fin.ext (by show (i 0).val = 128 * ((i 0).val / 128) + (i 0).val % 128; omega)
    | ⟨1, _⟩ => exact Fin.ext (by show (i 1).val = 128 * ((i 1).val / 128) + (i 1).val % 128; omega)
  rw [e]; exact H _ _ _ _

theorem meet_dq : (dats m 0 c).arrAt 9 cfg0.N
    = val_main_v554 (F := Ideal) (m (c, main_arg0)) (m (c, main_arg1)) (m (c, main_arg2)) (m (c, main_arg3)) :=
  ext_half fun n h r d => by rw [final_dq, full_eq]; exact (Ref.result_dq _ _ _ _ n h r d).symm
theorem meet_dk : (dats m 0 c).arrAt 10 cfg0.N
    = val_main_v553 (F := Ideal) (m (c, main_arg0)) (m (c, main_arg1)) (m (c, main_arg2)) (m (c, main_arg3)) :=
  ext_half fun n h r d => by rw [final_dk, full_eq]; exact (Ref.result_dk _ _ _ _ n h r d).symm
theorem meet_dv : (dats m 0 c).arrAt 11 cfg0.N
    = val_main_v555 (F := Ideal) (m (c, main_arg0)) (m (c, main_arg1)) (m (c, main_arg2)) (m (c, main_arg3)) :=
  ext_whole fun n h r e => by rw [final_dv, full_eq]; exact (Ref.result_dv _ _ _ _ n h r e).symm
theorem meet_dg : (dats m 0 c).arrAt 12 cfg0.N
    = val_main_v556 (F := Ideal) (m (c, main_arg0)) (m (c, main_arg1)) (m (c, main_arg2)) (m (c, main_arg3)) :=
  ext_whole fun n h r e => by rw [final_dg, full_eq]; exact (Ref.result_dg _ _ _ _ n h r e).symm

end Cert.Proof.Chunk

end
-- ==== Proof.Products.lean ====
/-
  THE THREE PRODUCTS OF A LINEAR MAP as sums of extended reals: `x w` itself, and for a cotangent of its result the
  gradients `ct wᵀ` and `xᵀ ct`. Both programs of a claim are read down to these.
-/
module

public import Idealize.ShloMosaic.Lib.Pointwise

@[expose] public section

noncomputable section

namespace Cert.Proof

open Idealize.ShloMosaic

/-- A matrix of extended reals. -/
abbrev Mat (a b : Nat) : Type := (⟨2, ![a, b]⟩ : Shape).Idx → EReal

variable {a b k : Nat}

/-- `x w`: rows of `x` against columns of `w`. -/
def times (x : Mat a k) (w : Mat k b) : Mat a b := fun i => ∑ q : Fin k, x (ix2 (i 0) q) * w (ix2 q (i 1))
/-- `ct wᵀ`: rows of `ct` against rows of `w`. -/
def timesT (ct : Mat a k) (w : Mat b k) : Mat a b := fun i => ∑ q : Fin k, ct (ix2 (i 0) q) * w (ix2 (i 1) q)
/-- `xᵀ ct`: columns of `x` against columns of `ct`. -/
def Ttimes (x : Mat k a) (ct : Mat k b) : Mat a b := fun i => ∑ q : Fin k, x (ix2 q (i 0)) * ct (ix2 q (i 1))

/-- The square of the positive part, entry by entry: the channel mixer's activation. -/
def reluSq (x : Mat a b) : Mat a b := fun i => max (x i) 0 * max (x i) 0
/-- Its gradient: the cotangent times twice the positive part of what was squared. -/
def reluSqGrad (ct x : Mat a b) : Mat a b := fun i => ct i * 2 * max (x i) 0

/-- The literal zero. -/
theorem zero_lit : Ideal.ofBits .f32 0x00000000#32 = 0 := by
  simp [Ideal.ofBits, Ideal.ieee, -EReal.coe_mul]

/-- The literal two of the activation's gradient. -/
theorem two_lit : Ideal.ofBits .f32 1073741824#32 = 2 := by
  show Ideal.ofBits _ _ = _
  simp [Ideal.ofBits, Ideal.ieee, -EReal.coe_mul]
  norm_num
  rfl

/-- An entry named by its two coordinates. -/
theorem at_ix2 (f : Mat a b) {j : (⟨2, ![a, b]⟩ : Shape).Idx} {p : Fin a} {q : Fin b} (h0 : j 0 = p) (h1 : j 1 = q) :
    f j = f (ix2 p q) := by
  rw [← h0, ← h1]; exact congrArg f (ix2_eta j).symm

/-- The gradient as it is differentiated, nothing where nothing passed, is the gradient as the kernel multiplies it:
    where nothing passed the positive part is zero. -/
theorem reluSqGrad_of_select (ct x : Mat a b) (i : (⟨2, ![a, b]⟩ : Shape).Idx) :
    (if 0 < x i then ct i * (2 * max (x i) 0) else 0) = reluSqGrad ct x i := by
  unfold reluSqGrad
  split
  · rw [mul_assoc]
  · next h => rw [max_eq_right (not_lt.mp h), mul_zero]

/-- A choice by a comparison with zero. -/
theorem select_pos (x p q : EReal) : Scalar.select (FloatOps.cmpf (F := Ideal) (φ := .f32) .ogt x 0) p q = if 0 < x then p else q := by
  show Scalar.select (Ideal.cmp .ogt x 0) p q = _
  by_cases h : 0 < x <;> simp [Ideal.cmp, Scalar.select, h]

end Cert.Proof

end
-- ==== Proof.MixerValue.lean ====
/-
  THE CHANNEL MIXER'S SIX CALLS, one by one: whatever the arrays are when a call is entered, its result array is the
  whole product (with the activation or its gradient on top, where the call has one), since each grid point leaves its
  block of it and the blocks tile the array.
-/
module

public import proofs.«01_k».proof.Proof.Gen.MixerIdeal.Frame
public import proofs.«01_k».proof.Proof.Products
public import Idealize.ShloMosaic.Lib.Pipeline.ValueKit

@[expose] public section

set_option maxRecDepth 16384

noncomputable section

namespace Cert.Proof.Mixer

open Idealize.ShloMosaic Idealize.SL.Sem Cert.MixerIdeal Cert.MixerIdeal.Gen Idealize.ShloMosaic.TcCoe

variable (V : (c : Dev nD) → (b : Ref sig .tc) → Buf (Elt Ideal) ((c : Thread nD τ).loc b)) (c : Dev nD)

/-! ## The first product and the activation -/

theorem idx0 : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)
theorem point0 (t : Fin cfg0.N) (y) : k0_pay1 (F := Ideal) (iblk0 V c 0 t) (iblk0 V c 1 t) y
    = times (V c main_arg0) (V c main_arg1) (((cfg0.win 2).blk t).view.emb y) := by
  pointwise [k0_pay1, times]
  blk_point [iblk0, idx0 t]
theorem point0' (t : Fin cfg0.N) (y) : k0_pay2 (F := Ideal) (iblk0 V c 0 t) (iblk0 V c 1 t) y
    = reluSq (times (V c main_arg0) (V c main_arg1)) (((cfg0.win 3).blk t).view.emb y) := by
  pointwise [k0_pay2, k0_pay1, reluSq, times]
  blk_point [iblk0, idx0 t]
theorem whole_a : (dat0 (F := Ideal) V c).arrAt 2 cfg0.N = times (V c main_arg0) (V c main_arg1) := by
  refine (dat0 (F := Ideal) V c).arrAt_eq_of_covers 2 _ (by decide +kernel) fun t _ y => ?_
  blk_simp
  rw [after0_2]; frame_out
  exact point0 V c t y
theorem whole_r : (dat0 (F := Ideal) V c).arrAt 3 cfg0.N = reluSq (times (V c main_arg0) (V c main_arg1)) := by
  refine (dat0 (F := Ideal) V c).arrAt_eq_of_covers 3 _ (by decide +kernel) fun t _ y => ?_
  blk_simp
  rw [after0_3]; frame_out
  exact point0' V c t y

/-! ## The second product -/

theorem idx1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, _)
theorem point1 (t : Fin cfg1.N) (y) : k1_pay1 (F := Ideal) (iblk1 V c 0 t) (iblk1 V c 1 t) y
    = times (V c main_v0_1) (V c main_arg2) (((cfg1.win 2).blk t).view.emb y) := by
  pointwise [k1_pay1, times]
  blk_point [iblk1, idx1 t]
theorem whole_f : (dat1 (F := Ideal) V c).arrAt 2 cfg1.N = times (V c main_v0_1) (V c main_arg2) := by
  refine (dat1 (F := Ideal) V c).arrAt_eq_of_covers 2 _ (by decide +kernel) fun t _ y => ?_
  blk_simp
  rw [after1_2]; frame_out
  exact point1 V c t y

/-! ## Back through the second product and the activation -/

theorem idx2 : ∀ t : Fin cfg2.N, win2_0.index t = ![(grid2.coords t 0).val, 0] ∧ win2_1.index t = ![(grid2.coords t 1).val, 0]
    ∧ win2_2.index t = ![(grid2.coords t 0).val, (grid2.coords t 1).val] ∧ win2_3.index t = ![(grid2.coords t 0).val, (grid2.coords t 1).val] :=
  (by decide +kernel : ∀ t : Fin grid2.N, _)
theorem point2 (t : Fin cfg2.N) (y) : k2_pay1 (F := Ideal) (iblk2 V c 0 t) (iblk2 V c 1 t) (iblk2 V c 2 t) y
    = reluSqGrad (timesT (V c main_arg3) (V c main_arg2)) (V c main_v0_0) (((cfg2.win 3).blk t).view.emb y) := by
  pointwise [k2_pay1, reluSqGrad, timesT]
  blk_point [iblk2, idx2 t]
  rw [two_lit]
theorem whole_da : (dat2 (F := Ideal) V c).arrAt 3 cfg2.N = reluSqGrad (timesT (V c main_arg3) (V c main_arg2)) (V c main_v0_0) := by
  refine (dat2 (F := Ideal) V c).arrAt_eq_of_covers 3 _ (by decide +kernel) fun t _ y => ?_
  blk_simp
  rw [after2_3]; frame_out
  exact point2 V c t y

/-! ## The gradient of the second weights -/

theorem idx3 : ∀ t : Fin cfg3.N, win3_0.index t = ![0, (grid3.coords t 0).val] ∧ win3_1.index t = ![0, (grid3.coords t 1).val]
    ∧ win3_2.index t = ![(grid3.coords t 0).val, (grid3.coords t 1).val] :=
  (by decide +kernel : ∀ t : Fin grid3.N, _)
theorem point3 (t : Fin cfg3.N) (y) : k3_pay1 (F := Ideal) (iblk3 V c 0 t) (iblk3 V c 1 t) y
    = Ttimes (V c main_v0_1) (V c main_arg3) (((cfg3.win 2).blk t).view.emb y) := by
  pointwise [k3_pay1, Ttimes]
  blk_point [iblk3, idx3 t]
theorem whole_dw2 : (dat3 (F := Ideal) V c).arrAt 2 cfg3.N = Ttimes (V c main_v0_1) (V c main_arg3) := by
  refine (dat3 (F := Ideal) V c).arrAt_eq_of_covers 2 _ (by decide +kernel) fun t _ y => ?_
  blk_simp
  rw [after3_2]; frame_out
  exact point3 V c t y

/-! ## The gradient of the input -/

theorem idx4 : ∀ t : Fin cfg4.N, win4_0.index t = ![(grid4.coords t 0).val, 0] ∧ win4_1.index t = ![(grid4.coords t 1).val, 0]
    ∧ win4_2.index t = ![(grid4.coords t 0).val, (grid4.coords t 1).val] :=
  (by decide +kernel : ∀ t : Fin grid4.N, _)
theorem point4 (t : Fin cfg4.N) (y) : k4_pay1 (F := Ideal) (iblk4 V c 0 t) (iblk4 V c 1 t) y
    = timesT (V c main_v2) (V c main_arg1) (((cfg4.win 2).blk t).view.emb y) := by
  pointwise [k4_pay1, timesT]
  blk_point [iblk4, idx4 t]
theorem whole_dh2 : (dat4 (F := Ideal) V c).arrAt 2 cfg4.N = timesT (V c main_v2) (V c main_arg1) := by
  refine (dat4 (F := Ideal) V c).arrAt_eq_of_covers 2 _ (by decide +kernel) fun t _ y => ?_
  blk_simp
  rw [after4_2]; frame_out
  exact point4 V c t y

/-! ## The gradient of the first weights -/

theorem idx5 : ∀ t : Fin cfg5.N, win5_0.index t = ![0, (grid5.coords t 0).val] ∧ win5_1.index t = ![0, (grid5.coords t 1).val]
    ∧ win5_2.index t = ![(grid5.coords t 0).val, (grid5.coords t 1).val] :=
  (by decide +kernel : ∀ t : Fin grid5.N, _)
theorem point5 (t : Fin cfg5.N) (y) : k5_pay1 (F := Ideal) (iblk5 V c 0 t) (iblk5 V c 1 t) y
    = Ttimes (V c main_arg0) (V c main_v2) (((cfg5.win 2).blk t).view.emb y) := by
  pointwise [k5_pay1, Ttimes]
  blk_point [iblk5, idx5 t]
theorem whole_dw1 : (dat5 (F := Ideal) V c).arrAt 2 cfg5.N = Ttimes (V c main_arg0) (V c main_v2) := by
  refine (dat5 (F := Ideal) V c).arrAt_eq_of_covers 2 _ (by decide +kernel) fun t _ y => ?_
  blk_simp
  rw [after5_2]; frame_out
  exact point5 V c t y

end Cert.Proof.Mixer

end
-- ==== Proof.MixerRun.lean ====
/-
  THE CHANNEL MIXER'S RUN: the six calls one after another leave the mixer's result and its three gradients. The second
  product starts from the activation the first call left, the gradient through the activation from what the first call
  left before it, and the last two calls from that gradient.
-/
module

public import proofs.«01_k».proof.Proof.MixerValue

@[expose] public section

set_option maxRecDepth 16384

noncomputable section

namespace Cert.Proof.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixerIdeal Cert.MixerIdeal.Gen

local notation "𝕄" => MT nD τ sig Unit (Elt Ideal) ℕ (UR sig nD τ) ℕ

variable (m : (ℓ : Loc nD τ sig) → Buf (Elt Ideal) ℓ) (ρ : Dev nD → PrngReg)

/-! ## What stands where as the calls go by -/

/-- What the activation is taken of: the first product of the arguments. -/
abbrev pre (c : Dev nD) : Mat 4096 4096 := times (m ((c : Thread nD τ).loc main_arg0)) (m ((c : Thread nD τ).loc main_arg1))
/-- The gradient of `pre`. -/
abbrev dpre (c : Dev nD) : Mat 4096 4096 :=
  reluSqGrad (timesT (m ((c : Thread nD τ).loc main_arg3)) (m ((c : Thread nD τ).loc main_arg2))) (pre m c)

theorem pre1 (c : Dev nD) : W1 m ρ c (Proc.devRef .tc main_v0_0) = pre m c := (W1_arr m ρ c 2).trans (whole_a (V0 m ρ) c)
theorem act1 (c : Dev nD) : W1 m ρ c (Proc.devRef .tc main_v0_1) = reluSq (pre m c) := (W1_arr m ρ c 3).trans (whole_r (V0 m ρ) c)
theorem pre2 (c : Dev nD) : W2 m ρ c (Proc.devRef .tc main_v0_0) = pre m c :=
  (W2_of m ρ c main_v0_0 (by decide +kernel)).trans (pre1 m ρ c)
theorem act2 (c : Dev nD) : W2 m ρ c (Proc.devRef .tc main_v0_1) = reluSq (pre m c) :=
  (W2_of m ρ c main_v0_1 (by decide +kernel)).trans (act1 m ρ c)
theorem act3 (c : Dev nD) : W3 m ρ c (Proc.devRef .tc main_v0_1) = reluSq (pre m c) :=
  (W3_of m ρ c main_v0_1 (by decide +kernel)).trans (act2 m ρ c)
theorem f2 (c : Dev nD) : W2 m ρ c (Proc.devRef .tc main_v1) = times (reluSq (pre m c)) (m ((c : Thread nD τ).loc main_arg2)) := by
  refine (W2_arr m ρ c 2).trans ((whole_f (V1 m ρ) c).trans ?_)
  rw [show V1 m ρ c main_arg2 = _ from W1_args m ρ c main_arg2 (by decide), show V1 m ρ c main_v0_1 = _ from act1 m ρ c]
theorem dpre3 (c : Dev nD) : W3 m ρ c (Proc.devRef .tc main_v2) = dpre m c := by
  refine (W3_arr m ρ c 3).trans ((whole_da (V2 m ρ) c).trans ?_)
  rw [show V2 m ρ c main_arg2 = _ from W2_args m ρ c main_arg2 (by decide), show V2 m ρ c main_arg3 = _ from W2_args m ρ c main_arg3 (by decide),
    show V2 m ρ c main_v0_0 = _ from pre2 m ρ c]
theorem dpre4 (c : Dev nD) : W4 m ρ c (Proc.devRef .tc main_v2) = dpre m c :=
  (W4_of m ρ c main_v2 (by decide +kernel)).trans (dpre3 m ρ c)
theorem dpre5 (c : Dev nD) : W5 m ρ c (Proc.devRef .tc main_v2) = dpre m c :=
  (W5_of m ρ c main_v2 (by decide +kernel)).trans (dpre4 m ρ c)

/-! ## Where the results stand at the end -/

theorem end_f (c : Dev nD) : W6 m ρ c (Proc.devRef .tc main_v1) = times (reluSq (pre m c)) (m ((c : Thread nD τ).loc main_arg2)) :=
  (W6_of m ρ c main_v1 (by decide +kernel)).trans ((W5_of m ρ c main_v1 (by decide +kernel)).trans
    ((W4_of m ρ c main_v1 (by decide +kernel)).trans ((W3_of m ρ c main_v1 (by decide +kernel)).trans (f2 m ρ c))))
theorem end_dw2 (c : Dev nD) : W6 m ρ c (Proc.devRef .tc main_v3) = Ttimes (reluSq (pre m c)) (m ((c : Thread nD τ).loc main_arg3)) := by
  refine (W6_of m ρ c main_v3 (by decide +kernel)).trans ((W5_of m ρ c main_v3 (by decide +kernel)).trans
    ((W4_arr m ρ c 2).trans ((whole_dw2 (V3 m ρ) c).trans ?_)))
  rw [show V3 m ρ c main_arg3 = _ from W3_args m ρ c main_arg3 (by decide), show V3 m ρ c main_v0_1 = _ from act3 m ρ c]
theorem end_dh2 (c : Dev nD) : W6 m ρ c (Proc.devRef .tc main_v4) = timesT (dpre m c) (m ((c : Thread nD τ).loc main_arg1)) := by
  refine (W6_of m ρ c main_v4 (by decide +kernel)).trans ((W5_arr m ρ c 2).trans ((whole_dh2 (V4 m ρ) c).trans ?_))
  rw [show V4 m ρ c main_arg1 = _ from W4_args m ρ c main_arg1 (by decide), show V4 m ρ c main_v2 = _ from dpre4 m ρ c]
theorem end_dw1 (c : Dev nD) : W6 m ρ c (Proc.devRef .tc main_v5) = Ttimes (m ((c : Thread nD τ).loc main_arg0)) (dpre m c) := by
  refine (W6_arr m ρ c 2).trans ((whole_dw1 (V5 m ρ) c).trans ?_)
  rw [show V5 m ρ c main_arg0 = _ from W5_args m ρ c main_arg0 (by decide), show V5 m ρ c main_v2 = _ from dpre5 m ρ c]

/-! ## The launch -/

-- the launch theorem's implicit arguments are found by unifying its conclusion with this one
set_option backward.isDefEq.respectTransparency.types false in
/-- Every execution ends with every buffer of the program at its contents after the last call. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- THE RUN: the mixer's result and its three gradients, the arguments as launched. -/
theorem run : θ_run defs (onTc (τ := τ) (main (F := Ideal))) ⟨m, fun _ => 0, ρ⟩ (fun r => ∀ c : Dev nD,
      r.2.mem ((c.tc : Thread nD τ).loc main_v1) = times (reluSq (pre m c)) (m ((c.tc : Thread nD τ).loc main_arg2))
      ∧ r.2.mem ((c.tc : Thread nD τ).loc main_v4) = timesT (dpre m c) (m ((c.tc : Thread nD τ).loc main_arg1))
      ∧ r.2.mem ((c.tc : Thread nD τ).loc main_v5) = Ttimes (m ((c.tc : Thread nD τ).loc main_arg0)) (dpre m c)
      ∧ r.2.mem ((c.tc : Thread nD τ).loc main_v3) = Ttimes (reluSq (pre m c)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1 (by decide))).trans (end_f m ρ c), (h c _ (mem_uc main_v4 (by decide))).trans (end_dh2 m ρ c),
     (h c _ (mem_uc main_v5 (by decide))).trans (end_dw1 m ρ c), (h c _ (mem_uc main_v3 (by decide))).trans (end_dw2 m ρ c),
     (h c _ (mem_uc main_arg0 (by decide))).trans (W6_main_arg0 m ρ c), (h c _ (mem_uc main_arg1 (by decide))).trans (W6_main_arg1 m ρ c),
     (h c _ (mem_uc main_arg2 (by decide))).trans (W6_main_arg2 m ρ c), (h c _ (mem_uc main_arg3 (by decide))).trans (W6_main_arg3 m ρ c)⟩)
    (ends m ρ)

end Cert.Proof.Mixer

end
-- ==== Proof.MixerMeet.lean ====
/-
  THE CHANNEL MIXER'S CLAIM: the plain program's result and its three gradients are the sums of `Products` with the
  activation and its gradient between them, and the kernel's six calls leave those, so both end with the same results.
-/
module

public import proofs.«01_k».proof.Defs
public import proofs.«01_k».proof.Proof.MixerRun
public import proofs.«01_k».proof.Proof.Gen.MixerReferenceIdeal.Run
public import proofs.«01_k».proof.Proof.Gen.MixerReferenceIdeal.Read
public import Idealize.ShloMosaic.Lib.Quiescent

@[expose] public section

set_option maxRecDepth 16384

noncomputable section

namespace Cert.Proof.Mixer

open Idealize.ShloMosaic Idealize.SL.Sem Cert.MixerReferenceIdeal Cert.MixerReferenceIdeal.Read

/-- The plain program runs and leaves its arguments; it has no semaphore. -/
theorem frame_reference : Cert.quiescent_MixerReferenceIdeal := fun m ρ _ =>
  (θ_run Cert.MixerReferenceIdeal.defs _ _).mono (fun r h => ⟨fun c => (h c).2.2.2.2, sem_eq_zero_of_no_sems (by decide) r.2⟩)
    (Cert.MixerReferenceIdeal.Value.run (F := Ideal) m ρ)

variable (h : Mat 4096 1024) (w1 : Mat 1024 4096) (w2 : Mat 4096 1024) (df : Mat 4096 1024)

theorem ref_pre : val_main_v3 (F := Ideal) h w1 = times h w1 := by
  funext i
  rw [val_main_v3_apply]
  exact Finset.sum_congr rfl fun k _ => congrArg₂ (· * ·) (at_ix2 h rfl rfl) (at_ix2 w1 rfl rfl)
/-- The positive part of the first product. -/
theorem ref_pos (i) : val_main_v4 (F := Ideal) h w1 i = max (times h w1 i) 0 := by
  rw [val_main_v4_apply, val_main_call0_v0_apply, val_main_call0_cst_apply, ref_pre]
  exact congrArg (max (times h w1 i)) zero_lit
theorem ref_act : val_main_v8 (F := Ideal) h w1 = reluSq (times h w1) := by
  funext i
  rw [val_main_v8_apply, ref_pos]; rfl
theorem ref_dact : val_main_v15 (F := Ideal) w2 df = timesT df w2 := by
  funext i
  rw [val_main_v15_apply]
  exact Finset.sum_congr rfl fun k _ => congrArg₂ (· * ·) (at_ix2 df rfl rfl) (at_ix2 w2 rfl rfl)
/-- The gradient before the activation, over what was squared. -/
theorem ref_dpre : val_main_v18 (F := Ideal) h w1 w2 df = reluSqGrad (timesT df w2) (times h w1) := by
  funext i
  rw [val_main_v18_apply, val_main_v16_apply, val_main_v10_apply, val_main_v9_apply, val_main_cst_1_apply, val_main_v17_apply,
    val_main_cst_2_apply, val_main_v6_apply, val_main_v5_apply, val_main_cst_apply, ref_pos, ref_pre, ref_dact,
    ← reluSqGrad_of_select]
  show Scalar.select (FloatOps.cmpf (F := Ideal) .ogt (times h w1 i) (Ideal.ofBits .f32 0x00000000#32))
    (timesT df w2 i * (Ideal.ofBits .f32 0x40000000#32 * max (times h w1 i) 0)) (Ideal.ofBits .f32 0x00000000#32) = _
  rw [zero_lit, two_lit]
  exact select_pos _ _ _
theorem ref_f : val_main_v11 (F := Ideal) h w1 w2 = times (reluSq (times h w1)) w2 := by
  funext i
  rw [val_main_v11_apply, ref_act]
  exact Finset.sum_congr rfl fun k _ => congrArg₂ (· * ·) (at_ix2 (reluSq (times h w1)) rfl rfl) (at_ix2 w2 rfl rfl)
theorem ref_dh2 : val_main_v21 (F := Ideal) h w1 w2 df = timesT (reluSqGrad (timesT df w2) (times h w1)) w1 := by
  funext i
  rw [val_main_v21_apply, ref_dpre]
  exact Finset.sum_congr rfl fun k _ => congrArg₂ (· * ·) (at_ix2 (reluSqGrad (timesT df w2) (times h w1)) rfl rfl) (at_ix2 w1 rfl rfl)
theorem ref_dw1 : val_main_v20 (F := Ideal) h w1 w2 df = Ttimes h (reluSqGrad (timesT df w2) (times h w1)) := by
  funext i
  rw [val_main_v20_apply, val_main_v19_apply, ref_dpre]
  exact Finset.sum_congr rfl fun k _ => (mul_comm _ _).trans
    (congrArg₂ (· * ·) (at_ix2 h rfl rfl) (at_ix2 (reluSqGrad (timesT df w2) (times h w1)) rfl rfl))
theorem ref_dw2 : val_main_v14 (F := Ideal) h w1 df = Ttimes (reluSq (times h w1)) df := by
  funext i
  rw [val_main_v14_apply, val_main_v13_apply, ref_act]
  exact Finset.sum_congr rfl fun k _ => (mul_comm _ _).trans
    (congrArg₂ (· * ·) (at_ix2 (reluSq (times h w1)) rfl rfl) (at_ix2 df rfl rfl))

/-- The mixer's result and its three gradients are the plain program's. -/
theorem gradients : Cert.algebraic_MixerIdeal_MixerReferenceIdeal := by
  intro m ρ m' ρ' _ args
  have e0 (c) := (args c).1
  have e1 (c) := (args c).2.1
  have e2 (c) := (args c).2.2.1
  have e3 (c) := (args c).2.2.2
  refine ⟨_, _, _, _, run m ρ, ?_⟩
  refine (θ_run Cert.MixerReferenceIdeal.defs _ _).mono (fun r h c => ⟨(h c).1.trans ?_, (h c).2.1.trans ?_, (h c).2.2.1.trans ?_,
    (h c).2.2.2.1.trans ?_, (h c).2.2.2.2⟩) (Cert.MixerReferenceIdeal.Value.run (F := Ideal) m' ρ')
  · refine (val_main_v11_eq _ _ _).trans ((ref_f _ _ _).trans ?_)
    exact congrArg₂ times (congrArg reluSq (congrArg₂ times (e0 c) (e1 c))) (e2 c)
  · refine (val_main_v21_eq _ _ _ _).trans ((ref_dh2 _ _ _ _).trans ?_)
    exact congrArg₂ timesT (congrArg₂ reluSqGrad (congrArg₂ timesT (e3 c) (e2 c)) (congrArg₂ times (e0 c) (e1 c))) (e1 c)
  · refine (val_main_v20_eq _ _ _ _).trans ((ref_dw1 _ _ _ _).trans ?_)
    exact congrArg₂ Ttimes (e0 c) (congrArg₂ reluSqGrad (congrArg₂ timesT (e3 c) (e2 c)) (congrArg₂ times (e0 c) (e1 c)))
  · refine (val_main_v14_eq _ _ _).trans ((ref_dw2 _ _ _).trans ?_)
    exact congrArg₂ Ttimes (congrArg reluSq (congrArg₂ times (e0 c) (e1 c))) (e3 c)

end Cert.Proof.Mixer

end
-- ==== Proof.ProjectionValue.lean ====
/-
  THE PROJECTION'S THREE CALLS, one by one: whatever the arrays are when a call is entered, its result array is the
  whole product, since each grid point leaves its block of it and the blocks tile the array.
-/
module

public import proofs.«01_k».proof.Proof.Gen.ProjectionIdeal.Frame
public import proofs.«01_k».proof.Proof.Products
public import Idealize.ShloMosaic.Lib.Pipeline.ValueKit

@[expose] public section

set_option maxRecDepth 16384

noncomputable section

namespace Cert.Proof.Projection

open Idealize.ShloMosaic Idealize.SL.Sem Cert.ProjectionIdeal Cert.ProjectionIdeal.Gen Idealize.ShloMosaic.TcCoe

variable (V : (c : Dev nD) → (b : Ref sig .tc) → Buf (Elt Ideal) ((c : Thread nD τ).loc b)) (c : Dev nD)

/-! ## The forward product -/

theorem idx0 : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)
/-- What a point of the forward call stores is its block of the product. -/
theorem point0 (t : Fin cfg0.N) (y) : k0_pay1 (F := Ideal) (iblk0 V c 0 t) (iblk0 V c 1 t) y
    = times (V c main_arg0) (V c main_arg1) (((cfg0.win 2).blk t).view.emb y) := by
  pointwise [k0_pay1, times]
  blk_point [iblk0, idx0 t]
theorem whole0 : (dat0 (F := Ideal) V c).arrAt 2 cfg0.N = times (V c main_arg0) (V c main_arg1) := by
  refine (dat0 (F := Ideal) V c).arrAt_eq_of_covers 2 _ (by decide +kernel) fun t _ y => ?_
  blk_simp
  rw [after0_2]; frame_out
  exact point0 V c t y

/-! ## The gradient with respect to the input -/

theorem idx1 : ∀ t : Fin cfg1.N, win1_0.index t = ![(grid1.coords t 0).val, 0] ∧ win1_1.index t = ![(grid1.coords t 1).val, 0]
    ∧ win1_2.index t = ![(grid1.coords t 0).val, (grid1.coords t 1).val] :=
  (by decide +kernel : ∀ t : Fin grid1.N, _)
/-- What a point of this call stores is its block of the gradient. -/
theorem point1 (t : Fin cfg1.N) (y) : k1_pay1 (F := Ideal) (iblk1 V c 0 t) (iblk1 V c 1 t) y
    = timesT (V c main_arg2) (V c main_arg1) (((cfg1.win 2).blk t).view.emb y) := by
  pointwise [k1_pay1, timesT]
  blk_point [iblk1, idx1 t]
theorem whole1 : (dat1 (F := Ideal) V c).arrAt 2 cfg1.N = timesT (V c main_arg2) (V c main_arg1) := by
  refine (dat1 (F := Ideal) V c).arrAt_eq_of_covers 2 _ (by decide +kernel) fun t _ y => ?_
  blk_simp
  rw [after1_2]; frame_out
  exact point1 V c t y

/-! ## The gradient with respect to the weights -/

theorem idx2 : ∀ t : Fin cfg2.N, win2_0.index t = ![0, (grid2.coords t 0).val] ∧ win2_1.index t = ![0, (grid2.coords t 1).val]
    ∧ win2_2.index t = ![(grid2.coords t 0).val, (grid2.coords t 1).val] :=
  (by decide +kernel : ∀ t : Fin grid2.N, _)
/-- What a point of this call stores is its block of the gradient. -/
theorem point2 (t : Fin cfg2.N) (y) : k2_pay1 (F := Ideal) (iblk2 V c 0 t) (iblk2 V c 1 t) y
    = Ttimes (V c main_arg0) (V c main_arg2) (((cfg2.win 2).blk t).view.emb y) := by
  pointwise [k2_pay1, Ttimes]
  blk_point [iblk2, idx2 t]
theorem whole2 : (dat2 (F := Ideal) V c).arrAt 2 cfg2.N = Ttimes (V c main_arg0) (V c main_arg2) := by
  refine (dat2 (F := Ideal) V c).arrAt_eq_of_covers 2 _ (by decide +kernel) fun t _ y => ?_
  blk_simp
  rw [after2_2]; frame_out
  exact point2 V c t y

end Cert.Proof.Projection

end
-- ==== Proof.ProjectionRun.lean ====
/-
  THE PROJECTION'S RUN: the three calls one after another leave the product and its two gradients of the arguments as
  launched. No call writes an array another one reads, so each starts from the arguments.
-/
module

public import proofs.«01_k».proof.Proof.ProjectionValue

@[expose] public section

set_option maxRecDepth 16384

noncomputable section

namespace Cert.Proof.Projection

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjectionIdeal Cert.ProjectionIdeal.Gen

local notation "𝕄" => MT nD τ sig Unit (Elt Ideal) ℕ (UR sig nD τ) ℕ

variable (m : (ℓ : Loc nD τ sig) → Buf (Elt Ideal) ℓ) (ρ : Dev nD → PrngReg)

/-! ## Where the results stand at the end -/

theorem end_y (c : Dev nD) : W3 m ρ c (Proc.devRef .tc main_v0)
    = times (m ((c : Thread nD τ).loc main_arg0)) (m ((c : Thread nD τ).loc main_arg1)) :=
  ((W3_of m ρ c main_v0 (by decide +kernel)).trans (W2_of m ρ c main_v0 (by decide +kernel))).trans
    ((W1_arr m ρ c 2).trans (whole0 (V0 m ρ) c))
theorem end_dx (c : Dev nD) : W3 m ρ c (Proc.devRef .tc main_v1)
    = timesT (m ((c : Thread nD τ).loc main_arg2)) (m ((c : Thread nD τ).loc main_arg1)) := by
  refine (W3_of m ρ c main_v1 (by decide +kernel)).trans ((W2_arr m ρ c 2).trans ((whole1 (V1 m ρ) c).trans ?_))
  rw [show V1 m ρ c main_arg2 = _ from W1_args m ρ c main_arg2 (by decide), show V1 m ρ c main_arg1 = _ from W1_args m ρ c main_arg1 (by decide)]
theorem end_dw (c : Dev nD) : W3 m ρ c (Proc.devRef .tc main_v2)
    = Ttimes (m ((c : Thread nD τ).loc main_arg0)) (m ((c : Thread nD τ).loc main_arg2)) := by
  refine (W3_arr m ρ c 2).trans ((whole2 (V2 m ρ) c).trans ?_)
  rw [show V2 m ρ c main_arg0 = _ from W2_args m ρ c main_arg0 (by decide), show V2 m ρ c main_arg2 = _ from W2_args m ρ c main_arg2 (by decide)]

/-! ## The launch -/

-- the launch theorem's implicit arguments are found by unifying its conclusion with this one
set_option backward.isDefEq.respectTransparency.types false in
/-- Every execution ends with every buffer of the program at its contents after the last call. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- THE RUN: the three results at the product and its gradients, the arguments as launched. -/
theorem run : θ_run defs (onTc (τ := τ) (main (F := Ideal))) ⟨m, fun _ => 0, ρ⟩ (fun r => ∀ c : Dev nD,
      r.2.mem ((c.tc : Thread nD τ).loc main_v0) = times (m ((c.tc : Thread nD τ).loc main_arg0)) (m ((c.tc : Thread nD τ).loc main_arg1))
      ∧ r.2.mem ((c.tc : Thread nD τ).loc main_v1) = timesT (m ((c.tc : Thread nD τ).loc main_arg2)) (m ((c.tc : Thread nD τ).loc main_arg1))
      ∧ r.2.mem ((c.tc : Thread nD τ).loc main_v2) = Ttimes (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v0 (by decide))).trans (end_y m ρ c), (h c _ (mem_uc main_v1 (by decide))).trans (end_dx m ρ c),
     (h c _ (mem_uc main_v2 (by decide))).trans (end_dw m ρ c), (h c _ (mem_uc main_arg0 (by decide))).trans (W3_main_arg0 m ρ c),
     (h c _ (mem_uc main_arg1 (by decide))).trans (W3_main_arg1 m ρ c), (h c _ (mem_uc main_arg2 (by decide))).trans (W3_main_arg2 m ρ c)⟩)
    (ends m ρ)

end Cert.Proof.Projection

end
-- ==== Proof.ProjectionMeet.lean ====
/-
  THE PROJECTION'S CLAIM: the plain program's product and its two gradients are the sums of `Products`, and the kernel's
  three calls leave those, so both end with the same results.
-/
module

public import proofs.«01_k».proof.Defs
public import proofs.«01_k».proof.Proof.ProjectionRun
public import proofs.«01_k».proof.Proof.Gen.ProjectionReferenceIdeal.Run
public import proofs.«01_k».proof.Proof.Gen.ProjectionReferenceIdeal.Read
public import Idealize.ShloMosaic.Lib.Quiescent

@[expose] public section

set_option maxRecDepth 16384

noncomputable section

namespace Cert.Proof.Projection

open Idealize.ShloMosaic Idealize.SL.Sem Cert.ProjectionReferenceIdeal Cert.ProjectionReferenceIdeal.Read

/-- The plain program runs and leaves its arguments; it has no semaphore. -/
theorem frame_reference : Cert.quiescent_ProjectionReferenceIdeal := fun m ρ _ =>
  (θ_run Cert.ProjectionReferenceIdeal.defs _ _).mono (fun r h => ⟨fun c => (h c).2.2.2, sem_eq_zero_of_no_sems (by decide) r.2⟩)
    (Cert.ProjectionReferenceIdeal.Value.run (F := Ideal) m ρ)

variable (x : Mat 4096 1024) (w : Mat 1024 7424) (ct : Mat 4096 7424)

theorem ref_y : val_main_v2 (F := Ideal) x w = times x w := by
  funext i
  rw [val_main_v2_apply]
  exact Finset.sum_congr rfl fun k _ => congrArg₂ (· * ·) (at_ix2 x rfl rfl) (at_ix2 w rfl rfl)
theorem ref_dx : val_main_v6 (F := Ideal) w ct = timesT ct w := by
  funext i
  rw [val_main_v6_apply]
  exact Finset.sum_congr rfl fun k _ => congrArg₂ (· * ·) (at_ix2 ct rfl rfl) (at_ix2 w rfl rfl)
theorem ref_dw : val_main_v5 (F := Ideal) x ct = Ttimes x ct := by
  funext i
  rw [val_main_v5_apply, val_main_v4_apply]
  exact Finset.sum_congr rfl fun k _ => (mul_comm _ _).trans (congrArg₂ (· * ·) (at_ix2 x rfl rfl) (at_ix2 ct rfl rfl))

/-- The projection and its two gradients are the plain program's. -/
theorem products : Cert.algebraic_ProjectionIdeal_ProjectionReferenceIdeal := by
  intro m ρ m' ρ' _ args
  have e0 (c) := (args c).1
  have e1 (c) := (args c).2.1
  have e2 (c) := (args c).2.2
  refine ⟨_, _, _, run m ρ, ?_⟩
  refine (θ_run Cert.ProjectionReferenceIdeal.defs _ _).mono (fun r h c => ⟨(h c).1.trans ?_, (h c).2.1.trans ?_, (h c).2.2.1.trans ?_,
    (h c).2.2.2⟩) (Cert.ProjectionReferenceIdeal.Value.run (F := Ideal) m' ρ')
  · refine (val_main_v2_eq _ _).trans ((ref_y _ _).trans ?_)
    exact congrArg₂ times (e0 c) (e1 c)
  · refine (val_main_v6_eq _ _).trans ((ref_dx _ _).trans ?_)
    exact congrArg₂ timesT (e2 c) (e1 c)
  · refine (val_main_v5_eq _ _).trans ((ref_dw _ _).trans ?_)
    exact congrArg₂ Ttimes (e0 c) (e2 c)

end Cert.Proof.Projection

end
-- ==== Proof.MergeMath.lean ====
/-
  THE GATED MERGE as sums of extended reals: a branch is carried up by its weights, multiplied by a gate, which is the
  logistic function of some columns of the input projection, and the four branches are added. Going back, the gate's
  logits take the cotangent times the branch times the gate's slope, the branch takes the cotangent times the gate.
-/
module

public import proofs.«01_k».proof.Proof.Products

@[expose] public section

noncomputable section

namespace Cert.Proof

open Idealize.ShloMosaic

/-- The gate whose logits are the projection's columns from `o` on. -/
def gate (p : Mat 4096 7424) (o : Nat) (h : o + 1024 ≤ 7424) : Mat 4096 1024 :=
  fun i => Ideal.logistic (p (ix2 (i 0) ⟨o + (i 1).val, Nat.lt_of_lt_of_le (Nat.add_lt_add_left (i 1).isLt o) h⟩))
/-- The four gates: their logits stand one after another. -/
abbrev gate₀ (p : Mat 4096 7424) : Mat 4096 1024 := gate p 3328 (by decide)
abbrev gate₁ (p : Mat 4096 7424) : Mat 4096 1024 := gate p 4352 (by decide)
abbrev gate₂ (p : Mat 4096 7424) : Mat 4096 1024 := gate p 5376 (by decide)
abbrev gate₃ (p : Mat 4096 7424) : Mat 4096 1024 := gate p 6400 (by decide)
/-- The sum of the four gated branches, each branch `y w`. -/
def merged (y₀ y₁ y₂ y₃ : Mat 4096 512) (w₀ w₁ w₂ w₃ : Mat 512 1024) (p : Mat 4096 7424) : Mat 4096 1024 :=
  fun i => gate₀ p i * times y₀ w₀ i + gate₁ p i * times y₁ w₁ i + gate₂ p i * times y₂ w₂ i + gate₃ p i * times y₃ w₃ i
/-- The gradient of a gate's logits: the logistic function's slope is `g (1 - g)`. -/
def gateGrad (ct t g : Mat 4096 1024) : Mat 4096 1024 := fun i => ct i * t i * g i * (1 - g i)
/-- The cotangent carried through a gate. -/
def through (ct g : Mat 4096 1024) : Mat 4096 1024 := fun i => ct i * g i

/-- The literal one. -/
theorem one_lit : Ideal.ofBits .f32 0x3F800000#32 = 1 := by
  simp [Ideal.ofBits, Ideal.ieee, -EReal.coe_mul]
  norm_num

/-- The logistic function written with its quotient and its literals. -/
theorem logistic_lit (x : EReal) : Ideal.div (Ideal.ofBits .f32 0x3F800000#32) (Ideal.ofBits .f32 0x3F800000#32 + Ideal.exp (-x))
    = Ideal.logistic x := by
  rw [one_lit]; rfl
/-- The logits' gradient with the slope made first. -/
theorem slope_lit (d t g : EReal) : d * t * (g * (Ideal.ofBits .f32 0x3F800000#32 - g)) = d * t * g * (1 - g) := by
  rw [one_lit, ← mul_assoc]

end Cert.Proof

end
-- ==== Proof.MergeValue.lean ====
/-
  THE MERGE'S AND THE OUTPUT PROJECTION'S CALLS, one by one: whatever the arrays are when a call is entered, the merge
  leaves the sum of the four gated branches and each product leaves the whole product. A gate's logits are read where
  they stand, in the columns of the input projection, so a block of a gate is a block of the projection further right.
-/
module

public import proofs.«01_k».proof.Proof.Gen.MergeIdeal.Frame
public import proofs.«01_k».proof.Proof.MergeMath
public import Idealize.ShloMosaic.Lib.Pipeline.ValueKit

@[expose] public section

set_option maxRecDepth 16384

noncomputable section

namespace Cert.Proof.Merge

open Idealize.ShloMosaic Idealize.SL.Sem Cert.MergeIdeal Cert.MergeIdeal.Gen Idealize.ShloMosaic.TcCoe

variable (V : (c : Dev nD) → (b : Ref sig .tc) → Buf (Elt Ideal) ((c : Thread nD τ).loc b)) (c : Dev nD)

/-! ## The branches merged -/

theorem idx0 : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![0, (grid0.coords t 1).val] ∧ win0_5.index t = ![0, (grid0.coords t 1).val]
    ∧ win0_6.index t = ![0, (grid0.coords t 1).val] ∧ win0_7.index t = ![0, (grid0.coords t 1).val]
    ∧ win0_8.index t = ![(grid0.coords t 0).val, 13 + (grid0.coords t 1).val] ∧ win0_9.index t = ![(grid0.coords t 0).val, 17 + (grid0.coords t 1).val]
    ∧ win0_10.index t = ![(grid0.coords t 0).val, 21 + (grid0.coords t 1).val] ∧ win0_11.index t = ![(grid0.coords t 0).val, 25 + (grid0.coords t 1).val]
    ∧ win0_12.index t = ![(grid0.coords t 0).val, (grid0.coords t 1).val] :=
  (by decide +kernel : ∀ t : Fin grid0.N, _)
theorem point0 (t : Fin cfg0.N) (y) : k0_pay1 (F := Ideal) (k0_pay2 (F := Ideal) (iblk0 V c 8 t) (iblk0 V c 0 t) (iblk0 V c 4 t)
      (iblk0 V c 9 t) (iblk0 V c 1 t) (iblk0 V c 5 t) (iblk0 V c 10 t) (iblk0 V c 2 t) (iblk0 V c 6 t) (iblk0 V c 11 t) (iblk0 V c 3 t) (iblk0 V c 7 t)) y
    = merged (V c main_arg0) (V c main_arg1) (V c main_arg2) (V c main_arg3) (V c main_arg4) (V c main_arg5) (V c main_arg6) (V c main_arg7)
        (V c main_arg8) (((cfg0.win 12).blk t).view.emb y) := by
  pointwise [k0_pay1, k0_pay2, merged, gate, times]
  blk_point [iblk0, idx0 t]
theorem whole_merged : (dat0 (F := Ideal) V c).arrAt 12 cfg0.N = merged (V c main_arg0) (V c main_arg1) (V c main_arg2) (V c main_arg3)
    (V c main_arg4) (V c main_arg5) (V c main_arg6) (V c main_arg7) (V c main_arg8) := by
  refine (dat0 (F := Ideal) V c).arrAt_eq_of_covers 12 _ (by decide +kernel) fun t _ y => ?_
  blk_simp
  rw [after0_12]; frame_out
  exact point0 V c t y

/-! ## The output projection -/

theorem idx1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, _)
theorem point1 (t : Fin cfg1.N) (y) : k1_pay1 (F := Ideal) (iblk1 V c 0 t) (iblk1 V c 1 t) y
    = times (V c main_v0) (V c main_arg9) (((cfg1.win 2).blk t).view.emb y) := by
  pointwise [k1_pay1, times]
  blk_point [iblk1, idx1 t]
theorem whole_o : (dat1 (F := Ideal) V c).arrAt 2 cfg1.N = times (V c main_v0) (V c main_arg9) := by
  refine (dat1 (F := Ideal) V c).arrAt_eq_of_covers 2 _ (by decide +kernel) fun t _ y => ?_
  blk_simp
  rw [after1_2]; frame_out
  exact point1 V c t y

/-! ## Its two gradients -/

theorem idx2 : ∀ t : Fin cfg2.N, win2_0.index t = ![(grid2.coords t 0).val, 0] ∧ win2_1.index t = ![(grid2.coords t 1).val, 0]
    ∧ win2_2.index t = ![(grid2.coords t 0).val, (grid2.coords t 1).val] :=
  (by decide +kernel : ∀ t : Fin grid2.N, _)
theorem point2 (t : Fin cfg2.N) (y) : k2_pay1 (F := Ideal) (iblk2 V c 0 t) (iblk2 V c 1 t) y
    = timesT (V c main_arg10) (V c main_arg9) (((cfg2.win 2).blk t).view.emb y) := by
  pointwise [k2_pay1, timesT]
  blk_point [iblk2, idx2 t]
theorem whole_dm : (dat2 (F := Ideal) V c).arrAt 2 cfg2.N = timesT (V c main_arg10) (V c main_arg9) := by
  refine (dat2 (F := Ideal) V c).arrAt_eq_of_covers 2 _ (by decide +kernel) fun t _ y => ?_
  blk_simp
  rw [after2_2]; frame_out
  exact point2 V c t y

theorem idx3 : ∀ t : Fin cfg3.N, win3_0.index t = ![0, (grid3.coords t 0).val] ∧ win3_1.index t = ![0, (grid3.coords t 1).val]
    ∧ win3_2.index t = ![(grid3.coords t 0).val, (grid3.coords t 1).val] :=
  (by decide +kernel : ∀ t : Fin grid3.N, _)
theorem point3 (t : Fin cfg3.N) (y) : k3_pay1 (F := Ideal) (iblk3 V c 0 t) (iblk3 V c 1 t) y
    = Ttimes (V c main_v0) (V c main_arg10) (((cfg3.win 2).blk t).view.emb y) := by
  pointwise [k3_pay1, Ttimes]
  blk_point [iblk3, idx3 t]
theorem whole_dw : (dat3 (F := Ideal) V c).arrAt 2 cfg3.N = Ttimes (V c main_v0) (V c main_arg10) := by
  refine (dat3 (F := Ideal) V c).arrAt_eq_of_covers 2 _ (by decide +kernel) fun t _ y => ?_
  blk_simp
  rw [after3_2]; frame_out
  exact point3 V c t y

end Cert.Proof.Merge

end
-- ==== Proof.MergeRun.lean ====
/-
  THE MERGE'S AND THE OUTPUT PROJECTION'S RUN: the four calls one after another leave the projection of the merged
  branches and its two gradients. The product and the weights' gradient start from the merged branches the first call left.
-/
module

public import proofs.«01_k».proof.Proof.MergeValue

@[expose] public section

set_option maxRecDepth 16384

noncomputable section

namespace Cert.Proof.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MergeIdeal Cert.MergeIdeal.Gen

local notation "𝕄" => MT nD τ sig Unit (Elt Ideal) ℕ (UR sig nD τ) ℕ

variable (m : (ℓ : Loc nD τ sig) → Buf (Elt Ideal) ℓ) (ρ : Dev nD → PrngReg)

/-! ## What stands where as the calls go by -/

/-- The merged branches, of the arguments. -/
abbrev mix (c : Dev nD) : Mat 4096 1024 :=
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem mix1 (c : Dev nD) : W1 m ρ c (Proc.devRef .tc main_v0) = mix m c := (W1_arr m ρ c 12).trans (whole_merged (V0 m ρ) c)
theorem mix2 (c : Dev nD) : W2 m ρ c (Proc.devRef .tc main_v0) = mix m c :=
  (W2_of m ρ c main_v0 (by decide +kernel)).trans (mix1 m ρ c)
theorem mix3 (c : Dev nD) : W3 m ρ c (Proc.devRef .tc main_v0) = mix m c :=
  (W3_of m ρ c main_v0 (by decide +kernel)).trans (mix2 m ρ c)

/-! ## Where the results stand at the end -/

theorem end_o (c : Dev nD) : W4 m ρ c (Proc.devRef .tc main_v1) = times (mix m c) (m ((c : Thread nD τ).loc main_arg9)) := by
  refine (W4_of m ρ c main_v1 (by decide +kernel)).trans ((W3_of m ρ c main_v1 (by decide +kernel)).trans
    ((W2_arr m ρ c 2).trans ((whole_o (V1 m ρ) c).trans ?_)))
  rw [show V1 m ρ c main_arg9 = _ from W1_args m ρ c main_arg9 (by decide), show V1 m ρ c main_v0 = _ from mix1 m ρ c]
theorem end_dm (c : Dev nD) : W4 m ρ c (Proc.devRef .tc main_v2)
    = timesT (m ((c : Thread nD τ).loc main_arg10)) (m ((c : Thread nD τ).loc main_arg9)) := by
  refine (W4_of m ρ c main_v2 (by decide +kernel)).trans ((W3_arr m ρ c 2).trans ((whole_dm (V2 m ρ) c).trans ?_))
  rw [show V2 m ρ c main_arg9 = _ from W2_args m ρ c main_arg9 (by decide), show V2 m ρ c main_arg10 = _ from W2_args m ρ c main_arg10 (by decide)]
theorem end_dw (c : Dev nD) : W4 m ρ c (Proc.devRef .tc main_v3) = Ttimes (mix m c) (m ((c : Thread nD τ).loc main_arg10)) := by
  refine (W4_arr m ρ c 2).trans ((whole_dw (V3 m ρ) c).trans ?_)
  rw [show V3 m ρ c main_arg10 = _ from W3_args m ρ c main_arg10 (by decide), show V3 m ρ c main_v0 = _ from mix3 m ρ c]

/-! ## The launch -/

-- the launch theorem's implicit arguments are found by unifying its conclusion with this one
set_option backward.isDefEq.respectTransparency.types false in
/-- Every execution ends with every buffer of the program at its contents after the last call. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- THE RUN: the projection of the merged branches and its two gradients, the arguments as launched. -/
theorem run : θ_run defs (onTc (τ := τ) (main (F := Ideal))) ⟨m, fun _ => 0, ρ⟩ (fun r => ∀ c : Dev nD,
      r.2.mem ((c.tc : Thread nD τ).loc main_v1) = times (mix m c) (m ((c.tc : Thread nD τ).loc main_arg9))
      ∧ r.2.mem ((c.tc : Thread nD τ).loc main_v2) = timesT (m ((c.tc : Thread nD τ).loc main_arg10)) (m ((c.tc : Thread nD τ).loc main_arg9))
      ∧ r.2.mem ((c.tc : Thread nD τ).loc main_v3) = Ttimes (mix m c) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_v1 (by decide))).trans (end_o m ρ c), (h c _ (mem_uc main_v2 (by decide))).trans (end_dm m ρ c),
     (h c _ (mem_uc main_v3 (by decide))).trans (end_dw m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩)
    (ends m ρ)

end Cert.Proof.Merge

end
-- ==== Proof.MergeMeet.lean ====
/-
  THE MERGE'S AND THE OUTPUT PROJECTION'S CLAIM: the plain program's merged branches are `merged`, its projection and the
  two gradients are sums of `Products`, and the kernel's four calls leave those, so both end with the same results.
-/
module

public import proofs.«01_k».proof.Defs
public import proofs.«01_k».proof.Proof.MergeRun
public import proofs.«01_k».proof.Proof.Gen.MergeReferenceIdeal.Run
public import proofs.«01_k».proof.Proof.Gen.MergeReferenceIdeal.Read
public import Idealize.ShloMosaic.Lib.Quiescent

@[expose] public section

set_option maxRecDepth 16384

noncomputable section

namespace Cert.Proof.Merge

open Idealize.ShloMosaic Idealize.SL.Sem Cert.MergeReferenceIdeal Cert.MergeReferenceIdeal.Read

/-- The plain program runs and leaves its arguments; it has no semaphore. -/
theorem frame_reference : Cert.quiescent_MergeReferenceIdeal := fun m ρ _ =>
  (θ_run Cert.MergeReferenceIdeal.defs _ _).mono (fun r h => ⟨fun c => (h c).2.2.2, sem_eq_zero_of_no_sems (by decide) r.2⟩)
    (Cert.MergeReferenceIdeal.Value.run (F := Ideal) m ρ)

variable (y₀ y₁ y₂ y₃ y : Mat 4096 512) (w₀ w₁ w₂ w₃ w : Mat 512 1024) (p : Mat 4096 7424) (wo : Mat 1024 1024) (ct : Mat 4096 1024)

/-! ## The gates -/

theorem ref_gate₀ : val_main_v17 (F := Ideal) p = gate₀ p := funext fun i =>
  (logistic_lit (val_main_v8 (F := Ideal) p i)).trans (congrArg Ideal.logistic ((val_main_v8_apply (F := Ideal) p i).trans (at_ix2 p rfl rfl)))
theorem ref_gate₁ : val_main_v23 (F := Ideal) p = gate₁ p := funext fun i =>
  (logistic_lit (val_main_v9 (F := Ideal) p i)).trans (congrArg Ideal.logistic ((val_main_v9_apply (F := Ideal) p i).trans (at_ix2 p rfl rfl)))
theorem ref_gate₂ : val_main_v29 (F := Ideal) p = gate₂ p := funext fun i =>
  (logistic_lit (val_main_v10 (F := Ideal) p i)).trans (congrArg Ideal.logistic ((val_main_v10_apply (F := Ideal) p i).trans (at_ix2 p rfl rfl)))
theorem ref_gate₃ : val_main_v35 (F := Ideal) p = gate₃ p := funext fun i =>
  (logistic_lit (val_main_v11 (F := Ideal) p i)).trans (congrArg Ideal.logistic ((val_main_v11_apply (F := Ideal) p i).trans (at_ix2 p rfl rfl)))

/-! ## The branches, merged -/

/-- A branch carried up; the plain program writes the same product for each. -/
theorem ref_branch : val_main_v36 (F := Ideal) y w = times y w := by
  funext i
  rw [val_main_v36_apply]
  exact Finset.sum_congr rfl fun k _ => congrArg₂ (· * ·) (at_ix2 y rfl rfl) (at_ix2 w rfl rfl)
theorem ref_merged : val_main_v46 (F := Ideal) y₀ y₁ y₂ y₃ w₀ w₁ w₂ w₃ p = merged y₀ y₁ y₂ y₃ w₀ w₁ w₂ w₃ p := by
  funext i
  rw [val_main_v46_apply, val_main_v43_apply, val_main_v40_apply, val_main_v37_apply, val_main_v39_apply, val_main_v42_apply,
    val_main_v45_apply, ref_gate₀, ref_gate₁, ref_gate₂, ref_gate₃, ref_branch,
    show val_main_v38 (F := Ideal) y₁ w₁ = _ from ref_branch y₁ w₁, show val_main_v41 (F := Ideal) y₂ w₂ = _ from ref_branch y₂ w₂,
    show val_main_v44 (F := Ideal) y₃ w₃ = _ from ref_branch y₃ w₃]
  rfl

/-! ## The output projection -/

theorem ref_o : val_main_v48 (F := Ideal) y₀ y₁ y₂ y₃ w₀ w₁ w₂ w₃ p wo = times (merged y₀ y₁ y₂ y₃ w₀ w₁ w₂ w₃ p) wo := by
  funext i
  rw [val_main_v48_apply, ref_merged]
  exact Finset.sum_congr rfl fun k _ => congrArg₂ (· * ·) (at_ix2 (merged y₀ y₁ y₂ y₃ w₀ w₁ w₂ w₃ p) rfl rfl) (at_ix2 wo rfl rfl)
theorem ref_dm : val_main_v52 (F := Ideal) wo ct = timesT ct wo := by
  funext i
  rw [val_main_v52_apply]
  exact Finset.sum_congr rfl fun k _ => congrArg₂ (· * ·) (at_ix2 ct rfl rfl) (at_ix2 wo rfl rfl)
theorem ref_dw : val_main_v51 (F := Ideal) y₀ y₁ y₂ y₃ w₀ w₁ w₂ w₃ p ct = Ttimes (merged y₀ y₁ y₂ y₃ w₀ w₁ w₂ w₃ p) ct := by
  funext i
  rw [val_main_v51_apply, val_main_v50_apply, ref_merged]
  exact Finset.sum_congr rfl fun k _ => (mul_comm _ _).trans
    (congrArg₂ (· * ·) (at_ix2 (merged y₀ y₁ y₂ y₃ w₀ w₁ w₂ w₃ p) rfl rfl) (at_ix2 ct rfl rfl))

/-- The projection of the merged branches and its two gradients are the plain program's. -/
theorem products : Cert.algebraic_MergeIdeal_MergeReferenceIdeal := by
  intro m ρ m' ρ' _ args
  have e0 (c) := (args c).1
  have e1 (c) := (args c).2.1
  have e2 (c) := (args c).2.2.1
  have e3 (c) := (args c).2.2.2.1
  have e4 (c) := (args c).2.2.2.2.1
  have e5 (c) := (args c).2.2.2.2.2.1
  have e6 (c) := (args c).2.2.2.2.2.2.1
  have e7 (c) := (args c).2.2.2.2.2.2.2.1
  have e8 (c) := (args c).2.2.2.2.2.2.2.2.1
  have e9 (c) := (args c).2.2.2.2.2.2.2.2.2.1
  have e10 (c) := (args c).2.2.2.2.2.2.2.2.2.2
  have e (c) := congr (congr (congr (congr (congr (congr (congr (congr (congrArg merged (e0 c)) (e1 c)) (e2 c)) (e3 c)) (e4 c)) (e5 c)) (e6 c))
    (e7 c)) (e8 c)
  refine ⟨_, _, _, run m ρ, ?_⟩
  refine (θ_run Cert.MergeReferenceIdeal.defs _ _).mono (fun r h c => ⟨(h c).1.trans ?_, (h c).2.1.trans ?_, (h c).2.2.1.trans ?_,
    (h c).2.2.2⟩) (Cert.MergeReferenceIdeal.Value.run (F := Ideal) m' ρ')
  · refine (val_main_v48_eq _ _ _ _ _ _ _ _ _ _).trans ((ref_o _ _ _ _ _ _ _ _ _ _).trans ?_)
    exact congrArg₂ times (e c) (e9 c)
  · refine (val_main_v52_eq _ _).trans ((ref_dm _ _).trans ?_)
    exact congrArg₂ timesT (e10 c) (e9 c)
  · refine (val_main_v51_eq _ _ _ _ _ _ _ _ _ _).trans ((ref_dw _ _ _ _ _ _ _ _ _ _).trans ?_)
    exact congrArg₂ Ttimes (e c) (e10 c)

end Cert.Proof.Merge

end
-- ==== Proof.BranchesValue.lean ====
/-
  THE NINE CALLS BACK THROUGH THE MERGE, one by one: whatever the arrays are when a call is entered, the first one leaves
  for each branch the gradient of its gate's logits and the cotangent carried through its gate, and each of the others
  leaves a whole product: a branch's gradient, or its weights'.
-/
module

public import proofs.«01_k».proof.Proof.Gen.BranchesIdeal.Frame
public import proofs.«01_k».proof.Proof.MergeMath
public import Idealize.ShloMosaic.Lib.Pipeline.ValueKit

@[expose] public section

set_option maxRecDepth 16384

noncomputable section

namespace Cert.Proof.Branches

open Idealize.ShloMosaic Idealize.SL.Sem Cert.BranchesIdeal Cert.BranchesIdeal.Gen Idealize.ShloMosaic.TcCoe

variable (V : (c : Dev nD) → (b : Ref sig .tc) → Buf (Elt Ideal) ((c : Thread nD τ).loc b)) (c : Dev nD)

/-! ## Back through the gates -/

theorem idx0 : ∀ t : Fin cfg0.N, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![0, (grid0.coords t 1).val] ∧ win0_5.index t = ![0, (grid0.coords t 1).val]
    ∧ win0_6.index t = ![0, (grid0.coords t 1).val] ∧ win0_7.index t = ![0, (grid0.coords t 1).val]
    ∧ win0_8.index t = ![(grid0.coords t 0).val, 13 + (grid0.coords t 1).val] ∧ win0_9.index t = ![(grid0.coords t 0).val, 17 + (grid0.coords t 1).val]
    ∧ win0_10.index t = ![(grid0.coords t 0).val, 21 + (grid0.coords t 1).val] ∧ win0_11.index t = ![(grid0.coords t 0).val, 25 + (grid0.coords t 1).val]
    ∧ win0_12.index t = ![(grid0.coords t 0).val, (grid0.coords t 1).val] :=
  (by decide +kernel : ∀ t : Fin grid0.N, _)
theorem idx0_out : ∀ t : Fin cfg0.N, win0_13.index t = ![(grid0.coords t 0).val, (grid0.coords t 1).val] ∧ win0_14.index t = ![(grid0.coords t 0).val, (grid0.coords t 1).val]
    ∧ win0_15.index t = ![(grid0.coords t 0).val, (grid0.coords t 1).val] ∧ win0_16.index t = ![(grid0.coords t 0).val, (grid0.coords t 1).val]
    ∧ win0_17.index t = ![(grid0.coords t 0).val, (grid0.coords t 1).val] ∧ win0_18.index t = ![(grid0.coords t 0).val, (grid0.coords t 1).val]
    ∧ win0_19.index t = ![(grid0.coords t 0).val, (grid0.coords t 1).val] ∧ win0_20.index t = ![(grid0.coords t 0).val, (grid0.coords t 1).val] :=
  (by decide +kernel : ∀ t : Fin grid0.N, _)

theorem logits_point₀ (t : Fin cfg0.N) (y) : k0_pay2 (F := Ideal) (iblk0 V c 12 t) (iblk0 V c 8 t) (iblk0 V c 0 t) (iblk0 V c 4 t) y
    = gateGrad (V c main_arg9) (times (V c main_arg0) (V c main_arg4)) (gate₀ (V c main_arg8)) (((cfg0.win 13).blk t).view.emb y) := by
  pointwise [k0_pay2, k0_pay1, gateGrad, gate, times]
  blk_point [iblk0, idx0 t, idx0_out t]
theorem whole_logits₀ : (dat0 (F := Ideal) V c).arrAt 13 cfg0.N
    = gateGrad (V c main_arg9) (times (V c main_arg0) (V c main_arg4)) (gate₀ (V c main_arg8)) := by
  refine (dat0 (F := Ideal) V c).arrAt_eq_of_covers 13 _ (by decide +kernel) fun t _ y => ?_
  blk_simp
  rw [after0_13]; frame_out
  exact logits_point₀ V c t y
theorem logits_point₁ (t : Fin cfg0.N) (y) : k0_pay5 (F := Ideal) (iblk0 V c 12 t) (iblk0 V c 9 t) (iblk0 V c 1 t) (iblk0 V c 5 t) y
    = gateGrad (V c main_arg9) (times (V c main_arg1) (V c main_arg5)) (gate₁ (V c main_arg8)) (((cfg0.win 14).blk t).view.emb y) := by
  pointwise [k0_pay5, k0_pay4, gateGrad, gate, times]
  blk_point [iblk0, idx0 t, idx0_out t]
theorem whole_logits₁ : (dat0 (F := Ideal) V c).arrAt 14 cfg0.N
    = gateGrad (V c main_arg9) (times (V c main_arg1) (V c main_arg5)) (gate₁ (V c main_arg8)) := by
  refine (dat0 (F := Ideal) V c).arrAt_eq_of_covers 14 _ (by decide +kernel) fun t _ y => ?_
  blk_simp
  rw [after0_14]; frame_out
  exact logits_point₁ V c t y
theorem logits_point₂ (t : Fin cfg0.N) (y) : k0_pay8 (F := Ideal) (iblk0 V c 12 t) (iblk0 V c 10 t) (iblk0 V c 2 t) (iblk0 V c 6 t) y
    = gateGrad (V c main_arg9) (times (V c main_arg2) (V c main_arg6)) (gate₂ (V c main_arg8)) (((cfg0.win 15).blk t).view.emb y) := by
  pointwise [k0_pay8, k0_pay7, gateGrad, gate, times]
  blk_point [iblk0, idx0 t, idx0_out t]
theorem whole_logits₂ : (dat0 (F := Ideal) V c).arrAt 15 cfg0.N
    = gateGrad (V c main_arg9) (times (V c main_arg2) (V c main_arg6)) (gate₂ (V c main_arg8)) := by
  refine (dat0 (F := Ideal) V c).arrAt_eq_of_covers 15 _ (by decide +kernel) fun t _ y => ?_
  blk_simp
  rw [after0_15]; frame_out
  exact logits_point₂ V c t y
theorem logits_point₃ (t : Fin cfg0.N) (y) : k0_pay11 (F := Ideal) (iblk0 V c 12 t) (iblk0 V c 11 t) (iblk0 V c 3 t) (iblk0 V c 7 t) y
    = gateGrad (V c main_arg9) (times (V c main_arg3) (V c main_arg7)) (gate₃ (V c main_arg8)) (((cfg0.win 16).blk t).view.emb y) := by
  pointwise [k0_pay11, k0_pay10, gateGrad, gate, times]
  blk_point [iblk0, idx0 t, idx0_out t]
theorem whole_logits₃ : (dat0 (F := Ideal) V c).arrAt 16 cfg0.N
    = gateGrad (V c main_arg9) (times (V c main_arg3) (V c main_arg7)) (gate₃ (V c main_arg8)) := by
  refine (dat0 (F := Ideal) V c).arrAt_eq_of_covers 16 _ (by decide +kernel) fun t _ y => ?_
  blk_simp
  rw [after0_16]; frame_out
  exact logits_point₃ V c t y
theorem through_point₀ (t : Fin cfg0.N) (y) : k0_pay3 (F := Ideal) (iblk0 V c 12 t) (iblk0 V c 8 t) y
    = through (V c main_arg9) (gate₀ (V c main_arg8)) (((cfg0.win 17).blk t).view.emb y) := by
  pointwise [k0_pay3, k0_pay1, through, gate]
  blk_point [iblk0, idx0 t, idx0_out t]
theorem whole_through₀ : (dat0 (F := Ideal) V c).arrAt 17 cfg0.N = through (V c main_arg9) (gate₀ (V c main_arg8)) := by
  refine (dat0 (F := Ideal) V c).arrAt_eq_of_covers 17 _ (by decide +kernel) fun t _ y => ?_
  blk_simp
  rw [after0_17]; frame_out
  exact through_point₀ V c t y
theorem through_point₁ (t : Fin cfg0.N) (y) : k0_pay6 (F := Ideal) (iblk0 V c 12 t) (iblk0 V c 9 t) y
    = through (V c main_arg9) (gate₁ (V c main_arg8)) (((cfg0.win 18).blk t).view.emb y) := by
  pointwise [k0_pay6, k0_pay4, through, gate]
  blk_point [iblk0, idx0 t, idx0_out t]
theorem whole_through₁ : (dat0 (F := Ideal) V c).arrAt 18 cfg0.N = through (V c main_arg9) (gate₁ (V c main_arg8)) := by
  refine (dat0 (F := Ideal) V c).arrAt_eq_of_covers 18 _ (by decide +kernel) fun t _ y => ?_
  blk_simp
  rw [after0_18]; frame_out
  exact through_point₁ V c t y
theorem through_point₂ (t : Fin cfg0.N) (y) : k0_pay9 (F := Ideal) (iblk0 V c 12 t) (iblk0 V c 10 t) y
    = through (V c main_arg9) (gate₂ (V c main_arg8)) (((cfg0.win 19).blk t).view.emb y) := by
  pointwise [k0_pay9, k0_pay7, through, gate]
  blk_point [iblk0, idx0 t, idx0_out t]
theorem whole_through₂ : (dat0 (F := Ideal) V c).arrAt 19 cfg0.N = through (V c main_arg9) (gate₂ (V c main_arg8)) := by
  refine (dat0 (F := Ideal) V c).arrAt_eq_of_covers 19 _ (by decide +kernel) fun t _ y => ?_
  blk_simp
  rw [after0_19]; frame_out
  exact through_point₂ V c t y
theorem through_point₃ (t : Fin cfg0.N) (y) : k0_pay12 (F := Ideal) (iblk0 V c 12 t) (iblk0 V c 11 t) y
    = through (V c main_arg9) (gate₃ (V c main_arg8)) (((cfg0.win 20).blk t).view.emb y) := by
  pointwise [k0_pay12, k0_pay10, through, gate]
  blk_point [iblk0, idx0 t, idx0_out t]
theorem whole_through₃ : (dat0 (F := Ideal) V c).arrAt 20 cfg0.N = through (V c main_arg9) (gate₃ (V c main_arg8)) := by
  refine (dat0 (F := Ideal) V c).arrAt_eq_of_covers 20 _ (by decide +kernel) fun t _ y => ?_
  blk_simp
  rw [after0_20]; frame_out
  exact through_point₃ V c t y

/-! ## The branches' gradients -/

theorem idx1 : ∀ t : Fin cfg1.N, win1_0.index t = ![(grid1.coords t 0).val, 0] ∧ win1_1.index t = ![(grid1.coords t 1).val, 0]
    ∧ win1_2.index t = ![(grid1.coords t 0).val, (grid1.coords t 1).val] :=
  (by decide +kernel : ∀ t : Fin grid1.N, _)
theorem point1 (t : Fin cfg1.N) (y) : k1_pay1 (F := Ideal) (iblk1 V c 0 t) (iblk1 V c 1 t) y
    = timesT (V c main_v0_4) (V c main_arg4) (((cfg1.win 2).blk t).view.emb y) := by
  pointwise [k1_pay1, timesT]
  blk_point [iblk1, idx1 t]
theorem whole_dy₀ : (dat1 (F := Ideal) V c).arrAt 2 cfg1.N = timesT (V c main_v0_4) (V c main_arg4) := by
  refine (dat1 (F := Ideal) V c).arrAt_eq_of_covers 2 _ (by decide +kernel) fun t _ y => ?_
  blk_simp
  rw [after1_2]; frame_out
  exact point1 V c t y

theorem idx2 : ∀ t : Fin cfg2.N, win2_0.index t = ![(grid2.coords t 0).val, 0] ∧ win2_1.index t = ![(grid2.coords t 1).val, 0]
    ∧ win2_2.index t = ![(grid2.coords t 0).val, (grid2.coords t 1).val] :=
  (by decide +kernel : ∀ t : Fin grid2.N, _)
theorem point2 (t : Fin cfg2.N) (y) : k2_pay1 (F := Ideal) (iblk2 V c 0 t) (iblk2 V c 1 t) y
    = timesT (V c main_v0_5) (V c main_arg5) (((cfg2.win 2).blk t).view.emb y) := by
  pointwise [k2_pay1, timesT]
  blk_point [iblk2, idx2 t]
theorem whole_dy₁ : (dat2 (F := Ideal) V c).arrAt 2 cfg2.N = timesT (V c main_v0_5) (V c main_arg5) := by
  refine (dat2 (F := Ideal) V c).arrAt_eq_of_covers 2 _ (by decide +kernel) fun t _ y => ?_
  blk_simp
  rw [after2_2]; frame_out
  exact point2 V c t y

theorem idx3 : ∀ t : Fin cfg3.N, win3_0.index t = ![(grid3.coords t 0).val, 0] ∧ win3_1.index t = ![(grid3.coords t 1).val, 0]
    ∧ win3_2.index t = ![(grid3.coords t 0).val, (grid3.coords t 1).val] :=
  (by decide +kernel : ∀ t : Fin grid3.N, _)
theorem point3 (t : Fin cfg3.N) (y) : k3_pay1 (F := Ideal) (iblk3 V c 0 t) (iblk3 V c 1 t) y
    = timesT (V c main_v0_6) (V c main_arg6) (((cfg3.win 2).blk t).view.emb y) := by
  pointwise [k3_pay1, timesT]
  blk_point [iblk3, idx3 t]
theorem whole_dy₂ : (dat3 (F := Ideal) V c).arrAt 2 cfg3.N = timesT (V c main_v0_6) (V c main_arg6) := by
  refine (dat3 (F := Ideal) V c).arrAt_eq_of_covers 2 _ (by decide +kernel) fun t _ y => ?_
  blk_simp
  rw [after3_2]; frame_out
  exact point3 V c t y

theorem idx4 : ∀ t : Fin cfg4.N, win4_0.index t = ![(grid4.coords t 0).val, 0] ∧ win4_1.index t = ![(grid4.coords t 1).val, 0]
    ∧ win4_2.index t = ![(grid4.coords t 0).val, (grid4.coords t 1).val] :=
  (by decide +kernel : ∀ t : Fin grid4.N, _)
theorem point4 (t : Fin cfg4.N) (y) : k4_pay1 (F := Ideal) (iblk4 V c 0 t) (iblk4 V c 1 t) y
    = timesT (V c main_v0_7) (V c main_arg7) (((cfg4.win 2).blk t).view.emb y) := by
  pointwise [k4_pay1, timesT]
  blk_point [iblk4, idx4 t]
theorem whole_dy₃ : (dat4 (F := Ideal) V c).arrAt 2 cfg4.N = timesT (V c main_v0_7) (V c main_arg7) := by
  refine (dat4 (F := Ideal) V c).arrAt_eq_of_covers 2 _ (by decide +kernel) fun t _ y => ?_
  blk_simp
  rw [after4_2]; frame_out
  exact point4 V c t y

/-! ## The gradients of the branches' weights -/

theorem idx5 : ∀ t : Fin cfg5.N, win5_0.index t = ![0, (grid5.coords t 0).val] ∧ win5_1.index t = ![0, (grid5.coords t 1).val]
    ∧ win5_2.index t = ![(grid5.coords t 0).val, (grid5.coords t 1).val] :=
  (by decide +kernel : ∀ t : Fin grid5.N, _)
theorem point5 (t : Fin cfg5.N) (y) : k5_pay1 (F := Ideal) (iblk5 V c 0 t) (iblk5 V c 1 t) y
    = Ttimes (V c main_arg0) (V c main_v0_4) (((cfg5.win 2).blk t).view.emb y) := by
  pointwise [k5_pay1, Ttimes]
  blk_point [iblk5, idx5 t]
theorem whole_dw₀ : (dat5 (F := Ideal) V c).arrAt 2 cfg5.N = Ttimes (V c main_arg0) (V c main_v0_4) := by
  refine (dat5 (F := Ideal) V c).arrAt_eq_of_covers 2 _ (by decide +kernel) fun t _ y => ?_
  blk_simp
  rw [after5_2]; frame_out
  exact point5 V c t y

theorem idx6 : ∀ t : Fin cfg6.N, win6_0.index t = ![0, (grid6.coords t 0).val] ∧ win6_1.index t = ![0, (grid6.coords t 1).val]
    ∧ win6_2.index t = ![(grid6.coords t 0).val, (grid6.coords t 1).val] :=
  (by decide +kernel : ∀ t : Fin grid6.N, _)
theorem point6 (t : Fin cfg6.N) (y) : k6_pay1 (F := Ideal) (iblk6 V c 0 t) (iblk6 V c 1 t) y
    = Ttimes (V c main_arg1) (V c main_v0_5) (((cfg6.win 2).blk t).view.emb y) := by
  pointwise [k6_pay1, Ttimes]
  blk_point [iblk6, idx6 t]
theorem whole_dw₁ : (dat6 (F := Ideal) V c).arrAt 2 cfg6.N = Ttimes (V c main_arg1) (V c main_v0_5) := by
  refine (dat6 (F := Ideal) V c).arrAt_eq_of_covers 2 _ (by decide +kernel) fun t _ y => ?_
  blk_simp
  rw [after6_2]; frame_out
  exact point6 V c t y

theorem idx7 : ∀ t : Fin cfg7.N, win7_0.index t = ![0, (grid7.coords t 0).val] ∧ win7_1.index t = ![0, (grid7.coords t 1).val]
    ∧ win7_2.index t = ![(grid7.coords t 0).val, (grid7.coords t 1).val] :=
  (by decide +kernel : ∀ t : Fin grid7.N, _)
theorem point7 (t : Fin cfg7.N) (y) : k7_pay1 (F := Ideal) (iblk7 V c 0 t) (iblk7 V c 1 t) y
    = Ttimes (V c main_arg2) (V c main_v0_6) (((cfg7.win 2).blk t).view.emb y) := by
  pointwise [k7_pay1, Ttimes]
  blk_point [iblk7, idx7 t]
theorem whole_dw₂ : (dat7 (F := Ideal) V c).arrAt 2 cfg7.N = Ttimes (V c main_arg2) (V c main_v0_6) := by
  refine (dat7 (F := Ideal) V c).arrAt_eq_of_covers 2 _ (by decide +kernel) fun t _ y => ?_
  blk_simp
  rw [after7_2]; frame_out
  exact point7 V c t y

theorem idx8 : ∀ t : Fin cfg8.N, win8_0.index t = ![0, (grid8.coords t 0).val] ∧ win8_1.index t = ![0, (grid8.coords t 1).val]
    ∧ win8_2.index t = ![(grid8.coords t 0).val, (grid8.coords t 1).val] :=
  (by decide +kernel : ∀ t : Fin grid8.N, _)
theorem point8 (t : Fin cfg8.N) (y) : k8_pay1 (F := Ideal) (iblk8 V c 0 t) (iblk8 V c 1 t) y
    = Ttimes (V c main_arg3) (V c main_v0_7) (((cfg8.win 2).blk t).view.emb y) := by
  pointwise [k8_pay1, Ttimes]
  blk_point [iblk8, idx8 t]
theorem whole_dw₃ : (dat8 (F := Ideal) V c).arrAt 2 cfg8.N = Ttimes (V c main_arg3) (V c main_v0_7) := by
  refine (dat8 (F := Ideal) V c).arrAt_eq_of_covers 2 _ (by decide +kernel) fun t _ y => ?_
  blk_simp
  rw [after8_2]; frame_out
  exact point8 V c t y

end Cert.Proof.Branches

end
-- ==== Proof.BranchesRun.lean ====
/-
  THE RUN BACK THROUGH THE MERGE: the nine calls one after another leave the gradients of the four branches, of their
  weights and of their gates' logits. Each product starts from the cotangent the first call carried through its gate.
-/
module

public import proofs.«01_k».proof.Proof.BranchesValue

@[expose] public section

set_option maxRecDepth 16384

noncomputable section

namespace Cert.Proof.Branches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.BranchesIdeal Cert.BranchesIdeal.Gen

local notation "𝕄" => MT nD τ sig Unit (Elt Ideal) ℕ (UR sig nD τ) ℕ

variable (m : (ℓ : Loc nD τ sig) → Buf (Elt Ideal) ℓ) (ρ : Dev nD → PrngReg)

/-! ## What stands where as the calls go by -/

/-- What the first call leaves. -/
abbrev firsts : List (Ref sig .tc) := [main_v0_0, main_v0_1, main_v0_2, main_v0_3, main_v0_4, main_v0_5, main_v0_6, main_v0_7]
/-- What the first call and the products before a given one leave. -/
abbrev before2 : List (Ref sig .tc) := main_v1 :: firsts
abbrev before3 : List (Ref sig .tc) := main_v2 :: before2
abbrev before4 : List (Ref sig .tc) := main_v3 :: before3
abbrev before5 : List (Ref sig .tc) := main_v4 :: before4
abbrev before6 : List (Ref sig .tc) := main_v5 :: before5
abbrev before7 : List (Ref sig .tc) := main_v6 :: before6
abbrev before8 : List (Ref sig .tc) := main_v7 :: before7

/-! A product leaves everything that was left before it. -/

theorem step2 (c : Dev nD) : ∀ a ∈ firsts, W2 m ρ c (Proc.devRef .tc a) = W1 m ρ c (Proc.devRef .tc a) :=
  fun a ha => W2_of m ρ c a ((ListAll.forall_mem_of_all_decide (by decide +kernel) :
    ∀ a ∈ firsts, ∀ w : Fin cfg1.W, Pipeline.arrRef spec1 w = a → (cfg1.win w).isOut = false) a ha)
theorem step3 (c : Dev nD) : ∀ a ∈ before2, W3 m ρ c (Proc.devRef .tc a) = W2 m ρ c (Proc.devRef .tc a) :=
  fun a ha => W3_of m ρ c a ((ListAll.forall_mem_of_all_decide (by decide +kernel) :
    ∀ a ∈ before2, ∀ w : Fin cfg2.W, Pipeline.arrRef spec2 w = a → (cfg2.win w).isOut = false) a ha)
theorem step4 (c : Dev nD) : ∀ a ∈ before3, W4 m ρ c (Proc.devRef .tc a) = W3 m ρ c (Proc.devRef .tc a) :=
  fun a ha => W4_of m ρ c a ((ListAll.forall_mem_of_all_decide (by decide +kernel) :
    ∀ a ∈ before3, ∀ w : Fin cfg3.W, Pipeline.arrRef spec3 w = a → (cfg3.win w).isOut = false) a ha)
theorem step5 (c : Dev nD) : ∀ a ∈ before4, W5 m ρ c (Proc.devRef .tc a) = W4 m ρ c (Proc.devRef .tc a) :=
  fun a ha => W5_of m ρ c a ((ListAll.forall_mem_of_all_decide (by decide +kernel) :
    ∀ a ∈ before4, ∀ w : Fin cfg4.W, Pipeline.arrRef spec4 w = a → (cfg4.win w).isOut = false) a ha)
theorem step6 (c : Dev nD) : ∀ a ∈ before5, W6 m ρ c (Proc.devRef .tc a) = W5 m ρ c (Proc.devRef .tc a) :=
  fun a ha => W6_of m ρ c a ((ListAll.forall_mem_of_all_decide (by decide +kernel) :
    ∀ a ∈ before5, ∀ w : Fin cfg5.W, Pipeline.arrRef spec5 w = a → (cfg5.win w).isOut = false) a ha)
theorem step7 (c : Dev nD) : ∀ a ∈ before6, W7 m ρ c (Proc.devRef .tc a) = W6 m ρ c (Proc.devRef .tc a) :=
  fun a ha => W7_of m ρ c a ((ListAll.forall_mem_of_all_decide (by decide +kernel) :
    ∀ a ∈ before6, ∀ w : Fin cfg6.W, Pipeline.arrRef spec6 w = a → (cfg6.win w).isOut = false) a ha)
theorem step8 (c : Dev nD) : ∀ a ∈ before7, W8 m ρ c (Proc.devRef .tc a) = W7 m ρ c (Proc.devRef .tc a) :=
  fun a ha => W8_of m ρ c a ((ListAll.forall_mem_of_all_decide (by decide +kernel) :
    ∀ a ∈ before7, ∀ w : Fin cfg7.W, Pipeline.arrRef spec7 w = a → (cfg7.win w).isOut = false) a ha)
theorem step9 (c : Dev nD) : ∀ a ∈ before8, W9 m ρ c (Proc.devRef .tc a) = W8 m ρ c (Proc.devRef .tc a) :=
  fun a ha => W9_of m ρ c a ((ListAll.forall_mem_of_all_decide (by decide +kernel) :
    ∀ a ∈ before8, ∀ w : Fin cfg8.W, Pipeline.arrRef spec8 w = a → (cfg8.win w).isOut = false) a ha)

/-! So what the first call left stands at every later one, -/

theorem since3 (c : Dev nD) (a) (ha : a ∈ firsts) : W3 m ρ c (Proc.devRef .tc a) = W1 m ρ c (Proc.devRef .tc a) :=
  (step3 m ρ c a (.tail _ ha)).trans (step2 m ρ c a ha)
theorem since4 (c : Dev nD) (a) (ha : a ∈ firsts) : W4 m ρ c (Proc.devRef .tc a) = W1 m ρ c (Proc.devRef .tc a) :=
  (step4 m ρ c a (.tail _ (.tail _ ha))).trans (since3 m ρ c a ha)
theorem since5 (c : Dev nD) (a) (ha : a ∈ firsts) : W5 m ρ c (Proc.devRef .tc a) = W1 m ρ c (Proc.devRef .tc a) :=
  (step5 m ρ c a (.tail _ (.tail _ (.tail _ ha)))).trans (since4 m ρ c a ha)
theorem since6 (c : Dev nD) (a) (ha : a ∈ firsts) : W6 m ρ c (Proc.devRef .tc a) = W1 m ρ c (Proc.devRef .tc a) :=
  (step6 m ρ c a (.tail _ (.tail _ (.tail _ (.tail _ ha))))).trans (since5 m ρ c a ha)
theorem since7 (c : Dev nD) (a) (ha : a ∈ firsts) : W7 m ρ c (Proc.devRef .tc a) = W1 m ρ c (Proc.devRef .tc a) :=
  (step7 m ρ c a (.tail _ (.tail _ (.tail _ (.tail _ (.tail _ ha)))))).trans (since6 m ρ c a ha)
theorem since8 (c : Dev nD) (a) (ha : a ∈ firsts) : W8 m ρ c (Proc.devRef .tc a) = W1 m ρ c (Proc.devRef .tc a) :=
  (step8 m ρ c a (.tail _ (.tail _ (.tail _ (.tail _ (.tail _ (.tail _ ha))))))).trans (since7 m ρ c a ha)
theorem since9 (c : Dev nD) (a) (ha : a ∈ firsts) : W9 m ρ c (Proc.devRef .tc a) = W1 m ρ c (Proc.devRef .tc a) :=
  (step9 m ρ c a (.tail _ (.tail _ (.tail _ (.tail _ (.tail _ (.tail _ (.tail _ ha)))))))).trans (since8 m ρ c a ha)

/-! and what a product left stands at the end. -/

theorem until8 (c : Dev nD) (a) (ha : a ∈ before8) : W9 m ρ c (Proc.devRef .tc a) = W8 m ρ c (Proc.devRef .tc a) := step9 m ρ c a ha
theorem until7 (c : Dev nD) (a) (ha : a ∈ before7) : W9 m ρ c (Proc.devRef .tc a) = W7 m ρ c (Proc.devRef .tc a) :=
  (until8 m ρ c a (.tail _ ha)).trans (step8 m ρ c a ha)
theorem until6 (c : Dev nD) (a) (ha : a ∈ before6) : W9 m ρ c (Proc.devRef .tc a) = W6 m ρ c (Proc.devRef .tc a) :=
  (until7 m ρ c a (.tail _ ha)).trans (step7 m ρ c a ha)
theorem until5 (c : Dev nD) (a) (ha : a ∈ before5) : W9 m ρ c (Proc.devRef .tc a) = W5 m ρ c (Proc.devRef .tc a) :=
  (until6 m ρ c a (.tail _ ha)).trans (step6 m ρ c a ha)
theorem until4 (c : Dev nD) (a) (ha : a ∈ before4) : W9 m ρ c (Proc.devRef .tc a) = W4 m ρ c (Proc.devRef .tc a) :=
  (until5 m ρ c a (.tail _ ha)).trans (step5 m ρ c a ha)
theorem until3 (c : Dev nD) (a) (ha : a ∈ before3) : W9 m ρ c (Proc.devRef .tc a) = W3 m ρ c (Proc.devRef .tc a) :=
  (until4 m ρ c a (.tail _ ha)).trans (step4 m ρ c a ha)
theorem until2 (c : Dev nD) (a) (ha : a ∈ before2) : W9 m ρ c (Proc.devRef .tc a) = W2 m ρ c (Proc.devRef .tc a) :=
  (until3 m ρ c a (.tail _ ha)).trans (step3 m ρ c a ha)

/-! ## What the first call leaves -/

/-- The cotangent carried through each gate. -/
abbrev back₀ (c : Dev nD) : Mat 4096 1024 := through (m ((c : Thread nD τ).loc main_arg9)) (gate₀ (m ((c : Thread nD τ).loc main_arg8)))
abbrev back₁ (c : Dev nD) : Mat 4096 1024 := through (m ((c : Thread nD τ).loc main_arg9)) (gate₁ (m ((c : Thread nD τ).loc main_arg8)))
abbrev back₂ (c : Dev nD) : Mat 4096 1024 := through (m ((c : Thread nD τ).loc main_arg9)) (gate₂ (m ((c : Thread nD τ).loc main_arg8)))
abbrev back₃ (c : Dev nD) : Mat 4096 1024 := through (m ((c : Thread nD τ).loc main_arg9)) (gate₃ (m ((c : Thread nD τ).loc main_arg8)))
theorem back₀1 (c : Dev nD) : W1 m ρ c (Proc.devRef .tc main_v0_4) = back₀ m c := (W1_arr m ρ c 17).trans (whole_through₀ (V0 m ρ) c)
theorem back₁1 (c : Dev nD) : W1 m ρ c (Proc.devRef .tc main_v0_5) = back₁ m c := (W1_arr m ρ c 18).trans (whole_through₁ (V0 m ρ) c)
theorem back₂1 (c : Dev nD) : W1 m ρ c (Proc.devRef .tc main_v0_6) = back₂ m c := (W1_arr m ρ c 19).trans (whole_through₂ (V0 m ρ) c)
theorem back₃1 (c : Dev nD) : W1 m ρ c (Proc.devRef .tc main_v0_7) = back₃ m c := (W1_arr m ρ c 20).trans (whole_through₃ (V0 m ρ) c)

/-! ## Where the results stand at the end -/

theorem end_logits₀ (c : Dev nD) : W9 m ρ c (Proc.devRef .tc main_v0_0) = gateGrad (m ((c : Thread nD τ).loc main_arg9))
    (times (m ((c : Thread nD τ).loc main_arg0)) (m ((c : Thread nD τ).loc main_arg4))) (gate₀ (m ((c : Thread nD τ).loc main_arg8))) :=
  (since9 m ρ c main_v0_0 (by decide)).trans ((W1_arr m ρ c 13).trans (whole_logits₀ (V0 m ρ) c))
theorem end_logits₁ (c : Dev nD) : W9 m ρ c (Proc.devRef .tc main_v0_1) = gateGrad (m ((c : Thread nD τ).loc main_arg9))
    (times (m ((c : Thread nD τ).loc main_arg1)) (m ((c : Thread nD τ).loc main_arg5))) (gate₁ (m ((c : Thread nD τ).loc main_arg8))) :=
  (since9 m ρ c main_v0_1 (by decide)).trans ((W1_arr m ρ c 14).trans (whole_logits₁ (V0 m ρ) c))
theorem end_logits₂ (c : Dev nD) : W9 m ρ c (Proc.devRef .tc main_v0_2) = gateGrad (m ((c : Thread nD τ).loc main_arg9))
    (times (m ((c : Thread nD τ).loc main_arg2)) (m ((c : Thread nD τ).loc main_arg6))) (gate₂ (m ((c : Thread nD τ).loc main_arg8))) :=
  (since9 m ρ c main_v0_2 (by decide)).trans ((W1_arr m ρ c 15).trans (whole_logits₂ (V0 m ρ) c))
theorem end_logits₃ (c : Dev nD) : W9 m ρ c (Proc.devRef .tc main_v0_3) = gateGrad (m ((c : Thread nD τ).loc main_arg9))
    (times (m ((c : Thread nD τ).loc main_arg3)) (m ((c : Thread nD τ).loc main_arg7))) (gate₃ (m ((c : Thread nD τ).loc main_arg8))) :=
  (since9 m ρ c main_v0_3 (by decide)).trans ((W1_arr m ρ c 16).trans (whole_logits₃ (V0 m ρ) c))
theorem end_dy₀ (c : Dev nD) : W9 m ρ c (Proc.devRef .tc main_v1) = timesT (back₀ m c) (m ((c : Thread nD τ).loc main_arg4)) := by
  refine (until2 m ρ c main_v1 (by decide)).trans ((W2_arr m ρ c 2).trans ((whole_dy₀ (V1 m ρ) c).trans ?_))
  rw [show V1 m ρ c main_arg4 = _ from W1_args m ρ c main_arg4 (by decide),
    show V1 m ρ c main_v0_4 = _ from back₀1 m ρ c]
theorem end_dy₁ (c : Dev nD) : W9 m ρ c (Proc.devRef .tc main_v2) = timesT (back₁ m c) (m ((c : Thread nD τ).loc main_arg5)) := by
  refine (until3 m ρ c main_v2 (by decide)).trans ((W3_arr m ρ c 2).trans ((whole_dy₁ (V2 m ρ) c).trans ?_))
  rw [show V2 m ρ c main_arg5 = _ from W2_args m ρ c main_arg5 (by decide),
    show V2 m ρ c main_v0_5 = _ from (step2 m ρ c main_v0_5 (by decide)).trans (back₁1 m ρ c)]
theorem end_dy₂ (c : Dev nD) : W9 m ρ c (Proc.devRef .tc main_v3) = timesT (back₂ m c) (m ((c : Thread nD τ).loc main_arg6)) := by
  refine (until4 m ρ c main_v3 (by decide)).trans ((W4_arr m ρ c 2).trans ((whole_dy₂ (V3 m ρ) c).trans ?_))
  rw [show V3 m ρ c main_arg6 = _ from W3_args m ρ c main_arg6 (by decide),
    show V3 m ρ c main_v0_6 = _ from (since3 m ρ c main_v0_6 (by decide)).trans (back₂1 m ρ c)]
theorem end_dy₃ (c : Dev nD) : W9 m ρ c (Proc.devRef .tc main_v4) = timesT (back₃ m c) (m ((c : Thread nD τ).loc main_arg7)) := by
  refine (until5 m ρ c main_v4 (by decide)).trans ((W5_arr m ρ c 2).trans ((whole_dy₃ (V4 m ρ) c).trans ?_))
  rw [show V4 m ρ c main_arg7 = _ from W4_args m ρ c main_arg7 (by decide),
    show V4 m ρ c main_v0_7 = _ from (since4 m ρ c main_v0_7 (by decide)).trans (back₃1 m ρ c)]
theorem end_dw₀ (c : Dev nD) : W9 m ρ c (Proc.devRef .tc main_v5) = Ttimes (m ((c : Thread nD τ).loc main_arg0)) (back₀ m c) := by
  refine (until6 m ρ c main_v5 (by decide)).trans ((W6_arr m ρ c 2).trans ((whole_dw₀ (V5 m ρ) c).trans ?_))
  rw [show V5 m ρ c main_arg0 = _ from W5_args m ρ c main_arg0 (by decide),
    show V5 m ρ c main_v0_4 = _ from (since5 m ρ c main_v0_4 (by decide)).trans (back₀1 m ρ c)]
theorem end_dw₁ (c : Dev nD) : W9 m ρ c (Proc.devRef .tc main_v6) = Ttimes (m ((c : Thread nD τ).loc main_arg1)) (back₁ m c) := by
  refine (until7 m ρ c main_v6 (by decide)).trans ((W7_arr m ρ c 2).trans ((whole_dw₁ (V6 m ρ) c).trans ?_))
  rw [show V6 m ρ c main_arg1 = _ from W6_args m ρ c main_arg1 (by decide),
    show V6 m ρ c main_v0_5 = _ from (since6 m ρ c main_v0_5 (by decide)).trans (back₁1 m ρ c)]
theorem end_dw₂ (c : Dev nD) : W9 m ρ c (Proc.devRef .tc main_v7) = Ttimes (m ((c : Thread nD τ).loc main_arg2)) (back₂ m c) := by
  refine (until8 m ρ c main_v7 (by decide)).trans ((W8_arr m ρ c 2).trans ((whole_dw₂ (V7 m ρ) c).trans ?_))
  rw [show V7 m ρ c main_arg2 = _ from W7_args m ρ c main_arg2 (by decide),
    show V7 m ρ c main_v0_6 = _ from (since7 m ρ c main_v0_6 (by decide)).trans (back₂1 m ρ c)]
theorem end_dw₃ (c : Dev nD) : W9 m ρ c (Proc.devRef .tc main_v8) = Ttimes (m ((c : Thread nD τ).loc main_arg3)) (back₃ m c) := by
  refine (W9_arr m ρ c 2).trans ((whole_dw₃ (V8 m ρ) c).trans ?_)
  rw [show V8 m ρ c main_arg3 = _ from W8_args m ρ c main_arg3 (by decide),
    show V8 m ρ c main_v0_7 = _ from (since8 m ρ c main_v0_7 (by decide)).trans (back₃1 m ρ c)]

/-! ## The launch -/

-- the launch theorem's implicit arguments are found by unifying its conclusion with this one
set_option backward.isDefEq.respectTransparency.types false in
/-- Every execution ends with every buffer of the program at its contents after the last call. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

/-- THE RUN: the branches' gradients, their weights' and their gates' logits', the arguments as launched. -/
theorem run : θ_run defs (onTc (τ := τ) (main (F := Ideal))) ⟨m, fun _ => 0, ρ⟩ (fun r => ∀ c : Dev nD,
      r.2.mem ((c.tc : Thread nD τ).loc main_v1) = timesT (back₀ m c) (m ((c.tc : Thread nD τ).loc main_arg4))
      ∧ r.2.mem ((c.tc : Thread nD τ).loc main_v2) = timesT (back₁ m c) (m ((c.tc : Thread nD τ).loc main_arg5))
      ∧ r.2.mem ((c.tc : Thread nD τ).loc main_v3) = timesT (back₂ m c) (m ((c.tc : Thread nD τ).loc main_arg6))
      ∧ r.2.mem ((c.tc : Thread nD τ).loc main_v4) = timesT (back₃ m c) (m ((c.tc : Thread nD τ).loc main_arg7))
      ∧ r.2.mem ((c.tc : Thread nD τ).loc main_v5) = Ttimes (m ((c.tc : Thread nD τ).loc main_arg0)) (back₀ m c)
      ∧ r.2.mem ((c.tc : Thread nD τ).loc main_v6) = Ttimes (m ((c.tc : Thread nD τ).loc main_arg1)) (back₁ m c)
      ∧ r.2.mem ((c.tc : Thread nD τ).loc main_v7) = Ttimes (m ((c.tc : Thread nD τ).loc main_arg2)) (back₂ m c)
      ∧ r.2.mem ((c.tc : Thread nD τ).loc main_v8) = Ttimes (m ((c.tc : Thread nD τ).loc main_arg3)) (back₃ m c)
      ∧ r.2.mem ((c.tc : Thread nD τ).loc main_v0_0) = gateGrad (m ((c.tc : Thread nD τ).loc main_arg9))
        (times (m ((c.tc : Thread nD τ).loc main_arg0)) (m ((c.tc : Thread nD τ).loc main_arg4))) (gate₀ (m ((c.tc : Thread nD τ).loc main_arg8)))
      ∧ r.2.mem ((c.tc : Thread nD τ).loc main_v0_1) = gateGrad (m ((c.tc : Thread nD τ).loc main_arg9))
        (times (m ((c.tc : Thread nD τ).loc main_arg1)) (m ((c.tc : Thread nD τ).loc main_arg5))) (gate₁ (m ((c.tc : Thread nD τ).loc main_arg8)))
      ∧ r.2.mem ((c.tc : Thread nD τ).loc main_v0_2) = gateGrad (m ((c.tc : Thread nD τ).loc main_arg9))
        (times (m ((c.tc : Thread nD τ).loc main_arg2)) (m ((c.tc : Thread nD τ).loc main_arg6))) (gate₂ (m ((c.tc : Thread nD τ).loc main_arg8)))
      ∧ r.2.mem ((c.tc : Thread nD τ).loc main_v0_3) = gateGrad (m ((c.tc : Thread nD τ).loc main_arg9))
        (times (m ((c.tc : Thread nD τ).loc main_arg3)) (m ((c.tc : Thread nD τ).loc main_arg7))) (gate₃ (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v1 (by decide))).trans (end_dy₀ m ρ c),
     (h c _ (mem_uc main_v2 (by decide))).trans (end_dy₁ m ρ c),
     (h c _ (mem_uc main_v3 (by decide))).trans (end_dy₂ m ρ c),
     (h c _ (mem_uc main_v4 (by decide))).trans (end_dy₃ m ρ c),
     (h c _ (mem_uc main_v5 (by decide))).trans (end_dw₀ m ρ c),
     (h c _ (mem_uc main_v6 (by decide))).trans (end_dw₁ m ρ c),
     (h c _ (mem_uc main_v7 (by decide))).trans (end_dw₂ m ρ c),
     (h c _ (mem_uc main_v8 (by decide))).trans (end_dw₃ m ρ c),
     (h c _ (mem_uc main_v0_0 (by decide))).trans (end_logits₀ m ρ c),
     (h c _ (mem_uc main_v0_1 (by decide))).trans (end_logits₁ m ρ c),
     (h c _ (mem_uc main_v0_2 (by decide))).trans (end_logits₂ m ρ c),
     (h c _ (mem_uc main_v0_3 (by decide))).trans (end_logits₃ m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩)
    (ends m ρ)

end Cert.Proof.Branches

end
-- ==== Proof.BranchesMeet.lean ====
/-
  THE CLAIM BACK THROUGH THE MERGE: the plain program differentiates the gated sum of the branches; what it leaves is the
  gate's slope and the two products of each branch, and the kernel's nine calls leave those, so both end with the same
  results.
-/
module

public import proofs.«01_k».proof.Defs
public import proofs.«01_k».proof.Proof.BranchesRun
public import proofs.«01_k».proof.Proof.Gen.BranchesReferenceIdeal.Run
public import proofs.«01_k».proof.Proof.Gen.BranchesReferenceIdeal.Read
public import Idealize.ShloMosaic.Lib.Quiescent

@[expose] public section

set_option maxRecDepth 16384

noncomputable section

namespace Cert.Proof.Branches

open Idealize.ShloMosaic Idealize.SL.Sem Cert.BranchesReferenceIdeal Cert.BranchesReferenceIdeal.Read

/-- The plain program runs and leaves its arguments; it has no semaphore. -/
theorem frame_reference : Cert.quiescent_BranchesReferenceIdeal := fun m ρ _ =>
  (θ_run Cert.BranchesReferenceIdeal.defs _ _).mono (fun r h => ⟨fun c => (h c).2.2.2.2.2.2.2.2.2.2.2.2, sem_eq_zero_of_no_sems (by decide) r.2⟩)
    (Cert.BranchesReferenceIdeal.Value.run (F := Ideal) m ρ)

variable (y : Mat 4096 512) (w : Mat 512 1024) (p : Mat 4096 7424) (ct : Mat 4096 1024)

/-! ## The gates -/

theorem ref_gate₀ : val_main_v17 (F := Ideal) p = gate₀ p := funext fun i =>
  (logistic_lit (val_main_v8 (F := Ideal) p i)).trans (congrArg Ideal.logistic ((val_main_v8_apply (F := Ideal) p i).trans (at_ix2 p rfl rfl)))
theorem ref_gate₁ : val_main_v26 (F := Ideal) p = gate₁ p := funext fun i =>
  (logistic_lit (val_main_v9 (F := Ideal) p i)).trans (congrArg Ideal.logistic ((val_main_v9_apply (F := Ideal) p i).trans (at_ix2 p rfl rfl)))
theorem ref_gate₂ : val_main_v35 (F := Ideal) p = gate₂ p := funext fun i =>
  (logistic_lit (val_main_v10 (F := Ideal) p i)).trans (congrArg Ideal.logistic ((val_main_v10_apply (F := Ideal) p i).trans (at_ix2 p rfl rfl)))
theorem ref_gate₃ : val_main_v44 (F := Ideal) p = gate₃ p := funext fun i =>
  (logistic_lit (val_main_v11 (F := Ideal) p i)).trans (congrArg Ideal.logistic ((val_main_v11_apply (F := Ideal) p i).trans (at_ix2 p rfl rfl)))

/-! ## The gates' logits -/

/-- A branch carried up; the plain program writes the same product for each. -/
theorem ref_branch : val_main_v48 (F := Ideal) y w = times y w := by
  funext i
  rw [val_main_v48_apply]
  exact Finset.sum_congr rfl fun k _ => congrArg₂ (· * ·) (at_ix2 y rfl rfl) (at_ix2 w rfl rfl)
/-- The cotangent, handed on in its own shape. -/
theorem ref_ct : val_main_v59 (F := Ideal) ct = ct := by
  unfold val_main_v59
  exact shapeCast_id _ _
theorem ref_logits₀ : val_main_v85 (F := Ideal) y w p ct = gateGrad ct (times y w) (gate₀ p) := by
  funext i
  rw [val_main_v85_apply, val_main_v84_apply, val_main_v77_apply, val_main_v20_apply, val_main_v19_apply, ref_gate₀, ref_ct,
    ref_branch]
  exact slope_lit _ _ _
theorem ref_logits₁ : val_main_v86 (F := Ideal) y w p ct = gateGrad ct (times y w) (gate₁ p) := by
  funext i
  rw [val_main_v86_apply, val_main_v83_apply, val_main_v72_apply, val_main_v29_apply, val_main_v28_apply, ref_gate₁, ref_ct,
    show val_main_v50 (F := Ideal) y w = _ from ref_branch y w]
  exact slope_lit _ _ _
theorem ref_logits₂ : val_main_v87 (F := Ideal) y w p ct = gateGrad ct (times y w) (gate₂ p) := by
  funext i
  rw [val_main_v87_apply, val_main_v82_apply, val_main_v67_apply, val_main_v38_apply, val_main_v37_apply, ref_gate₂, ref_ct,
    show val_main_v53 (F := Ideal) y w = _ from ref_branch y w]
  exact slope_lit _ _ _
theorem ref_logits₃ : val_main_v88 (F := Ideal) y w p ct = gateGrad ct (times y w) (gate₃ p) := by
  funext i
  rw [val_main_v88_apply, val_main_v81_apply, val_main_v62_apply, val_main_v47_apply, val_main_v46_apply, ref_gate₃, show val_main_v60 (F := Ideal) ct = _ from ref_ct ct,
    show val_main_v56 (F := Ideal) y w = _ from ref_branch y w]
  exact slope_lit _ _ _

/-! ## Through the gates to the branches and their weights -/

theorem ref_through₀ : val_main_v76 (F := Ideal) p ct = through ct (gate₀ p) := by
  funext i
  rw [val_main_v76_apply, ref_gate₀, ref_ct]
  exact mul_comm _ _
theorem ref_through₁ : val_main_v71 (F := Ideal) p ct = through ct (gate₁ p) := by
  funext i
  rw [val_main_v71_apply, ref_gate₁, ref_ct]
  exact mul_comm _ _
theorem ref_through₂ : val_main_v66 (F := Ideal) p ct = through ct (gate₂ p) := by
  funext i
  rw [val_main_v66_apply, ref_gate₂, ref_ct]
  exact mul_comm _ _
theorem ref_through₃ : val_main_v61 (F := Ideal) p ct = through ct (gate₃ p) := by
  funext i
  rw [val_main_v61_apply, ref_gate₃, show val_main_v60 (F := Ideal) ct = _ from ref_ct ct]
  exact mul_comm _ _
theorem ref_dy₀ : val_main_v80 (F := Ideal) w p ct = timesT (through ct (gate₀ p)) w := by
  funext i
  rw [val_main_v80_apply, ref_through₀]
  exact Finset.sum_congr rfl fun k _ => congrArg₂ (· * ·) (at_ix2 (through ct (gate₀ p)) rfl rfl) (at_ix2 w rfl rfl)
theorem ref_dy₁ : val_main_v75 (F := Ideal) w p ct = timesT (through ct (gate₁ p)) w := by
  funext i
  rw [val_main_v75_apply, ref_through₁]
  exact Finset.sum_congr rfl fun k _ => congrArg₂ (· * ·) (at_ix2 (through ct (gate₁ p)) rfl rfl) (at_ix2 w rfl rfl)
theorem ref_dy₂ : val_main_v70 (F := Ideal) w p ct = timesT (through ct (gate₂ p)) w := by
  funext i
  rw [val_main_v70_apply, ref_through₂]
  exact Finset.sum_congr rfl fun k _ => congrArg₂ (· * ·) (at_ix2 (through ct (gate₂ p)) rfl rfl) (at_ix2 w rfl rfl)
theorem ref_dy₃ : val_main_v65 (F := Ideal) w p ct = timesT (through ct (gate₃ p)) w := by
  funext i
  rw [val_main_v65_apply, ref_through₃]
  exact Finset.sum_congr rfl fun k _ => congrArg₂ (· * ·) (at_ix2 (through ct (gate₃ p)) rfl rfl) (at_ix2 w rfl rfl)
theorem ref_dw₀ : val_main_v79 (F := Ideal) y p ct = Ttimes y (through ct (gate₀ p)) := by
  funext i
  rw [val_main_v79_apply, val_main_v78_apply, ref_through₀]
  exact Finset.sum_congr rfl fun k _ => (mul_comm _ _).trans
    (congrArg₂ (· * ·) (at_ix2 y rfl rfl) (at_ix2 (through ct (gate₀ p)) rfl rfl))
theorem ref_dw₁ : val_main_v74 (F := Ideal) y p ct = Ttimes y (through ct (gate₁ p)) := by
  funext i
  rw [val_main_v74_apply, val_main_v73_apply, ref_through₁]
  exact Finset.sum_congr rfl fun k _ => (mul_comm _ _).trans
    (congrArg₂ (· * ·) (at_ix2 y rfl rfl) (at_ix2 (through ct (gate₁ p)) rfl rfl))
theorem ref_dw₂ : val_main_v69 (F := Ideal) y p ct = Ttimes y (through ct (gate₂ p)) := by
  funext i
  rw [val_main_v69_apply, val_main_v68_apply, ref_through₂]
  exact Finset.sum_congr rfl fun k _ => (mul_comm _ _).trans
    (congrArg₂ (· * ·) (at_ix2 y rfl rfl) (at_ix2 (through ct (gate₂ p)) rfl rfl))
theorem ref_dw₃ : val_main_v64 (F := Ideal) y p ct = Ttimes y (through ct (gate₃ p)) := by
  funext i
  rw [val_main_v64_apply, val_main_v63_apply, ref_through₃]
  exact Finset.sum_congr rfl fun k _ => (mul_comm _ _).trans
    (congrArg₂ (· * ·) (at_ix2 y rfl rfl) (at_ix2 (through ct (gate₃ p)) rfl rfl))

/-- The gradients of the branches, of their weights and of their gates' logits are the plain program's. -/
theorem gradients : Cert.algebraic_BranchesIdeal_BranchesReferenceIdeal := by
  intro m ρ m' ρ' _ args
  have e0 (c) := (args c).1
  have e1 (c) := (args c).2.1
  have e2 (c) := (args c).2.2.1
  have e3 (c) := (args c).2.2.2.1
  have e4 (c) := (args c).2.2.2.2.1
  have e5 (c) := (args c).2.2.2.2.2.1
  have e6 (c) := (args c).2.2.2.2.2.2.1
  have e7 (c) := (args c).2.2.2.2.2.2.2.1
  have e8 (c) := (args c).2.2.2.2.2.2.2.2.1
  have e9 (c) := (args c).2.2.2.2.2.2.2.2.2
  have t0 (c) := congrArg₂ through (e9 c) (congrArg (fun p => gate₀ p) (e8 c))
  have t1 (c) := congrArg₂ through (e9 c) (congrArg (fun p => gate₁ p) (e8 c))
  have t2 (c) := congrArg₂ through (e9 c) (congrArg (fun p => gate₂ p) (e8 c))
  have t3 (c) := congrArg₂ through (e9 c) (congrArg (fun p => gate₃ p) (e8 c))
  refine ⟨_, _, _, _, _, _, _, _, _, _, _, _, run m ρ, ?_⟩
  refine (θ_run Cert.BranchesReferenceIdeal.defs _ _).mono (fun r h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2.1.trans ?_, (h c).2.2.2.2.2.2.2.1.trans ?_,
    (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩) (Cert.BranchesReferenceIdeal.Value.run (F := Ideal) m' ρ')
  · exact (val_main_v80_eq _ _ _).trans ((ref_dy₀ _ _ _).trans (congrArg₂ timesT (t0 c) (e4 c)))
  · exact (val_main_v75_eq _ _ _).trans ((ref_dy₁ _ _ _).trans (congrArg₂ timesT (t1 c) (e5 c)))
  · exact (val_main_v70_eq _ _ _).trans ((ref_dy₂ _ _ _).trans (congrArg₂ timesT (t2 c) (e6 c)))
  · exact (val_main_v65_eq _ _ _).trans ((ref_dy₃ _ _ _).trans (congrArg₂ timesT (t3 c) (e7 c)))
  · exact (val_main_v79_eq _ _ _).trans ((ref_dw₀ _ _ _).trans (congrArg₂ Ttimes (e0 c) (t0 c)))
  · exact (val_main_v74_eq _ _ _).trans ((ref_dw₁ _ _ _).trans (congrArg₂ Ttimes (e1 c) (t1 c)))
  · exact (val_main_v69_eq _ _ _).trans ((ref_dw₂ _ _ _).trans (congrArg₂ Ttimes (e2 c) (t2 c)))
  · exact (val_main_v64_eq _ _ _).trans ((ref_dw₃ _ _ _).trans (congrArg₂ Ttimes (e3 c) (t3 c)))
  · exact (val_main_v85_eq _ _ _ _).trans ((ref_logits₀ _ _ _ _).trans
      (congr (congrArg₂ gateGrad (e9 c) (congrArg₂ times (e0 c) (e4 c))) (congrArg (fun p => gate₀ p) (e8 c))))
  · exact (val_main_v86_eq _ _ _ _).trans ((ref_logits₁ _ _ _ _).trans
      (congr (congrArg₂ gateGrad (e9 c) (congrArg₂ times (e1 c) (e5 c))) (congrArg (fun p => gate₁ p) (e8 c))))
  · exact (val_main_v87_eq _ _ _ _).trans ((ref_logits₂ _ _ _ _).trans
      (congr (congrArg₂ gateGrad (e9 c) (congrArg₂ times (e2 c) (e6 c))) (congrArg (fun p => gate₂ p) (e8 c))))
  · exact (val_main_v88_eq _ _ _ _).trans ((ref_logits₃ _ _ _ _).trans
      (congr (congrArg₂ gateGrad (e9 c) (congrArg₂ times (e3 c) (e7 c))) (congrArg (fun p => gate₃ p) (e8 c))))

end Cert.Proof.Branches

end
-- ==== Proof.GluMath.lean ====
/-
  THE GATED LINEAR UNIT as functions of extended reals: a row is a half that is passed on and a half that gates it through
  the logistic function. Going back, the passed half takes the cotangent times the gate, the gating half the cotangent
  times the passed half times the gate's slope, and the two stand beside each other again.
-/
module

public import proofs.«01_k».proof.Proof.MergeMath
public import Idealize.ShloMosaic.Lib.Pipeline.Value

@[expose] public section

noncomputable section

namespace Cert.Proof

open Idealize.ShloMosaic

variable {r : Nat}

/-- The half of each row that is passed on. -/
def passed (t : Mat r 1024) : Mat r 512 := fun i => t (ix2 (i 0) ⟨(i 1).val, Nat.lt_of_lt_of_le (i 1).isLt (show 512 ≤ 1024 by decide)⟩)
/-- The half of each row that gates, through the logistic function. -/
def gating (t : Mat r 1024) : Mat r 512 :=
  fun i => Ideal.logistic (t (ix2 (i 0) ⟨512 + (i 1).val, Nat.add_lt_add_left (i 1).isLt 512⟩))
/-- The unit's result. -/
def gatedUnit (t : Mat r 1024) : Mat r 512 := fun i => passed t i * gating t i
/-- The gradient of the passed half. -/
def passedGrad (t : Mat r 1024) (d : Mat r 512) : Mat r 512 := fun i => d i * gating t i
/-- The gradient of the gating half. -/
def gatingGrad (t : Mat r 1024) (d : Mat r 512) : Mat r 512 := fun i => d i * passed t i * gating t i * (1 - gating t i)

theorem right_lt (i : (⟨2, ![r, 1024]⟩ : Shape).Idx) : (i 1).val - 512 < 512 :=
  have h : (i 1).val < 1024 := (i 1).isLt
  by omega
/-- Two halves, one beside the other. -/
def beside (a b : Mat r 512) : Mat r 1024 := fun i =>
  if h : (i 1).val < 512 then a (ix2 (i 0) ⟨(i 1).val, h⟩) else b (ix2 (i 0) ⟨(i 1).val - 512, right_lt i⟩)
/-- The gradient of the whole row. -/
def gatedUnitGrad (t : Mat r 1024) (d : Mat r 512) : Mat r 1024 := beside (passedGrad t d) (gatingGrad t d)

/-- What both programs write for it. -/
theorem concatenate_beside (a b : Mat r 512)
    (h : Shape.Concatenates [(⟨2, ![r, 512]⟩ : Shape), (⟨2, ![r, 512]⟩ : Shape)] (⟨2, ![r, 1024]⟩ : Shape) 1) :
    concatenate (⟨2, ![r, 1024]⟩ : Shape) 1 [⟨(⟨2, ![r, 512]⟩ : Shape), a⟩, ⟨(⟨2, ![r, 512]⟩ : Shape), b⟩] h = beside a b := by
  funext i
  unfold beside
  split
  · next hi =>
    exact concatenate_pair_apply_left (t := ⟨2, ![r, 1024]⟩) (s₁ := ⟨2, ![r, 512]⟩) (s₂ := ⟨2, ![r, 512]⟩) 1 a b h i rfl
      (ix2 (i 0) ⟨(i 1).val, hi⟩) (fun c => match c with
      | ⟨0, _⟩ => rfl
      | ⟨1, _⟩ => rfl)
  · next hi =>
    exact concatenate_pair_apply_right (t := ⟨2, ![r, 1024]⟩) (s₁ := ⟨2, ![r, 512]⟩) (s₂ := ⟨2, ![r, 512]⟩) 1 a b h i rfl rfl
      (ix2 (i 0) ⟨(i 1).val - 512, right_lt i⟩) (fun c hc => match c, hc with
      | ⟨0, _⟩, _ => rfl
      | ⟨1, _⟩, hc => absurd rfl hc) (Nat.sub_add_cancel (Nat.le_of_not_lt hi))

end Cert.Proof

end
-- ==== Proof.GluValue.lean ====
/-
  THE GATED LINEAR UNIT'S CALLS, one by one: whatever the arrays are when a call is entered, a product leaves the whole
  product, the unit its result, and the way back through the unit both halves of the row's gradient.
-/
module

public import proofs.«01_k».proof.Proof.Gen.GluIdeal.Frame
public import proofs.«01_k».proof.Proof.GluMath
public import Idealize.ShloMosaic.Lib.Pipeline.ValueKit

@[expose] public section

set_option maxRecDepth 16384

noncomputable section

namespace Cert.Proof.Glu

open Idealize.ShloMosaic Idealize.SL.Sem Cert.GluIdeal Cert.GluIdeal.Gen Idealize.ShloMosaic.TcCoe

variable (V : (c : Dev nD) → (b : Ref sig .tc) → Buf (Elt Ideal) ((c : Thread nD τ).loc b)) (c : Dev nD)

/-! ## The product whose rows are gated -/

theorem idx0 : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)
theorem point0 (t : Fin cfg0.N) (y) : k0_pay1 (F := Ideal) (iblk0 V c 0 t) (iblk0 V c 1 t) y
    = times (V c main_arg0) (V c main_arg1) (((cfg0.win 2).blk t).view.emb y) := by
  pointwise [k0_pay1, times]
  blk_point [iblk0, idx0 t]
theorem whole_t : (dat0 (F := Ideal) V c).arrAt 2 cfg0.N = times (V c main_arg0) (V c main_arg1) := by
  refine (dat0 (F := Ideal) V c).arrAt_eq_of_covers 2 _ (by decide +kernel) fun t _ y => ?_
  blk_simp
  rw [after0_2]; frame_out
  exact point0 V c t y

/-! ## The unit -/

theorem idx1 : ∀ t : Fin cfg1.N, win1_0.index t = ![(grid1.coords t 0).val, 0] ∧ win1_1.index t = ![(grid1.coords t 0).val, 0] :=
  (by decide +kernel : ∀ t : Fin grid1.N, _)
theorem point1 (t : Fin cfg1.N) (y) : k1_pay1 (F := Ideal) (iblk1 V c 0 t) y = gatedUnit (V c main_v0) (((cfg1.win 1).blk t).view.emb y) := by
  pointwise [k1_pay1, gatedUnit, passed, gating]
  blk_point [iblk1, idx1 t]
theorem whole_y : (dat1 (F := Ideal) V c).arrAt 1 cfg1.N = gatedUnit (V c main_v0) := by
  refine (dat1 (F := Ideal) V c).arrAt_eq_of_covers 1 _ (by decide +kernel) fun t _ y => ?_
  blk_simp
  rw [after1_1]; frame_out
  exact point1 V c t y

/-! ## Back through the unit -/

theorem idx2 : ∀ t : Fin cfg2.N, win2_0.index t = ![(grid2.coords t 0).val, 0] ∧ win2_1.index t = ![(grid2.coords t 0).val, 0]
    ∧ win2_2.index t = ![(grid2.coords t 0).val, 0] :=
  (by decide +kernel : ∀ t : Fin grid2.N, _)
/-- What the call stores for a block of rows. -/
theorem stored2 (x : Mat 1024 1024) (d : Mat 1024 512) : k2_pay1 (F := Ideal) x d = gatedUnitGrad x d := by
  funext i
  unfold k2_pay1 gatedUnitGrad
  refine (congrFun (concatenate_beside (r := 1024) _ _ concatenates_S1024x512_S1024x512_S1024x1024_d1) i).trans ?_
  refine congrFun (congrArg₂ beside (funext fun j => ?_) (funext fun j => ?_)) i
  · pointwise [passedGrad, gating]
  · pointwise [gatingGrad, passed, gating]
theorem point2 (t : Fin cfg2.N) (y) : k2_pay1 (F := Ideal) (iblk2 V c 0 t) (iblk2 V c 1 t) y
    = gatedUnitGrad (V c main_v0) (V c main_arg2) (((cfg2.win 2).blk t).view.emb y) := by
  refine (congrFun (stored2 _ _) y).trans ?_
  have h : ((((cfg2.win 2).blk t).view.emb y) 1).val = (y 1).val := by
    blk_point [idx2 t]
  unfold gatedUnitGrad beside
  by_cases hy : (y 1).val < 512
  · rw [dif_pos hy, dif_pos (h ▸ hy)]
    pointwise [passedGrad, gating]
    blk_point [iblk2, idx2 t]
  · rw [dif_neg hy, dif_neg (h ▸ hy)]
    pointwise [gatingGrad, passed, gating]
    blk_point [iblk2, idx2 t]
theorem whole_dt : (dat2 (F := Ideal) V c).arrAt 2 cfg2.N = gatedUnitGrad (V c main_v0) (V c main_arg2) := by
  refine (dat2 (F := Ideal) V c).arrAt_eq_of_covers 2 _ (by decide +kernel) fun t _ y => ?_
  blk_simp
  rw [after2_2]; frame_out
  exact point2 V c t y

/-! ## The gradients of what was multiplied -/

theorem idx3 : ∀ t : Fin cfg3.N, win3_0.index t = ![(grid3.coords t 0).val, 0] ∧ win3_1.index t = ![(grid3.coords t 1).val, 0]
    ∧ win3_2.index t = ![(grid3.coords t 0).val, (grid3.coords t 1).val] :=
  (by decide +kernel : ∀ t : Fin grid3.N, _)
theorem point3 (t : Fin cfg3.N) (y) : k3_pay1 (F := Ideal) (iblk3 V c 0 t) (iblk3 V c 1 t) y
    = timesT (V c main_v2) (V c main_arg1) (((cfg3.win 2).blk t).view.emb y) := by
  pointwise [k3_pay1, timesT]
  blk_point [iblk3, idx3 t]
theorem whole_dz : (dat3 (F := Ideal) V c).arrAt 2 cfg3.N = timesT (V c main_v2) (V c main_arg1) := by
  refine (dat3 (F := Ideal) V c).arrAt_eq_of_covers 2 _ (by decide +kernel) fun t _ y => ?_
  blk_simp
  rw [after3_2]; frame_out
  exact point3 V c t y

theorem idx4 : ∀ t : Fin cfg4.N, win4_0.index t = ![0, (grid4.coords t 0).val] ∧ win4_1.index t = ![0, (grid4.coords t 1).val]
    ∧ win4_2.index t = ![(grid4.coords t 0).val, (grid4.coords t 1).val] :=
  (by decide +kernel : ∀ t : Fin grid4.N, _)
theorem point4 (t : Fin cfg4.N) (y) : k4_pay1 (F := Ideal) (iblk4 V c 0 t) (iblk4 V c 1 t) y
    = Ttimes (V c main_arg0) (V c main_v2) (((cfg4.win 2).blk t).view.emb y) := by
  pointwise [k4_pay1, Ttimes]
  blk_point [iblk4, idx4 t]
theorem whole_dw : (dat4 (F := Ideal) V c).arrAt 2 cfg4.N = Ttimes (V c main_arg0) (V c main_v2) := by
  refine (dat4 (F := Ideal) V c).arrAt_eq_of_covers 2 _ (by decide +kernel) fun t _ y => ?_
  blk_simp
  rw [after4_2]; frame_out
  exact point4 V c t y

end Cert.Proof.Glu

end
-- ==== Proof.GluRun.lean ====
/-
  THE GATED LINEAR UNIT'S RUN: the five calls one after another leave the unit's result and the gradients of what was
  multiplied. The first call's rows are read by the next two, the rows' gradient by the last two.
-/
module

public import proofs.«01_k».proof.Proof.GluValue

@[expose] public section

set_option maxRecDepth 16384

noncomputable section

namespace Cert.Proof.Glu

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GluIdeal Cert.GluIdeal.Gen

local notation "𝕄" => MT nD τ sig Unit (Elt Ideal) ℕ (UR sig nD τ) ℕ

variable (m : (ℓ : Loc nD τ sig) → Buf (Elt Ideal) ℓ) (ρ : Dev nD → PrngReg)

/-! ## What stands where as the calls go by -/

/-- The rows that are gated, of the arguments. -/
abbrev rows (c : Dev nD) : Mat 4096 1024 := times (m ((c : Thread nD τ).loc main_arg0)) (m ((c : Thread nD τ).loc main_arg1))
/-- Their gradient, of the arguments. -/
abbrev drows (c : Dev nD) : Mat 4096 1024 := gatedUnitGrad (rows m c) (m ((c : Thread nD τ).loc main_arg2))

theorem rows1 (c : Dev nD) : W1 m ρ c (Proc.devRef .tc main_v0) = rows m c := by
  refine (W1_arr m ρ c 2).trans ((whole_t (V0 m ρ) c).trans ?_)
  rw [show V0 m ρ c main_arg0 = _ from W0_args m ρ c main_arg0 (by decide), show V0 m ρ c main_arg1 = _ from W0_args m ρ c main_arg1 (by decide)]
theorem rows2 (c : Dev nD) : W2 m ρ c (Proc.devRef .tc main_v0) = rows m c :=
  (W2_of m ρ c main_v0 (by decide +kernel)).trans (rows1 m ρ c)
theorem drows3 (c : Dev nD) : W3 m ρ c (Proc.devRef .tc main_v2) = drows m c := by
  refine (W3_arr m ρ c 2).trans ((whole_dt (V2 m ρ) c).trans ?_)
  rw [show V2 m ρ c main_arg2 = _ from W2_args m ρ c main_arg2 (by decide), show V2 m ρ c main_v0 = _ from rows2 m ρ c]
theorem drows4 (c : Dev nD) : W4 m ρ c (Proc.devRef .tc main_v2) = drows m c :=
  (W4_of m ρ c main_v2 (by decide +kernel)).trans (drows3 m ρ c)

/-! ## Where the results stand at the end -/

theorem end_y (c : Dev nD) : W5 m ρ c (Proc.devRef .tc main_v1) = gatedUnit (rows m c) := by
  refine (W5_of m ρ c main_v1 (by decide +kernel)).trans ((W4_of m ρ c main_v1 (by decide +kernel)).trans
    ((W3_of m ρ c main_v1 (by decide +kernel)).trans ((W2_arr m ρ c 1).trans ((whole_y (V1 m ρ) c).trans ?_))))
  rw [show V1 m ρ c main_v0 = _ from rows1 m ρ c]
theorem end_dz (c : Dev nD) : W5 m ρ c (Proc.devRef .tc main_v3) = timesT (drows m c) (m ((c : Thread nD τ).loc main_arg1)) := by
  refine (W5_of m ρ c main_v3 (by decide +kernel)).trans ((W4_arr m ρ c 2).trans ((whole_dz (V3 m ρ) c).trans ?_))
  rw [show V3 m ρ c main_arg1 = _ from W3_args m ρ c main_arg1 (by decide), show V3 m ρ c main_v2 = _ from drows3 m ρ c]
theorem end_dw (c : Dev nD) : W5 m ρ c (Proc.devRef .tc main_v4) = Ttimes (m ((c : Thread nD τ).loc main_arg0)) (drows m c) := by
  refine (W5_arr m ρ c 2).trans ((whole_dw (V4 m ρ) c).trans ?_)
  rw [show V4 m ρ c main_arg0 = _ from W4_args m ρ c main_arg0 (by decide), show V4 m ρ c main_v2 = _ from drows4 m ρ c]

/-! ## The launch -/

-- the launch theorem's implicit arguments are found by unifying its conclusion with this one
set_option backward.isDefEq.respectTransparency.types false in
/-- Every execution ends with every buffer of the program at its contents after the last call. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- THE RUN: the unit's result and the two gradients, the arguments as launched. -/
theorem run : θ_run defs (onTc (τ := τ) (main (F := Ideal))) ⟨m, fun _ => 0, ρ⟩ (fun r => ∀ c : Dev nD,
      r.2.mem ((c.tc : Thread nD τ).loc main_v1) = gatedUnit (rows m c)
      ∧ r.2.mem ((c.tc : Thread nD τ).loc main_v3) = timesT (drows m c) (m ((c.tc : Thread nD τ).loc main_arg1))
      ∧ r.2.mem ((c.tc : Thread nD τ).loc main_v4) = Ttimes (m ((c.tc : Thread nD τ).loc main_arg0)) (drows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (end_y m ρ c),
     (h c _ (mem_uc main_v3 (by decide))).trans (end_dz m ρ c),
     (h c _ (mem_uc main_v4 (by decide))).trans (end_dw m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩)
    (ends m ρ)

end Cert.Proof.Glu

end
-- ==== Proof.GluMeet.lean ====
/-
  THE GATED LINEAR UNIT'S CLAIM: the plain program differentiates the product, the two halves and the gate; what it leaves
  is the unit's result and the two gradients of what was multiplied, and the kernel's five calls leave those.
-/
module

public import proofs.«01_k».proof.Defs
public import proofs.«01_k».proof.Proof.GluRun
public import proofs.«01_k».proof.Proof.Gen.GluReferenceIdeal.Run
public import proofs.«01_k».proof.Proof.Gen.GluReferenceIdeal.Read
public import Idealize.ShloMosaic.Lib.Quiescent

@[expose] public section

set_option maxRecDepth 16384

noncomputable section

namespace Cert.Proof.Glu

open Idealize.ShloMosaic Idealize.SL.Sem Cert.GluReferenceIdeal Cert.GluReferenceIdeal.Read

/-- The plain program runs and leaves its arguments; it has no semaphore. -/
theorem frame_reference : Cert.quiescent_GluReferenceIdeal := fun m ρ _ =>
  (θ_run Cert.GluReferenceIdeal.defs _ _).mono (fun r h => ⟨fun c => (h c).2.2.2, sem_eq_zero_of_no_sems (by decide) r.2⟩)
    (Cert.GluReferenceIdeal.Value.run (F := Ideal) m ρ)

variable (z : Mat 4096 512) (w : Mat 512 1024) (d : Mat 4096 512)

/-! ## The two halves -/

theorem ref_rows : val_main_v2 (F := Ideal) z w = times z w := by
  funext i
  rw [val_main_v2_apply]
  exact Finset.sum_congr rfl fun k _ => congrArg₂ (· * ·) (at_ix2 z rfl rfl) (at_ix2 w rfl rfl)
theorem ref_passed : val_main_v3 (F := Ideal) z w = passed (times z w) := by
  funext i
  rw [val_main_v3_apply, ref_rows]
  exact at_ix2 (times z w) rfl rfl
theorem ref_logits : val_main_v4 (F := Ideal) z w = fun i => times z w (ix2 (i 0) ⟨512 + (i 1).val, Nat.add_lt_add_left (i 1).isLt 512⟩) := by
  funext i
  rw [val_main_v4_apply, ref_rows]
  exact at_ix2 (times z w) rfl rfl
theorem ref_gating : val_main_v10 (F := Ideal) z w = gating (times z w) := funext fun i =>
  (logistic_lit (val_main_v4 (F := Ideal) z w i)).trans (congrArg Ideal.logistic (congrFun (ref_logits z w) i))
theorem ref_y : val_main_v15 (F := Ideal) z w = gatedUnit (times z w) := by
  funext i
  rw [val_main_v15_apply, val_main_v14_apply, ref_passed, ref_gating]
  rfl

/-! ## Their gradients -/

theorem ref_passedGrad : val_main_v17 (F := Ideal) z w d = passedGrad (times z w) d := by
  funext i
  rw [val_main_v17_apply, ref_gating]
  rfl
theorem ref_gatingGrad : val_main_v18 (F := Ideal) z w d = gatingGrad (times z w) d := by
  funext i
  rw [val_main_v18_apply, val_main_v16_apply, val_main_v13_apply, val_main_v12_apply, ref_passed, ref_gating]
  exact (slope_lit _ _ _).trans (congrArg (fun a => a * gating (times z w) i * (1 - gating (times z w) i)) (mul_comm _ _))
theorem ref_drows : val_main_v19 (F := Ideal) z w d = gatedUnitGrad (times z w) d := by
  unfold val_main_v19
  rw [ref_passedGrad, ref_gatingGrad]
  exact concatenate_beside (r := 4096) _ _ _

/-! ## The gradients of what was multiplied -/

theorem ref_dz : val_main_v22 (F := Ideal) z w d = timesT (gatedUnitGrad (times z w) d) w := by
  funext i
  rw [val_main_v22_apply, ref_drows]
  exact Finset.sum_congr rfl fun k _ => congrArg₂ (· * ·) (at_ix2 (gatedUnitGrad (times z w) d) rfl rfl) (at_ix2 w rfl rfl)
theorem ref_dw : val_main_v21 (F := Ideal) z w d = Ttimes z (gatedUnitGrad (times z w) d) := by
  funext i
  rw [val_main_v21_apply, val_main_v20_apply, ref_drows]
  exact Finset.sum_congr rfl fun k _ => (mul_comm _ _).trans
    (congrArg₂ (· * ·) (at_ix2 z rfl rfl) (at_ix2 (gatedUnitGrad (times z w) d) rfl rfl))

/-- The unit's result and the two gradients of what was multiplied are the plain program's. -/
theorem gradients : Cert.algebraic_GluIdeal_GluReferenceIdeal := by
  intro m ρ m' ρ' _ args
  have e0 (c) := (args c).1
  have e1 (c) := (args c).2.1
  have e2 (c) := (args c).2.2
  have t (c) := congrArg₂ times (e0 c) (e1 c)
  have g (c) := congrArg₂ gatedUnitGrad (t c) (e2 c)
  refine ⟨_, _, _, run m ρ, ?_⟩
  refine (θ_run Cert.GluReferenceIdeal.defs _ _).mono (fun r h c => ⟨(h c).1.trans ?_, (h c).2.1.trans ?_, (h c).2.2.1.trans ?_,
    (h c).2.2.2⟩) (Cert.GluReferenceIdeal.Value.run (F := Ideal) m' ρ')
  · exact (val_main_v15_eq _ _).trans ((ref_y _ _).trans (congrArg gatedUnit (t c)))
  · exact (val_main_v22_eq _ _ _).trans ((ref_dz _ _ _).trans (congrArg₂ timesT (g c) (e1 c)))
  · exact (val_main_v21_eq _ _ _).trans ((ref_dw _ _ _).trans (congrArg₂ Ttimes (e0 c) (g c)))

end Cert.Proof.Glu

end
-- ==== Proof.UpValue.lean ====
/-
  THE SIX CALLS OF THE UP-PROJECTIONS, one by one: whatever the arrays are when a call is entered, its result array is the
  whole product.
-/
module

public import proofs.«01_k».proof.Proof.Gen.UpIdeal.Frame
public import proofs.«01_k».proof.Proof.Products
public import Idealize.ShloMosaic.Lib.Pipeline.ValueKit

@[expose] public section

set_option maxRecDepth 16384

noncomputable section

namespace Cert.Proof.Up

open Idealize.ShloMosaic Idealize.SL.Sem Cert.UpIdeal Cert.UpIdeal.Gen Idealize.ShloMosaic.TcCoe

variable (V : (c : Dev nD) → (b : Ref sig .tc) → Buf (Elt Ideal) ((c : Thread nD τ).loc b)) (c : Dev nD)

/-! ## The two up-projections -/

theorem idx0 : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)
theorem point0 (t : Fin cfg0.N) (y) : k0_pay1 (F := Ideal) (iblk0 V c 0 t) (iblk0 V c 1 t) y
    = times (V c main_arg0) (V c main_arg1) (((cfg0.win 2).blk t).view.emb y) := by
  pointwise [k0_pay1, times]
  blk_point [iblk0, idx0 t]
theorem whole_q : (dat0 (F := Ideal) V c).arrAt 2 cfg0.N = times (V c main_arg0) (V c main_arg1) := by
  refine (dat0 (F := Ideal) V c).arrAt_eq_of_covers 2 _ (by decide +kernel) fun t _ y => ?_
  blk_simp
  rw [after0_2]; frame_out
  exact point0 V c t y

theorem idx1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, _)
theorem point1 (t : Fin cfg1.N) (y) : k1_pay1 (F := Ideal) (iblk1 V c 0 t) (iblk1 V c 1 t) y
    = times (V c main_arg2) (V c main_arg3) (((cfg1.win 2).blk t).view.emb y) := by
  pointwise [k1_pay1, times]
  blk_point [iblk1, idx1 t]
theorem whole_kv : (dat1 (F := Ideal) V c).arrAt 2 cfg1.N = times (V c main_arg2) (V c main_arg3) := by
  refine (dat1 (F := Ideal) V c).arrAt_eq_of_covers 2 _ (by decide +kernel) fun t _ y => ?_
  blk_simp
  rw [after1_2]; frame_out
  exact point1 V c t y

/-! ## The gradients of the queries' latent and of its weights -/

theorem idx2 : ∀ t : Fin cfg2.N, win2_0.index t = ![(grid2.coords t 0).val, 0] ∧ win2_1.index t = ![(grid2.coords t 1).val, 0]
    ∧ win2_2.index t = ![(grid2.coords t 0).val, (grid2.coords t 1).val] :=
  (by decide +kernel : ∀ t : Fin grid2.N, _)
theorem point2 (t : Fin cfg2.N) (y) : k2_pay1 (F := Ideal) (iblk2 V c 0 t) (iblk2 V c 1 t) y
    = timesT (V c main_arg4) (V c main_arg1) (((cfg2.win 2).blk t).view.emb y) := by
  pointwise [k2_pay1, timesT]
  blk_point [iblk2, idx2 t]
theorem whole_dcq : (dat2 (F := Ideal) V c).arrAt 2 cfg2.N = timesT (V c main_arg4) (V c main_arg1) := by
  refine (dat2 (F := Ideal) V c).arrAt_eq_of_covers 2 _ (by decide +kernel) fun t _ y => ?_
  blk_simp
  rw [after2_2]; frame_out
  exact point2 V c t y

theorem idx3 : ∀ t : Fin cfg3.N, win3_0.index t = ![0, (grid3.coords t 0).val] ∧ win3_1.index t = ![0, (grid3.coords t 1).val]
    ∧ win3_2.index t = ![(grid3.coords t 0).val, (grid3.coords t 1).val] :=
  (by decide +kernel : ∀ t : Fin grid3.N, _)
theorem point3 (t : Fin cfg3.N) (y) : k3_pay1 (F := Ideal) (iblk3 V c 0 t) (iblk3 V c 1 t) y
    = Ttimes (V c main_arg0) (V c main_arg4) (((cfg3.win 2).blk t).view.emb y) := by
  pointwise [k3_pay1, Ttimes]
  blk_point [iblk3, idx3 t]
theorem whole_dw_uq : (dat3 (F := Ideal) V c).arrAt 2 cfg3.N = Ttimes (V c main_arg0) (V c main_arg4) := by
  refine (dat3 (F := Ideal) V c).arrAt_eq_of_covers 2 _ (by decide +kernel) fun t _ y => ?_
  blk_simp
  rw [after3_2]; frame_out
  exact point3 V c t y

/-! ## The gradients of the keys' and values' latent and of its weights -/

theorem idx4 : ∀ t : Fin cfg4.N, win4_0.index t = ![(grid4.coords t 0).val, 0] ∧ win4_1.index t = ![(grid4.coords t 1).val, 0]
    ∧ win4_2.index t = ![(grid4.coords t 0).val, (grid4.coords t 1).val] :=
  (by decide +kernel : ∀ t : Fin grid4.N, _)
theorem point4 (t : Fin cfg4.N) (y) : k4_pay1 (F := Ideal) (iblk4 V c 0 t) (iblk4 V c 1 t) y
    = timesT (V c main_arg5) (V c main_arg3) (((cfg4.win 2).blk t).view.emb y) := by
  pointwise [k4_pay1, timesT]
  blk_point [iblk4, idx4 t]
theorem whole_dckv : (dat4 (F := Ideal) V c).arrAt 2 cfg4.N = timesT (V c main_arg5) (V c main_arg3) := by
  refine (dat4 (F := Ideal) V c).arrAt_eq_of_covers 2 _ (by decide +kernel) fun t _ y => ?_
  blk_simp
  rw [after4_2]; frame_out
  exact point4 V c t y

theorem idx5 : ∀ t : Fin cfg5.N, win5_0.index t = ![0, (grid5.coords t 0).val] ∧ win5_1.index t = ![0, (grid5.coords t 1).val]
    ∧ win5_2.index t = ![(grid5.coords t 0).val, (grid5.coords t 1).val] :=
  (by decide +kernel : ∀ t : Fin grid5.N, _)
theorem point5 (t : Fin cfg5.N) (y) : k5_pay1 (F := Ideal) (iblk5 V c 0 t) (iblk5 V c 1 t) y
    = Ttimes (V c main_arg2) (V c main_arg5) (((cfg5.win 2).blk t).view.emb y) := by
  pointwise [k5_pay1, Ttimes]
  blk_point [iblk5, idx5 t]
theorem whole_dw_ukv : (dat5 (F := Ideal) V c).arrAt 2 cfg5.N = Ttimes (V c main_arg2) (V c main_arg5) := by
  refine (dat5 (F := Ideal) V c).arrAt_eq_of_covers 2 _ (by decide +kernel) fun t _ y => ?_
  blk_simp
  rw [after5_2]; frame_out
  exact point5 V c t y

end Cert.Proof.Up

end
-- ==== Proof.UpRun.lean ====
/-
  THE UP-PROJECTIONS' RUN: the six calls one after another leave the two products and their four gradients. Each call reads
  arguments only, and no later call touches what it leaves.
-/
module

public import proofs.«01_k».proof.Proof.UpValue

@[expose] public section

set_option maxRecDepth 16384

noncomputable section

namespace Cert.Proof.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.UpIdeal Cert.UpIdeal.Gen

local notation "𝕄" => MT nD τ sig Unit (Elt Ideal) ℕ (UR sig nD τ) ℕ

variable (m : (ℓ : Loc nD τ sig) → Buf (Elt Ideal) ℓ) (ρ : Dev nD → PrngReg)

/-! ## Where the results stand at the end -/

theorem end_q (c : Dev nD) : W6 m ρ c (Proc.devRef .tc main_v0) = times (m ((c : Thread nD τ).loc main_arg0)) (m ((c : Thread nD τ).loc main_arg1)) := by
  refine (W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans ((W1_arr m ρ c 2).trans ((whole_q (V0 m ρ) c).trans ?_))))))
  rw [show V0 m ρ c main_arg0 = _ from W0_args m ρ c main_arg0 (by decide),
    show V0 m ρ c main_arg1 = _ from W0_args m ρ c main_arg1 (by decide)]
theorem end_kv (c : Dev nD) : W6 m ρ c (Proc.devRef .tc main_v1) = times (m ((c : Thread nD τ).loc main_arg2)) (m ((c : Thread nD τ).loc main_arg3)) := by
  refine (W6_of m ρ c main_v1 (by decide +kernel)).trans ((W5_of m ρ c main_v1 (by decide +kernel)).trans ((W4_of m ρ c main_v1 (by decide +kernel)).trans ((W3_of m ρ c main_v1 (by decide +kernel)).trans ((W2_arr m ρ c 2).trans ((whole_kv (V1 m ρ) c).trans ?_)))))
  rw [show V1 m ρ c main_arg2 = _ from W1_args m ρ c main_arg2 (by decide),
    show V1 m ρ c main_arg3 = _ from W1_args m ρ c main_arg3 (by decide)]
theorem end_dcq (c : Dev nD) : W6 m ρ c (Proc.devRef .tc main_v2) = timesT (m ((c : Thread nD τ).loc main_arg4)) (m ((c : Thread nD τ).loc main_arg1)) := by
  refine (W6_of m ρ c main_v2 (by decide +kernel)).trans ((W5_of m ρ c main_v2 (by decide +kernel)).trans ((W4_of m ρ c main_v2 (by decide +kernel)).trans ((W3_arr m ρ c 2).trans ((whole_dcq (V2 m ρ) c).trans ?_))))
  rw [show V2 m ρ c main_arg4 = _ from W2_args m ρ c main_arg4 (by decide),
    show V2 m ρ c main_arg1 = _ from W2_args m ρ c main_arg1 (by decide)]
theorem end_dw_uq (c : Dev nD) : W6 m ρ c (Proc.devRef .tc main_v3) = Ttimes (m ((c : Thread nD τ).loc main_arg0)) (m ((c : Thread nD τ).loc main_arg4)) := by
  refine (W6_of m ρ c main_v3 (by decide +kernel)).trans ((W5_of m ρ c main_v3 (by decide +kernel)).trans ((W4_arr m ρ c 2).trans ((whole_dw_uq (V3 m ρ) c).trans ?_)))
  rw [show V3 m ρ c main_arg0 = _ from W3_args m ρ c main_arg0 (by decide),
    show V3 m ρ c main_arg4 = _ from W3_args m ρ c main_arg4 (by decide)]
theorem end_dckv (c : Dev nD) : W6 m ρ c (Proc.devRef .tc main_v4) = timesT (m ((c : Thread nD τ).loc main_arg5)) (m ((c : Thread nD τ).loc main_arg3)) := by
  refine (W6_of m ρ c main_v4 (by decide +kernel)).trans ((W5_arr m ρ c 2).trans ((whole_dckv (V4 m ρ) c).trans ?_))
  rw [show V4 m ρ c main_arg5 = _ from W4_args m ρ c main_arg5 (by decide),
    show V4 m ρ c main_arg3 = _ from W4_args m ρ c main_arg3 (by decide)]
theorem end_dw_ukv (c : Dev nD) : W6 m ρ c (Proc.devRef .tc main_v5) = Ttimes (m ((c : Thread nD τ).loc main_arg2)) (m ((c : Thread nD τ).loc main_arg5)) := by
  refine (W6_arr m ρ c 2).trans ((whole_dw_ukv (V5 m ρ) c).trans ?_)
  rw [show V5 m ρ c main_arg2 = _ from W5_args m ρ c main_arg2 (by decide),
    show V5 m ρ c main_arg5 = _ from W5_args m ρ c main_arg5 (by decide)]

/-! ## The launch -/

-- the launch theorem's implicit arguments are found by unifying its conclusion with this one
set_option backward.isDefEq.respectTransparency.types false in
/-- Every execution ends with every buffer of the program at its contents after the last call. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- THE RUN: the two products and their four gradients, the arguments as launched. -/
theorem run : θ_run defs (onTc (τ := τ) (main (F := Ideal))) ⟨m, fun _ => 0, ρ⟩ (fun r => ∀ c : Dev nD,
      r.2.mem ((c.tc : Thread nD τ).loc main_v0) = times (m ((c.tc : Thread nD τ).loc main_arg0)) (m ((c.tc : Thread nD τ).loc main_arg1))
      ∧ r.2.mem ((c.tc : Thread nD τ).loc main_v1) = times (m ((c.tc : Thread nD τ).loc main_arg2)) (m ((c.tc : Thread nD τ).loc main_arg3))
      ∧ r.2.mem ((c.tc : Thread nD τ).loc main_v2) = timesT (m ((c.tc : Thread nD τ).loc main_arg4)) (m ((c.tc : Thread nD τ).loc main_arg1))
      ∧ r.2.mem ((c.tc : Thread nD τ).loc main_v3) = Ttimes (m ((c.tc : Thread nD τ).loc main_arg0)) (m ((c.tc : Thread nD τ).loc main_arg4))
      ∧ r.2.mem ((c.tc : Thread nD τ).loc main_v4) = timesT (m ((c.tc : Thread nD τ).loc main_arg5)) (m ((c.tc : Thread nD τ).loc main_arg3))
      ∧ r.2.mem ((c.tc : Thread nD τ).loc main_v5) = Ttimes (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v0 (by decide))).trans (end_q m ρ c),
     (h c _ (mem_uc main_v1 (by decide))).trans (end_kv m ρ c),
     (h c _ (mem_uc main_v2 (by decide))).trans (end_dcq m ρ c),
     (h c _ (mem_uc main_v3 (by decide))).trans (end_dw_uq m ρ c),
     (h c _ (mem_uc main_v4 (by decide))).trans (end_dckv m ρ c),
     (h c _ (mem_uc main_v5 (by decide))).trans (end_dw_ukv m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩)
    (ends m ρ)

end Cert.Proof.Up

end
-- ==== Proof.UpMeet.lean ====
/-
  THE UP-PROJECTIONS' CLAIM: the plain program's two products and their four gradients are the sums of `Products`, and the
  kernel's six calls leave those, so both end with the same results.
-/
module

public import proofs.«01_k».proof.Defs
public import proofs.«01_k».proof.Proof.UpRun
public import proofs.«01_k».proof.Proof.Gen.UpReferenceIdeal.Run
public import proofs.«01_k».proof.Proof.Gen.UpReferenceIdeal.Read
public import Idealize.ShloMosaic.Lib.Quiescent

@[expose] public section

set_option maxRecDepth 16384

noncomputable section

namespace Cert.Proof.Up

open Idealize.ShloMosaic Idealize.SL.Sem Cert.UpReferenceIdeal Cert.UpReferenceIdeal.Read

/-- The plain program runs and leaves its arguments; it has no semaphore. -/
theorem frame_reference : Cert.quiescent_UpReferenceIdeal := fun m ρ _ =>
  (θ_run Cert.UpReferenceIdeal.defs _ _).mono (fun r h => ⟨fun c => (h c).2.2.2.2.2.2, sem_eq_zero_of_no_sems (by decide) r.2⟩)
    (Cert.UpReferenceIdeal.Value.run (F := Ideal) m ρ)

variable (cq : Mat 4096 256) (wq : Mat 256 768) (ckv : Mat 4096 128) (wkv : Mat 128 1024) (dq : Mat 4096 768) (dkv : Mat 4096 1024)

theorem ref_q : val_main_v4 (F := Ideal) cq wq = times cq wq := by
  funext i
  rw [val_main_v4_apply]
  exact Finset.sum_congr rfl fun k _ => congrArg₂ (· * ·) (at_ix2 cq rfl rfl) (at_ix2 wq rfl rfl)
theorem ref_kv : val_main_v5 (F := Ideal) ckv wkv = times ckv wkv := by
  funext i
  rw [val_main_v5_apply]
  exact Finset.sum_congr rfl fun k _ => congrArg₂ (· * ·) (at_ix2 ckv rfl rfl) (at_ix2 wkv rfl rfl)
theorem ref_dcq : val_main_v13 (F := Ideal) wq dq = timesT dq wq := by
  funext i
  rw [val_main_v13_apply]
  exact Finset.sum_congr rfl fun k _ => congrArg₂ (· * ·) (at_ix2 dq rfl rfl) (at_ix2 wq rfl rfl)
theorem ref_dwq : val_main_v12 (F := Ideal) cq dq = Ttimes cq dq := by
  funext i
  rw [val_main_v12_apply, val_main_v11_apply]
  exact Finset.sum_congr rfl fun k _ => (mul_comm _ _).trans (congrArg₂ (· * ·) (at_ix2 cq rfl rfl) (at_ix2 dq rfl rfl))
theorem ref_dckv : val_main_v10 (F := Ideal) wkv dkv = timesT dkv wkv := by
  funext i
  rw [val_main_v10_apply]
  exact Finset.sum_congr rfl fun k _ => congrArg₂ (· * ·) (at_ix2 dkv rfl rfl) (at_ix2 wkv rfl rfl)
theorem ref_dwkv : val_main_v9 (F := Ideal) ckv dkv = Ttimes ckv dkv := by
  funext i
  rw [val_main_v9_apply, val_main_v8_apply]
  exact Finset.sum_congr rfl fun k _ => (mul_comm _ _).trans (congrArg₂ (· * ·) (at_ix2 ckv rfl rfl) (at_ix2 dkv rfl rfl))

/-- The two up-projections and their four gradients are the plain program's. -/
theorem products : Cert.algebraic_UpIdeal_UpReferenceIdeal := by
  intro m ρ m' ρ' _ args
  have e0 (c) := (args c).1
  have e1 (c) := (args c).2.1
  have e2 (c) := (args c).2.2.1
  have e3 (c) := (args c).2.2.2.1
  have e4 (c) := (args c).2.2.2.2.1
  have e5 (c) := (args c).2.2.2.2.2
  refine ⟨_, _, _, _, _, _, run m ρ, ?_⟩
  refine (θ_run Cert.UpReferenceIdeal.defs _ _).mono (fun r h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2⟩)
    (Cert.UpReferenceIdeal.Value.run (F := Ideal) m' ρ')
  · exact (val_main_v4_eq _ _).trans ((ref_q _ _).trans (congrArg₂ times (e0 c) (e1 c)))
  · exact (val_main_v5_eq _ _).trans ((ref_kv _ _).trans (congrArg₂ times (e2 c) (e3 c)))
  · exact (val_main_v13_eq _ _).trans ((ref_dcq _ _).trans (congrArg₂ timesT (e4 c) (e1 c)))
  · exact (val_main_v12_eq _ _).trans ((ref_dwq _ _).trans (congrArg₂ Ttimes (e0 c) (e4 c)))
  · exact (val_main_v10_eq _ _).trans ((ref_dckv _ _).trans (congrArg₂ timesT (e5 c) (e3 c)))
  · exact (val_main_v9_eq _ _).trans ((ref_dwkv _ _).trans (congrArg₂ Ttimes (e2 c) (e5 c)))

end Cert.Proof.Up

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MixerIdeal.Frame
public import proofs.«01_k».proof.Proof.Gen.Mixer.Frame
public import proofs.«01_k».proof.Proof.Gen.MixerReferenceIdeal.Run
public import proofs.«01_k».proof.Proof.Gen.MixerReferenceIdeal.Read
public import proofs.«01_k».proof.Proof.Gen.ProjectionIdeal.Frame
public import proofs.«01_k».proof.Proof.Gen.Projection.Frame
public import proofs.«01_k».proof.Proof.Gen.ProjectionReferenceIdeal.Run
public import proofs.«01_k».proof.Proof.Gen.ProjectionReferenceIdeal.Read
public import proofs.«01_k».proof.Proof.Gen.MergeIdeal.Frame
public import proofs.«01_k».proof.Proof.Gen.Merge.Frame
public import proofs.«01_k».proof.Proof.Gen.MergeReferenceIdeal.Run
public import proofs.«01_k».proof.Proof.Gen.MergeReferenceIdeal.Read
public import proofs.«01_k».proof.Proof.Gen.BranchesIdeal.Frame
public import proofs.«01_k».proof.Proof.Gen.Branches.Frame
public import proofs.«01_k».proof.Proof.Gen.BranchesReferenceIdeal.Run
public import proofs.«01_k».proof.Proof.Gen.BranchesReferenceIdeal.Read
public import proofs.«01_k».proof.Proof.Gen.GluIdeal.Frame
public import proofs.«01_k».proof.Proof.Gen.Glu.Frame
public import proofs.«01_k».proof.Proof.Gen.GluReferenceIdeal.Run
public import proofs.«01_k».proof.Proof.Gen.GluReferenceIdeal.Read
public import proofs.«01_k».proof.Proof.Gen.UpIdeal.Frame
public import proofs.«01_k».proof.Proof.Gen.Up.Frame
public import proofs.«01_k».proof.Proof.Gen.UpReferenceIdeal.Run
public import proofs.«01_k».proof.Proof.Gen.UpReferenceIdeal.Read
public import proofs.«01_k».proof.Proof.Meet
public import proofs.«01_k».proof.Proof.MixerMeet
public import proofs.«01_k».proof.Proof.ProjectionMeet
public import proofs.«01_k».proof.Proof.MergeMeet
public import proofs.«01_k».proof.Proof.BranchesMeet
public import proofs.«01_k».proof.Proof.GluMeet
public import proofs.«01_k».proof.Proof.UpMeet
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The plain program runs and leaves its arguments; it has no semaphore. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- Each named decay is the number its table gives. -/
theorem rewritten : Cert.preserves_Kernel_KernelIdeal :=
  ⟨IdealRules.named_const.statement Cert.KernelIdeal.κ "chunk_decay0" .f32 0x3C8CC36A#32 _ rfl,
    IdealRules.named_const.statement Cert.KernelIdeal.κ "chunk_decay1" .f32 0x3E08698E#32 _ rfl,
    IdealRules.named_const.statement Cert.KernelIdeal.κ "chunk_decay2" .f32 0x3EBB9DB9#32 _ rfl,
    IdealRules.named_const.statement Cert.KernelIdeal.κ "chunk_decay3" .f32 0x3F1B1EB1#32 _ rfl⟩

/-- The kernel's four gradients are the plain program's. -/
theorem gradients : Cert.algebraic_KernelIdeal_ReferenceIdeal := by
  intro m ρ m' ρ' _ args
  have e0 (c) := (args c).1
  have e1 (c) := (args c).2.1
  have e2 (c) := (args c).2.2.1
  have e3 (c) := (args c).2.2.2
  refine ⟨_, _, _, _, Cert.KernelIdeal.Value.run_blocks (F := Ideal) m ρ, ?_⟩
  refine (θ_run Cert.ReferenceIdeal.defs _ _).mono (fun r h c => ⟨(h c).1.trans ?_, (h c).2.1.trans ?_, (h c).2.2.1.trans ?_,
    (h c).2.2.2.1.trans ?_, (h c).2.2.2.2⟩) (Cert.ReferenceIdeal.Value.run (F := Ideal) m' ρ')
  · refine (Cert.ReferenceIdeal.Read.val_main_v554_eq _).trans (Eq.trans ?_ (Chunk.meet_dq m c).symm)
    exact congr (congr (congr (congrArg _ (e0 c)) (e1 c)) (e2 c)) (e3 c)
  · refine (Cert.ReferenceIdeal.Read.val_main_v553_eq _).trans (Eq.trans ?_ (Chunk.meet_dk m c).symm)
    exact congr (congr (congr (congrArg _ (e0 c)) (e1 c)) (e2 c)) (e3 c)
  · refine (Cert.ReferenceIdeal.Read.val_main_v555_eq _).trans (Eq.trans ?_ (Chunk.meet_dv m c).symm)
    exact congr (congr (congr (congrArg _ (e0 c)) (e1 c)) (e2 c)) (e3 c)
  · refine (Cert.ReferenceIdeal.Read.val_main_v556_eq _).trans (Eq.trans ?_ (Chunk.meet_dg m c).symm)
    exact congr (congr (congr (congrArg _ (e0 c)) (e1 c)) (e2 c)) (e3 c)

theorem claim : Cert.Claim := ⟨Cert.Kernel.Gen.facts, Cert.KernelIdeal.Gen.facts, Cert.ReferenceIdeal.Gen.facts,
  Cert.Mixer.Gen.facts, Cert.MixerIdeal.Gen.facts, Cert.MixerReferenceIdeal.Gen.facts,
  Cert.Projection.Gen.facts, Cert.ProjectionIdeal.Gen.facts, Cert.ProjectionReferenceIdeal.Gen.facts,
  Cert.Merge.Gen.facts, Cert.MergeIdeal.Gen.facts, Cert.MergeReferenceIdeal.Gen.facts,
  Cert.Branches.Gen.facts, Cert.BranchesIdeal.Gen.facts, Cert.BranchesReferenceIdeal.Gen.facts,
  Cert.Glu.Gen.facts, Cert.GluIdeal.Gen.facts, Cert.GluReferenceIdeal.Gen.facts,
  Cert.Up.Gen.facts, Cert.UpIdeal.Gen.facts, Cert.UpReferenceIdeal.Gen.facts,
  fun m ρ _ => Cert.Kernel.Gen.frame m ρ, fun m ρ _ => Cert.KernelIdeal.Gen.frame m ρ, frame_reference,
  fun m ρ _ => Cert.Mixer.Gen.frame m ρ, fun m ρ _ => Cert.MixerIdeal.Gen.frame m ρ, Mixer.frame_reference,
  fun m ρ _ => Cert.Projection.Gen.frame m ρ, fun m ρ _ => Cert.ProjectionIdeal.Gen.frame m ρ, Projection.frame_reference,
  fun m ρ _ => Cert.Merge.Gen.frame m ρ, fun m ρ _ => Cert.MergeIdeal.Gen.frame m ρ, Merge.frame_reference,
  fun m ρ _ => Cert.Branches.Gen.frame m ρ, fun m ρ _ => Cert.BranchesIdeal.Gen.frame m ρ, Branches.frame_reference,
  fun m ρ _ => Cert.Glu.Gen.frame m ρ, fun m ρ _ => Cert.GluIdeal.Gen.frame m ρ, Glu.frame_reference,
  fun m ρ _ => Cert.Up.Gen.frame m ρ, fun m ρ _ => Cert.UpIdeal.Gen.frame m ρ, Up.frame_reference,
  rewritten, gradients, trivial, Mixer.gradients, trivial, Projection.products, trivial, Merge.products,
  trivial, Branches.gradients, trivial, Glu.gradients, trivial, Up.products⟩

end Cert.Proof

end
